-- ==== Defs.lean ====
def Pre_Kernel (m : (ℓ : Loc Cert.Kernel.nD Cert.Kernel.τ Cert.Kernel.sig) → Buf (Elt Bits) ℓ) : Prop :=
  True

def Pre_Kernel_in_range [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_in_range [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_in_range [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel_in_range m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_in_range [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference_pre_in_range [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_in_range m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts) (hPre_in_range : Cert.Pre_in_range.Facts),
    quiescent_Kernel (hKernel := hKernel)
    ∧ quiescent_Kernel_pre_in_range (hKernel := hKernel) (hPre_in_range := hPre_in_range)
    ∧ quiescent_KernelIdeal (hKernelIdeal := hKernelIdeal)
    ∧ quiescent_KernelIdeal_pre_in_range (hKernelIdeal := hKernelIdeal) (hPre_in_range := hPre_in_range)
    ∧ quiescent_Reference (hReference := hReference)
    ∧ quiescent_Reference_pre_in_range (hReference := hReference) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
    ∧ bitexact_Kernel_Reference_pre_in_range (hKernel := hKernel) (hReference := hReference) (hPre_in_range := hPre_in_range)
-- ==== Pre_in_range.lean ====
abbrev S8x2048 : Shape := ⟨2, ![8, 2048]⟩
abbrev S8192x8192 : Shape := ⟨2, ![8192, 8192]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel

variable [Facts]

def fn {F : FTy → Type} [FloatOps F] (main_arg0 : IVec S8x2048 32) (main_arg1 : FVec F S8192x8192 .f32) : IVec S_ 1 :=
  let main_c : IVec S_ 32 := constantI S_ 32 0#32
  let main_v0 : IVec S8x2048 32 := broadcastInDim S8x2048 ![] bcast_S_S8x2048 main_c
  let main_v1 : IVec S8x2048 1 := cmpi .sge main_arg0 main_v0
  let main_c_0 : IVec S_ 32 := constantI S_ 32 8192#32
  let main_v2 : IVec S8x2048 32 := broadcastInDim S8x2048 ![] bcast_S_S8x2048 main_c_0
  let main_v3 : IVec S8x2048 1 := cmpi .slt main_arg0 main_v2
  let main_v4 : IVec S8x2048 1 := andi main_v1 main_v3
  let main_c_1 : IVec S_ 1 := constantI S_ 1 1#1
  let main_v5 : IVec S_ 1 := (fun x v => Host.reduce IntOp.andi x v reducesTo_S8x2048_S_d0_1 h_S_) main_v4 main_c_1
  main_v5
-- ==== Kernel.lean ====
abbrev S8x2048 : Shape := ⟨2, ![8, 2048]⟩
abbrev S8192x8192 : Shape := ⟨2, ![8192, 8192]⟩
abbrev S16384 : Shape := ⟨1, ![16384]⟩
abbrev S16384x8192 : Shape := ⟨2, ![16384, 8192]⟩
abbrev S16400 : Shape := ⟨1, ![16400]⟩
abbrev S16416 : Shape := ⟨1, ![16416]⟩
abbrev S80 : Shape := ⟨1, ![80]⟩
abbrev S4x8192 : Shape := ⟨2, ![4, 8192]⟩
abbrev S_ : Shape := ⟨0, ![]⟩
abbrev S16 : Shape := ⟨1, ![16]⟩
abbrev S1 : Shape := ⟨1, ![1]⟩
abbrev S1x8192 : Shape := ⟨2, ![1, 8192]⟩
abbrev S8x2048x8192 : Shape := ⟨3, ![8, 2048, 8192]⟩

abbrev nBuf : Table → Nat
  | .hbm => 5
  | .local .scVector .vmem => 6
  | _ => 0

abbrev bufTy : (tb : Table) → Fin (nBuf tb) → BufTy
  | .hbm, ⟨0, _⟩ => ⟨S8x2048, .i32⟩
  | .hbm, ⟨1, _⟩ => ⟨S8192x8192, .f32⟩
  | .hbm, ⟨2, _⟩ => ⟨S16384, .i32⟩
  | .hbm, ⟨3, _⟩ => ⟨S16384x8192, .f32⟩
  | .hbm, ⟨4, _⟩ => ⟨S8x2048x8192, .f32⟩
  | .local .scVector .vmem, ⟨0, _⟩ => ⟨S16400, .i32⟩
  | .local .scVector .vmem, ⟨1, _⟩ => ⟨S16416, .i32⟩
  | .local .scVector .vmem, ⟨2, _⟩ => ⟨S16416, .i32⟩
  | .local .scVector .vmem, ⟨3, _⟩ => ⟨S80, .i32⟩
  | .local .scVector .vmem, ⟨4, _⟩ => ⟨S4x8192, .f32⟩
  | .local .scVector .vmem, ⟨5, _⟩ => ⟨S4x8192, .f32⟩
  | _, _ => ⟨S8x2048, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_0 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v7 : BitVec 32 := Scalar.addi v2 c0_i32_0
  let c0_i32_1 : BitVec 32 := 0#32
  ![v7.toNat, 0]
@[reducible] def k0_t1_loop : Scf.Loop 32 :=
  let c0_i32_6 : BitVec 32 := 0#32
  let c1024_i32 : BitVec 32 := 1024#32
  let v13 : BitVec 32 := Scalar.addi c0_i32_6 c1024_i32
  let c1_i32_7 : BitVec 32 := 1#32
  ⟨c0_i32_6, v13, c1_i32_7⟩
def k0_off2 (k0_t1 : Fin k0_t1_loop.trips) : Fin 1 → Nat :=
  let c0_i32_47 : BitVec 32 := 0#32
  let c0_i32_6 : BitVec 32 := 0#32
  let c1_i32_7 : BitVec 32 := 1#32
  let arg15 : BitVec 32 := Scf.iv c0_i32_6 c1_i32_7 k0_t1
  let c1_i32_46 : BitVec 32 := 1#32
  let v55 : BitVec 32 := Scalar.muli arg15 c1_i32_46
  let v56 : BitVec 32 := Scalar.addi c0_i32_47 v55
  let c16_i32_48 : BitVec 32 := 16#32
  let v57 : BitVec 32 := Scalar.muli v56 c16_i32_48
  let v58 : Index := Scalar.indexCast v57
  ![v58.toNat]

def k0_chk1 (v80 : IVec S16 32) : Prop :=
  (∀ a x, ((![v80] : Fin 1 → IVec S16 32) a x).toNat < S16416.size a)
theorem k0_idx1_inb : ∀ (v80 : IVec S16 32) (k0_hw1 : k0_chk1 v80), ∀ a x, ((![v80] : Fin 1 → IVec S16 32) a x).toNat < S16416.size a := fun v80 k0_hw1 => k0_hw1
@[reducible] def k0_t2_loop : Scf.Loop 32 :=
  let c0_i32_9 : BitVec 32 := 0#32
  let c4_i32_10 : BitVec 32 := 4#32
  let v15 : BitVec 32 := Scalar.addi c0_i32_9 c4_i32_10
  let c1_i32_11 : BitVec 32 := 1#32
  ⟨c0_i32_9, v15, c1_i32_11⟩
def k0_off3 (k0_t2 : Fin k0_t2_loop.trips) : Fin 1 → Nat :=
  let c0_i32_47 : BitVec 32 := 0#32
  let c0_i32_9 : BitVec 32 := 0#32
  let c1_i32_11 : BitVec 32 := 1#32
  let arg15 : BitVec 32 := Scf.iv c0_i32_9 c1_i32_11 k0_t2
  let c1_i32_46 : BitVec 32 := 1#32
  let v55 : BitVec 32 := Scalar.muli arg15 c1_i32_46
  let v56 : BitVec 32 := Scalar.addi c0_i32_47 v55
  let c16_i32_49 : BitVec 32 := 16#32
  let v58 : BitVec 32 := Scalar.muli v56 c16_i32_49
  let v59 : Index := Scalar.indexCast v58
  ![v59.toNat]
@[reducible] def k0_t3_loop (v14 : BitVec 32) : Scf.Loop 32 :=
  let c0_i32_25 : BitVec 32 := 0#32
  let c15_i32 : BitVec 32 := 15#32
  let v16 : BitVec 32 := Scalar.addi v14 c15_i32
  let c0_i32_13 : BitVec 32 := 0#32
  let v18 : BitVec 1 := Scalar.cmpi .sgt v16 c0_i32_13
  let v19 : BitVec 32 := Scalar.extui v18
  let c0_i32_14 : BitVec 32 := 0#32
  let v20 : BitVec 1 := Scalar.cmpi .slt v16 c0_i32_14
  let v21 : BitVec 32 := Scalar.extui v20
  let v22 : BitVec 32 := Scalar.subi v19 v21
  let c16_i32 : BitVec 32 := 16#32
  let c0_i32_15 : BitVec 32 := 0#32
  let v23 : BitVec 1 := Scalar.cmpi .sgt c16_i32 c0_i32_15
  let v24 : BitVec 32 := Scalar.extui v23
  let c0_i32_16 : BitVec 32 := 0#32
  let v25 : BitVec 1 := Scalar.cmpi .slt c16_i32 c0_i32_16
  let v26 : BitVec 32 := Scalar.extui v25
  let v27 : BitVec 32 := Scalar.subi v24 v26
  let v28 : BitVec 1 := Scalar.cmpi .ne v22 v27
  let v29 : BitVec 32 := Scalar.remsi v16 c16_i32
  let c0_i32_17 : BitVec 32 := 0#32
  let v30 : BitVec 1 := Scalar.cmpi .ne v29 c0_i32_17
  let v31 : BitVec 1 := Scalar.andi v28 v30
  let v17 : BitVec 32 := Scalar.divsi v16 c16_i32
  let c1_i32_18 : BitVec 32 := 1#32
  let v32 : BitVec 32 := Scalar.subi v17 c1_i32_18
  let v33 : BitVec 32 := Scalar.select v31 v32 v17
  let c0_i32_19 : BitVec 32 := 0#32
  let v34 : BitVec 32 := Scalar.subi v33 c0_i32_19
  let c1_i32_20 : BitVec 32 := 1#32
  let c1_i32_21 : BitVec 32 := 1#32
  let v35 : BitVec 32 := Scalar.subi c1_i32_20 c1_i32_21
  let v36 : BitVec 32 := Scalar.addi v34 v35
  let c1_i32_22 : BitVec 32 := 1#32
  let v37 : BitVec 32 := Scalar.divsi v36 c1_i32_22
  let v38 : BitVec 32 := Scalar.subi v37 c0_i32_25
  let c1_i32_26 : BitVec 32 := 1#32
  let v40 : BitVec 32 := Scalar.divsi v38 c1_i32_26
  let v41 : BitVec 32 := Scalar.muli v40 c1_i32_26
  let v42 : BitVec 32 := Scalar.addi c0_i32_25 v41
  let c1_i32_27 : BitVec 32 := 1#32
  ⟨c0_i32_25, v42, c1_i32_27⟩

def k0_off4 (v14 : BitVec 32) (k0_t3 : Fin (k0_t3_loop v14).trips) : Fin 1 → Nat :=
  let c0_i32_24 : BitVec 32 := 0#32
  let c0_i32_25 : BitVec 32 := 0#32
  let c1_i32_27 : BitVec 32 := 1#32
  let arg15 : BitVec 32 := Scf.iv c0_i32_25 c1_i32_27 k0_t3
  let c1_i32_23 : BitVec 32 := 1#32
  let v55 : BitVec 32 := Scalar.muli arg15 c1_i32_23
  let v56 : BitVec 32 := Scalar.addi c0_i32_24 v55
  let c16_i32_47 : BitVec 32 := 16#32
  let v62 : BitVec 32 := Scalar.muli v56 c16_i32_47
  let v63 : Index := Scalar.indexCast v62
  ![v63.toNat]

def k0_chk3 (v118 : IVec S16 32) : Prop :=
  (∀ a x, ((![v118] : Fin 1 → IVec S16 32) a x).toNat < S80.size a)
theorem k0_idx2_inb : ∀ (v118 : IVec S16 32) (k0_hw3 : k0_chk3 v118), ∀ a x, ((![v118] : Fin 1 → IVec S16 32) a x).toNat < S80.size a := fun v118 k0_hw3 => k0_hw3
@[reducible] def k0_t4_loop (v14 : BitVec 32) : Scf.Loop 32 :=
  let c0_i32_25 : BitVec 32 := 0#32
  let c15_i32 : BitVec 32 := 15#32
  let v16 : BitVec 32 := Scalar.addi v14 c15_i32
  let c0_i32_13 : BitVec 32 := 0#32
  let v18 : BitVec 1 := Scalar.cmpi .sgt v16 c0_i32_13
  let v19 : BitVec 32 := Scalar.extui v18
  let c0_i32_14 : BitVec 32 := 0#32
  let v20 : BitVec 1 := Scalar.cmpi .slt v16 c0_i32_14
  let v21 : BitVec 32 := Scalar.extui v20
  let v22 : BitVec 32 := Scalar.subi v19 v21
  let c16_i32 : BitVec 32 := 16#32
  let c0_i32_15 : BitVec 32 := 0#32
  let v23 : BitVec 1 := Scalar.cmpi .sgt c16_i32 c0_i32_15
  let v24 : BitVec 32 := Scalar.extui v23
  let c0_i32_16 : BitVec 32 := 0#32
  let v25 : BitVec 1 := Scalar.cmpi .slt c16_i32 c0_i32_16
  let v26 : BitVec 32 := Scalar.extui v25
  let v27 : BitVec 32 := Scalar.subi v24 v26
  let v28 : BitVec 1 := Scalar.cmpi .ne v22 v27
  let v29 : BitVec 32 := Scalar.remsi v16 c16_i32
  let c0_i32_17 : BitVec 32 := 0#32
  let v30 : BitVec 1 := Scalar.cmpi .ne v29 c0_i32_17
  let v31 : BitVec 1 := Scalar.andi v28 v30
  let v17 : BitVec 32 := Scalar.divsi v16 c16_i32
  let c1_i32_18 : BitVec 32 := 1#32
  let v32 : BitVec 32 := Scalar.subi v17 c1_i32_18
  let v33 : BitVec 32 := Scalar.select v31 v32 v17
  let c0_i32_19 : BitVec 32 := 0#32
  let v34 : BitVec 32 := Scalar.subi v33 c0_i32_19
  let c1_i32_20 : BitVec 32 := 1#32
  let c1_i32_21 : BitVec 32 := 1#32
  let v35 : BitVec 32 := Scalar.subi c1_i32_20 c1_i32_21
  let v36 : BitVec 32 := Scalar.addi v34 v35
  let c1_i32_22 : BitVec 32 := 1#32
  let v37 : BitVec 32 := Scalar.divsi v36 c1_i32_22
  let v38 : BitVec 32 := Scalar.subi v37 c0_i32_25
  let c1_i32_26 : BitVec 32 := 1#32
  let v40 : BitVec 32 := Scalar.divsi v38 c1_i32_26
  let v41 : BitVec 32 := Scalar.muli v40 c1_i32_26
  let v42 : BitVec 32 := Scalar.addi c0_i32_25 v41
  let v39 : BitVec 32 := Scalar.addi c0_i32_25 v38
  let c1_i32_28 : BitVec 32 := 1#32
  ⟨v42, v39, c1_i32_28⟩
def k0_off5 (v14 : BitVec 32) (k0_t4 : Fin (k0_t4_loop v14).trips) : Fin 1 → Nat :=
  let c0_i32_24 : BitVec 32 := 0#32
  let c0_i32_25 : BitVec 32 := 0#32
  let c15_i32 : BitVec 32 := 15#32
  let v16 : BitVec 32 := Scalar.addi v14 c15_i32
  let c0_i32_13 : BitVec 32 := 0#32
  let v18 : BitVec 1 := Scalar.cmpi .sgt v16 c0_i32_13
  let v19 : BitVec 32 := Scalar.extui v18
  let c0_i32_14 : BitVec 32 := 0#32
  let v20 : BitVec 1 := Scalar.cmpi .slt v16 c0_i32_14
  let v21 : BitVec 32 := Scalar.extui v20
  let v22 : BitVec 32 := Scalar.subi v19 v21
  let c16_i32 : BitVec 32 := 16#32
  let c0_i32_15 : BitVec 32 := 0#32
  let v23 : BitVec 1 := Scalar.cmpi .sgt c16_i32 c0_i32_15
  let v24 : BitVec 32 := Scalar.extui v23
  let c0_i32_16 : BitVec 32 := 0#32
  let v25 : BitVec 1 := Scalar.cmpi .slt c16_i32 c0_i32_16
  let v26 : BitVec 32 := Scalar.extui v25
  let v27 : BitVec 32 := Scalar.subi v24 v26
  let v28 : BitVec 1 := Scalar.cmpi .ne v22 v27
  let v29 : BitVec 32 := Scalar.remsi v16 c16_i32
  let c0_i32_17 : BitVec 32 := 0#32
  let v30 : BitVec 1 := Scalar.cmpi .ne v29 c0_i32_17
  let v31 : BitVec 1 := Scalar.andi v28 v30
  let v17 : BitVec 32 := Scalar.divsi v16 c16_i32
  let c1_i32_18 : BitVec 32 := 1#32
  let v32 : BitVec 32 := Scalar.subi v17 c1_i32_18
  let v33 : BitVec 32 := Scalar.select v31 v32 v17
  let c0_i32_19 : BitVec 32 := 0#32
  let v34 : BitVec 32 := Scalar.subi v33 c0_i32_19
  let c1_i32_20 : BitVec 32 := 1#32
  let c1_i32_21 : BitVec 32 := 1#32
  let v35 : BitVec 32 := Scalar.subi c1_i32_20 c1_i32_21
  let v36 : BitVec 32 := Scalar.addi v34 v35
  let c1_i32_22 : BitVec 32 := 1#32
  let v37 : BitVec 32 := Scalar.divsi v36 c1_i32_22
  let v38 : BitVec 32 := Scalar.subi v37 c0_i32_25
  let c1_i32_26 : BitVec 32 := 1#32
  let v40 : BitVec 32 := Scalar.divsi v38 c1_i32_26
  let v41 : BitVec 32 := Scalar.muli v40 c1_i32_26
  let v42 : BitVec 32 := Scalar.addi c0_i32_25 v41
  let c1_i32_28 : BitVec 32 := 1#32
  let arg15 : BitVec 32 := Scf.iv v42 c1_i32_28 k0_t4
  let c1_i32_23 : BitVec 32 := 1#32
  let v55 : BitVec 32 := Scalar.muli arg15 c1_i32_23
  let v56 : BitVec 32 := Scalar.addi c0_i32_24 v55
  let c16_i32_47 : BitVec 32 := 16#32
  let v62 : BitVec 32 := Scalar.muli v56 c16_i32_47
  let v63 : Index := Scalar.indexCast v62
  ![v63.toNat]

def k0_chk4 (v118 : IVec S16 32) : Prop :=
  (∀ a x, ((![v118] : Fin 1 → IVec S16 32) a x).toNat < S80.size a)
theorem k0_idx3_inb : ∀ (v118 : IVec S16 32) (k0_hw4 : k0_chk4 v118), ∀ a x, ((![v118] : Fin 1 → IVec S16 32) a x).toNat < S80.size a := fun v118 k0_hw4 => k0_hw4
@[reducible] def k0_t5_loop : Scf.Loop 32 :=
  let c0_i32_29 : BitVec 32 := 0#32
  let c64_i32 : BitVec 32 := 64#32
  let v43 : BitVec 32 := Scalar.addi c0_i32_29 c64_i32
  let c1_i32_30 : BitVec 32 := 1#32
  ⟨c0_i32_29, v43, c1_i32_30⟩
def k0_off6 (k0_t5 : Fin k0_t5_loop.trips) : Fin 1 → Nat :=
  let c0_i32_47 : BitVec 32 := 0#32
  let c0_i32_29 : BitVec 32 := 0#32
  let c1_i32_30 : BitVec 32 := 1#32
  let arg15 : BitVec 32 := Scf.iv c0_i32_29 c1_i32_30 k0_t5
  let c1_i32_46 : BitVec 32 := 1#32
  let v55 : BitVec 32 := Scalar.muli arg15 c1_i32_46
  let v56 : BitVec 32 := Scalar.addi c0_i32_47 v55
  let v57 : Index := Scalar.indexCast v56
  ![v57.toNat]
def k0_off7 (k0_t5 : Fin k0_t5_loop.trips) : Fin 1 → Nat :=
  let c0_i32_47 : BitVec 32 := 0#32
  let c0_i32_29 : BitVec 32 := 0#32
  let c1_i32_30 : BitVec 32 := 1#32
  let arg15 : BitVec 32 := Scf.iv c0_i32_29 c1_i32_30 k0_t5
  let c1_i32_46 : BitVec 32 := 1#32
  let v55 : BitVec 32 := Scalar.muli arg15 c1_i32_46
  let v56 : BitVec 32 := Scalar.addi c0_i32_47 v55
  let c1_i32_48 : BitVec 32 := 1#32
  let v59 : BitVec 32 := Scalar.addi v56 c1_i32_48
  let v60 : Index := Scalar.indexCast v59
  ![v60.toNat]

def k0_chk5 (v67 : IVec S16 32) : Prop :=
  (∀ a x, ((![v67] : Fin 1 → IVec S16 32) a x).toNat < S80.size a)
theorem k0_idx4_inb : ∀ (v67 : IVec S16 32) (k0_hw5 : k0_chk5 v67), ∀ a x, ((![v67] : Fin 1 → IVec S16 32) a x).toNat < S80.size a := fun v67 k0_hw5 => k0_hw5
@[reducible] def k0_t6_loop (v14 : BitVec 32) : Scf.Loop 32 :=
  let c0_i32_38 : BitVec 32 := 0#32
  let c0_i32_32 : BitVec 32 := 0#32
  let v44 : BitVec 32 := Scalar.subi v14 c0_i32_32
  let c1_i32_33 : BitVec 32 := 1#32
  let c1_i32_34 : BitVec 32 := 1#32
  let v45 : BitVec 32 := Scalar.subi c1_i32_33 c1_i32_34
  let v46 : BitVec 32 := Scalar.addi v44 v45
  let c1_i32_35 : BitVec 32 := 1#32
  let v47 : BitVec 32 := Scalar.divsi v46 c1_i32_35
  let v48 : BitVec 32 := Scalar.subi v47 c0_i32_38
  let c1_i32_39 : BitVec 32 := 1#32
  let v50 : BitVec 32 := Scalar.divsi v48 c1_i32_39
  let v51 : BitVec 32 := Scalar.muli v50 c1_i32_39
  let v52 : BitVec 32 := Scalar.addi c0_i32_38 v51
  let c1_i32_40 : BitVec 32 := 1#32
  ⟨c0_i32_38, v52, c1_i32_40⟩
def k0_off8 (v14 : BitVec 32) (k0_t6 : Fin (k0_t6_loop v14).trips) : Fin 1 → Nat :=
  let c0_i32_37 : BitVec 32 := 0#32
  let c0_i32_38 : BitVec 32 := 0#32
  let c1_i32_40 : BitVec 32 := 1#32
  let arg15 : BitVec 32 := Scf.iv c0_i32_38 c1_i32_40 k0_t6
  let c1_i32_36 : BitVec 32 := 1#32
  let v55 : BitVec 32 := Scalar.muli arg15 c1_i32_36
  let v56 : BitVec 32 := Scalar.addi c0_i32_37 v55
  let v57 : Index := Scalar.indexCast v56
  ![v57.toNat]
def k0_off9 (i : grid0.Coords) (v60 : BitVec 32) : Fin 1 → Nat :=
  let c0_i32_46 : BitVec 32 := 0#32
  let v62 : BitVec 1 := Scalar.cmpi .sgt v60 c0_i32_46
  let v63 : BitVec 32 := Scalar.extui v62
  let c0_i32_47 : BitVec 32 := 0#32
  let v64 : BitVec 1 := Scalar.cmpi .slt v60 c0_i32_47
  let v65 : BitVec 32 := Scalar.extui v64
  let v66 : BitVec 32 := Scalar.subi v63 v65
  let c16384_i32 : BitVec 32 := 16384#32
  let c0_i32_48 : BitVec 32 := 0#32
  let v67 : BitVec 1 := Scalar.cmpi .sgt c16384_i32 c0_i32_48
  let v68 : BitVec 32 := Scalar.extui v67
  let c0_i32_49 : BitVec 32 := 0#32
  let v69 : BitVec 1 := Scalar.cmpi .slt c16384_i32 c0_i32_49
  let v70 : BitVec 32 := Scalar.extui v69
  let v71 : BitVec 32 := Scalar.subi v68 v70
  let v72 : BitVec 1 := Scalar.cmpi .ne v66 v71
  let v73 : BitVec 32 := Scalar.remsi v60 c16384_i32
  let c0_i32_50 : BitVec 32 := 0#32
  let v74 : BitVec 1 := Scalar.cmpi .ne v73 c0_i32_50
  let v75 : BitVec 1 := Scalar.andi v72 v74
  let v61 : BitVec 32 := Scalar.divsi v60 c16384_i32
  let c1_i32_51 : BitVec 32 := 1#32
  let v76 : BitVec 32 := Scalar.subi v61 c1_i32_51
  let v77 : BitVec 32 := Scalar.select v75 v76 v61
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v78 : BitVec 32 := Scalar.subi v77 v2
  let c0_i32_53 : BitVec 32 := 0#32
  let v80 : BitVec 1 := Scalar.cmpi .sgt v78 c0_i32_53
  let v81 : BitVec 32 := Scalar.extui v80
  let c0_i32_54 : BitVec 32 := 0#32
  let v82 : BitVec 1 := Scalar.cmpi .slt v78 c0_i32_54
  let v83 : BitVec 32 := Scalar.extui v82
  let v84 : BitVec 32 := Scalar.subi v81 v83
  let c4_i32_52 : BitVec 32 := 4#32
  let c0_i32_55 : BitVec 32 := 0#32
  let v85 : BitVec 1 := Scalar.cmpi .sgt c4_i32_52 c0_i32_55
  let v86 : BitVec 32 := Scalar.extui v85
  let c0_i32_56 : BitVec 32 := 0#32
  let v87 : BitVec 1 := Scalar.cmpi .slt c4_i32_52 c0_i32_56
  let v88 : BitVec 32 := Scalar.extui v87
  let v89 : BitVec 32 := Scalar.subi v86 v88
  let v90 : BitVec 1 := Scalar.cmpi .ne v84 v89
  let v91 : BitVec 32 := Scalar.remsi v78 c4_i32_52
  let c0_i32_57 : BitVec 32 := 0#32
  let v92 : BitVec 1 := Scalar.cmpi .ne v91 c0_i32_57
  let v93 : BitVec 1 := Scalar.andi v90 v92
  let v79 : BitVec 32 := Scalar.divsi v78 c4_i32_52
  let c1_i32_58 : BitVec 32 := 1#32
  let v94 : BitVec 32 := Scalar.subi v79 c1_i32_58
  let v95 : BitVec 32 := Scalar.select v93 v94 v79
  let v96 : Index := Scalar.indexCast v95
  ![v96.toNat]

def k0_chk6 (i : grid0.Coords) (v60 : BitVec 32) : Prop :=
  (∀ a, (k0_off9 i v60) a + S16.size a ≤ S80.size a)
theorem k0_off9_inb : ∀ (i : grid0.Coords) (v60 : BitVec 32) (k0_hw6 : k0_chk6 i v60), ∀ a, (k0_off9 i v60) a + S16.size a ≤ S80.size a := fun i v60 k0_hw6 => k0_hw6

def k0_chk7 (v100 : IVec S16 32) : Prop :=
  (∀ a x, ((![v100] : Fin 1 → IVec S16 32) a x).toNat < S16416.size a)
theorem k0_idx5_inb : ∀ (v100 : IVec S16 32) (k0_hw7 : k0_chk7 v100), ∀ a x, ((![v100] : Fin 1 → IVec S16 32) a x).toNat < S16416.size a := fun v100 k0_hw7 => k0_hw7

def k0_chk8 (v103 : IVec S16 32) : Prop :=
  (∀ a x, ((![v103] : Fin 1 → IVec S16 32) a x).toNat < S80.size a)
theorem k0_idx6_inb : ∀ (v103 : IVec S16 32) (k0_hw8 : k0_chk8 v103), ∀ a x, ((![v103] : Fin 1 → IVec S16 32) a x).toNat < S80.size a := fun v103 k0_hw8 => k0_hw8
@[reducible] def k0_t7_loop (v14 : BitVec 32) : Scf.Loop 32 :=
  let c0_i32_38 : BitVec 32 := 0#32
  let c0_i32_32 : BitVec 32 := 0#32
  let v44 : BitVec 32 := Scalar.subi v14 c0_i32_32
  let c1_i32_33 : BitVec 32 := 1#32
  let c1_i32_34 : BitVec 32 := 1#32
  let v45 : BitVec 32 := Scalar.subi c1_i32_33 c1_i32_34
  let v46 : BitVec 32 := Scalar.addi v44 v45
  let c1_i32_35 : BitVec 32 := 1#32
  let v47 : BitVec 32 := Scalar.divsi v46 c1_i32_35
  let v48 : BitVec 32 := Scalar.subi v47 c0_i32_38
  let c1_i32_39 : BitVec 32 := 1#32
  let v50 : BitVec 32 := Scalar.divsi v48 c1_i32_39
  let v51 : BitVec 32 := Scalar.muli v50 c1_i32_39
  let v52 : BitVec 32 := Scalar.addi c0_i32_38 v51
  let v49 : BitVec 32 := Scalar.addi c0_i32_38 v48
  let c1_i32_41 : BitVec 32 := 1#32
  ⟨v52, v49, c1_i32_41⟩
def k0_off10 (v14 : BitVec 32) (k0_t7 : Fin (k0_t7_loop v14).trips) : Fin 1 → Nat :=
  let c0_i32_37 : BitVec 32 := 0#32
  let c0_i32_38 : BitVec 32 := 0#32
  let c0_i32_32 : BitVec 32 := 0#32
  let v44 : BitVec 32 := Scalar.subi v14 c0_i32_32
  let c1_i32_33 : BitVec 32 := 1#32
  let c1_i32_34 : BitVec 32 := 1#32
  let v45 : BitVec 32 := Scalar.subi c1_i32_33 c1_i32_34
  let v46 : BitVec 32 := Scalar.addi v44 v45
  let c1_i32_35 : BitVec 32 := 1#32
  let v47 : BitVec 32 := Scalar.divsi v46 c1_i32_35
  let v48 : BitVec 32 := Scalar.subi v47 c0_i32_38
  let c1_i32_39 : BitVec 32 := 1#32
  let v50 : BitVec 32 := Scalar.divsi v48 c1_i32_39
  let v51 : BitVec 32 := Scalar.muli v50 c1_i32_39
  let v52 : BitVec 32 := Scalar.addi c0_i32_38 v51
  let c1_i32_41 : BitVec 32 := 1#32
  let arg15 : BitVec 32 := Scf.iv v52 c1_i32_41 k0_t7
  let c1_i32_36 : BitVec 32 := 1#32
  let v55 : BitVec 32 := Scalar.muli arg15 c1_i32_36
  let v56 : BitVec 32 := Scalar.addi c0_i32_37 v55
  let v57 : Index := Scalar.indexCast v56
  ![v57.toNat]

def k0_chk2 (v14 : BitVec 32) : Prop :=
  ((k0_t3_loop v14).OK) ∧
  (∀ k0_t3 : Fin (k0_t3_loop v14).trips, ∀ a, (k0_off4 v14 k0_t3) a + S16.size a ≤ S16416.size a) ∧
  ((k0_t4_loop v14).OK) ∧
  (∀ k0_t4 : Fin (k0_t4_loop v14).trips, ∀ a, (k0_off5 v14 k0_t4) a + S16.size a ≤ S16416.size a) ∧
  ((k0_t6_loop v14).OK) ∧
  (∀ k0_t6 : Fin (k0_t6_loop v14).trips, ∀ a, (k0_off8 v14 k0_t6) a + S16.size a ≤ S16416.size a) ∧
  ((k0_t7_loop v14).OK) ∧
  (∀ k0_t7 : Fin (k0_t7_loop v14).trips, ∀ a, (k0_off10 v14 k0_t7) a + S16.size a ≤ S16416.size a)
theorem k0_t3_ok : ∀ (v14 : BitVec 32) (k0_hw2 : k0_chk2 v14), (k0_t3_loop v14).OK := fun v14 k0_hw2 => k0_hw2.1
theorem k0_off4_inb : ∀ (v14 : BitVec 32) (k0_hw2 : k0_chk2 v14) (k0_t3 : Fin (k0_t3_loop v14).trips), ∀ a, (k0_off4 v14 k0_t3) a + S16.size a ≤ S16416.size a := fun v14 k0_hw2 k0_t3 => k0_hw2.2.1 k0_t3
theorem k0_t4_ok : ∀ (v14 : BitVec 32) (k0_hw2 : k0_chk2 v14), (k0_t4_loop v14).OK := fun v14 k0_hw2 => k0_hw2.2.2.1
theorem k0_off5_inb : ∀ (v14 : BitVec 32) (k0_hw2 : k0_chk2 v14) (k0_t4 : Fin (k0_t4_loop v14).trips), ∀ a, (k0_off5 v14 k0_t4) a + S16.size a ≤ S16416.size a := fun v14 k0_hw2 k0_t4 => k0_hw2.2.2.2.1 k0_t4
theorem k0_t6_ok : ∀ (v14 : BitVec 32) (k0_hw2 : k0_chk2 v14), (k0_t6_loop v14).OK := fun v14 k0_hw2 => k0_hw2.2.2.2.2.1
theorem k0_off8_inb : ∀ (v14 : BitVec 32) (k0_hw2 : k0_chk2 v14) (k0_t6 : Fin (k0_t6_loop v14).trips), ∀ a, (k0_off8 v14 k0_t6) a + S16.size a ≤ S16416.size a := fun v14 k0_hw2 k0_t6 => k0_hw2.2.2.2.2.2.1 k0_t6
theorem k0_t7_ok : ∀ (v14 : BitVec 32) (k0_hw2 : k0_chk2 v14), (k0_t7_loop v14).OK := fun v14 k0_hw2 => k0_hw2.2.2.2.2.2.2.1
theorem k0_off10_inb : ∀ (v14 : BitVec 32) (k0_hw2 : k0_chk2 v14) (k0_t7 : Fin (k0_t7_loop v14).trips), ∀ a, (k0_off10 v14 k0_t7) a + S16.size a ≤ S16416.size a := fun v14 k0_hw2 k0_t7 => k0_hw2.2.2.2.2.2.2.2 k0_t7

def k0_off11 (i : grid0.Coords) (v60 : BitVec 32) : Fin 1 → Nat :=
  let c0_i32_46 : BitVec 32 := 0#32
  let v62 : BitVec 1 := Scalar.cmpi .sgt v60 c0_i32_46
  let v63 : BitVec 32 := Scalar.extui v62
  let c0_i32_47 : BitVec 32 := 0#32
  let v64 : BitVec 1 := Scalar.cmpi .slt v60 c0_i32_47
  let v65 : BitVec 32 := Scalar.extui v64
  let v66 : BitVec 32 := Scalar.subi v63 v65
  let c16384_i32 : BitVec 32 := 16384#32
  let c0_i32_48 : BitVec 32 := 0#32
  let v67 : BitVec 1 := Scalar.cmpi .sgt c16384_i32 c0_i32_48
  let v68 : BitVec 32 := Scalar.extui v67
  let c0_i32_49 : BitVec 32 := 0#32
  let v69 : BitVec 1 := Scalar.cmpi .slt c16384_i32 c0_i32_49
  let v70 : BitVec 32 := Scalar.extui v69
  let v71 : BitVec 32 := Scalar.subi v68 v70
  let v72 : BitVec 1 := Scalar.cmpi .ne v66 v71
  let v73 : BitVec 32 := Scalar.remsi v60 c16384_i32
  let c0_i32_50 : BitVec 32 := 0#32
  let v74 : BitVec 1 := Scalar.cmpi .ne v73 c0_i32_50
  let v75 : BitVec 1 := Scalar.andi v72 v74
  let v61 : BitVec 32 := Scalar.divsi v60 c16384_i32
  let c1_i32_51 : BitVec 32 := 1#32
  let v76 : BitVec 32 := Scalar.subi v61 c1_i32_51
  let v77 : BitVec 32 := Scalar.select v75 v76 v61
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v78 : BitVec 32 := Scalar.subi v77 v2
  let c0_i32_53 : BitVec 32 := 0#32
  let v80 : BitVec 1 := Scalar.cmpi .sgt v78 c0_i32_53
  let v81 : BitVec 32 := Scalar.extui v80
  let c0_i32_54 : BitVec 32 := 0#32
  let v82 : BitVec 1 := Scalar.cmpi .slt v78 c0_i32_54
  let v83 : BitVec 32 := Scalar.extui v82
  let v84 : BitVec 32 := Scalar.subi v81 v83
  let c4_i32_52 : BitVec 32 := 4#32
  let c0_i32_55 : BitVec 32 := 0#32
  let v85 : BitVec 1 := Scalar.cmpi .sgt c4_i32_52 c0_i32_55
  let v86 : BitVec 32 := Scalar.extui v85
  let c0_i32_56 : BitVec 32 := 0#32
  let v87 : BitVec 1 := Scalar.cmpi .slt c4_i32_52 c0_i32_56
  let v88 : BitVec 32 := Scalar.extui v87
  let v89 : BitVec 32 := Scalar.subi v86 v88
  let v90 : BitVec 1 := Scalar.cmpi .ne v84 v89
  let v91 : BitVec 32 := Scalar.remsi v78 c4_i32_52
  let c0_i32_57 : BitVec 32 := 0#32
  let v92 : BitVec 1 := Scalar.cmpi .ne v91 c0_i32_57
  let v93 : BitVec 1 := Scalar.andi v90 v92
  let v79 : BitVec 32 := Scalar.divsi v78 c4_i32_52
  let c1_i32_58 : BitVec 32 := 1#32
  let v94 : BitVec 32 := Scalar.subi v79 c1_i32_58
  let v95 : BitVec 32 := Scalar.select v93 v94 v79
  let v96 : Index := Scalar.indexCast v95
  ![v96.toNat]

def k0_chk9 (i : grid0.Coords) (v60 : BitVec 32) : Prop :=
  (∀ a, (k0_off11 i v60) a + S16.size a ≤ S80.size a)
theorem k0_off11_inb : ∀ (i : grid0.Coords) (v60 : BitVec 32) (k0_hw9 : k0_chk9 i v60), ∀ a, (k0_off11 i v60) a + S16.size a ≤ S80.size a := fun i v60 k0_hw9 => k0_hw9

def k0_chk10 (v100 : IVec S16 32) : Prop :=
  (∀ a x, ((![v100] : Fin 1 → IVec S16 32) a x).toNat < S16416.size a)
theorem k0_idx7_inb : ∀ (v100 : IVec S16 32) (k0_hw10 : k0_chk10 v100), ∀ a x, ((![v100] : Fin 1 → IVec S16 32) a x).toNat < S16416.size a := fun v100 k0_hw10 => k0_hw10

def k0_chk11 (v103 : IVec S16 32) : Prop :=
  (∀ a x, ((![v103] : Fin 1 → IVec S16 32) a x).toNat < S80.size a)
theorem k0_idx8_inb : ∀ (v103 : IVec S16 32) (k0_hw11 : k0_chk11 v103), ∀ a x, ((![v103] : Fin 1 → IVec S16 32) a x).toNat < S80.size a := fun v103 k0_hw11 => k0_hw11
@[reducible] def k0_t8_loop : Scf.Loop 32 :=
  let c0_i32_43 : BitVec 32 := 0#32
  let c32_i32 : BitVec 32 := 32#32
  let v53 : BitVec 32 := Scalar.addi c0_i32_43 c32_i32
  let c1_i32_44 : BitVec 32 := 1#32
  ⟨c0_i32_43, v53, c1_i32_44⟩
def k0_off12 (i : grid0.Coords) (k0_t8 : Fin k0_t8_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_47 : BitVec 32 := 0#32
  let c0_i32_43 : BitVec 32 := 0#32
  let c1_i32_44 : BitVec 32 := 1#32
  let arg15 : BitVec 32 := Scf.iv c0_i32_43 c1_i32_44 k0_t8
  let c2_i32_46 : BitVec 32 := 2#32
  let v55 : BitVec 32 := Scalar.muli arg15 c2_i32_46
  let v56 : BitVec 32 := Scalar.addi c0_i32_47 v55
  let c0_i32_48 : BitVec 32 := 0#32
  let v57 : BitVec 32 := Scalar.addi v56 c0_i32_48
  let c4_i32_49 : BitVec 32 := 4#32
  let v58 : BitVec 32 := Scalar.muli v57 c4_i32_49
  let v59 : BitVec 32 := Scalar.addi v2 v58
  let c0_i32_50 : BitVec 32 := 0#32
  ![v59.toNat, 0]
def k0_off13 (k0_t8 : Fin k0_t8_loop.trips) : Fin 1 → Nat :=
  let c0_i32_47 : BitVec 32 := 0#32
  let c0_i32_43 : BitVec 32 := 0#32
  let c1_i32_44 : BitVec 32 := 1#32
  let arg15 : BitVec 32 := Scf.iv c0_i32_43 c1_i32_44 k0_t8
  let c2_i32_46 : BitVec 32 := 2#32
  let v55 : BitVec 32 := Scalar.muli arg15 c2_i32_46
  let v56 : BitVec 32 := Scalar.addi c0_i32_47 v55
  let c0_i32_48 : BitVec 32 := 0#32
  let v57 : BitVec 32 := Scalar.addi v56 c0_i32_48
  let v62 : Index := Scalar.indexCast v57
  ![v62.toNat]
@[reducible] def k0_t9_loop (arg16 : BitVec 32) (v65 : BitVec 32) : Scf.Loop 32 :=
  let c0_i32_56 : BitVec 32 := 0#32
  let v66 : BitVec 32 := Scalar.subi v65 arg16
  let c1_i32_52 : BitVec 32 := 1#32
  let c1_i32_53 : BitVec 32 := 1#32
  let v67 : BitVec 32 := Scalar.subi c1_i32_52 c1_i32_53
  let v68 : BitVec 32 := Scalar.addi v66 v67
  let c1_i32_54 : BitVec 32 := 1#32
  let v69 : BitVec 32 := Scalar.divsi v68 c1_i32_54
  let v70 : BitVec 32 := Scalar.subi v69 c0_i32_56
  let c1_i32_57 : BitVec 32 := 1#32
  let v72 : BitVec 32 := Scalar.divsi v70 c1_i32_57
  let v73 : BitVec 32 := Scalar.muli v72 c1_i32_57
  let v74 : BitVec 32 := Scalar.addi c0_i32_56 v73
  let c1_i32_58 : BitVec 32 := 1#32
  ⟨c0_i32_56, v74, c1_i32_58⟩

def k0_off14 (arg16 : BitVec 32) (v65 : BitVec 32) (k0_t9 : Fin (k0_t9_loop arg16 v65).trips) : Fin 1 → Nat :=
  let c0_i32_56 : BitVec 32 := 0#32
  let c1_i32_58 : BitVec 32 := 1#32
  let arg17 : BitVec 32 := Scf.iv c0_i32_56 c1_i32_58 k0_t9
  let c1_i32_55 : BitVec 32 := 1#32
  let v119 : BitVec 32 := Scalar.muli arg17 c1_i32_55
  let v120 : BitVec 32 := Scalar.addi arg16 v119
  let v121 : Index := Scalar.indexCast v120
  ![v121.toNat]
def k0_off15 (i : grid0.Coords) (k0_t8 : Fin k0_t8_loop.trips) (v124 : BitVec 32) : Fin 2 → Nat :=
  let c0_i32_100 : BitVec 32 := 0#32
  let v136 : BitVec 1 := Scalar.cmpi .sgt v124 c0_i32_100
  let v137 : BitVec 32 := Scalar.extui v136
  let c0_i32_101 : BitVec 32 := 0#32
  let v138 : BitVec 1 := Scalar.cmpi .slt v124 c0_i32_101
  let v139 : BitVec 32 := Scalar.extui v138
  let v140 : BitVec 32 := Scalar.subi v137 v139
  let c16384_i32_99 : BitVec 32 := 16384#32
  let c0_i32_102 : BitVec 32 := 0#32
  let v141 : BitVec 1 := Scalar.cmpi .sgt c16384_i32_99 c0_i32_102
  let v142 : BitVec 32 := Scalar.extui v141
  let c0_i32_103 : BitVec 32 := 0#32
  let v143 : BitVec 1 := Scalar.cmpi .slt c16384_i32_99 c0_i32_103
  let v144 : BitVec 32 := Scalar.extui v143
  let v145 : BitVec 32 := Scalar.subi v142 v144
  let v146 : BitVec 1 := Scalar.cmpi .ne v140 v145
  let v147 : BitVec 32 := Scalar.remsi v124 c16384_i32_99
  let c0_i32_104 : BitVec 32 := 0#32
  let v148 : BitVec 1 := Scalar.cmpi .ne v147 c0_i32_104
  let v149 : BitVec 1 := Scalar.andi v146 v148
  let v135 : BitVec 32 := Scalar.divsi v124 c16384_i32_99
  let c1_i32_105 : BitVec 32 := 1#32
  let v150 : BitVec 32 := Scalar.subi v135 c1_i32_105
  let v151 : BitVec 32 := Scalar.select v149 v150 v135
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_47 : BitVec 32 := 0#32
  let c0_i32_43 : BitVec 32 := 0#32
  let c1_i32_44 : BitVec 32 := 1#32
  let arg15 : BitVec 32 := Scf.iv c0_i32_43 c1_i32_44 k0_t8
  let c2_i32_46 : BitVec 32 := 2#32
  let v55 : BitVec 32 := Scalar.muli arg15 c2_i32_46
  let v56 : BitVec 32 := Scalar.addi c0_i32_47 v55
  let c0_i32_48 : BitVec 32 := 0#32
  let v57 : BitVec 32 := Scalar.addi v56 c0_i32_48
  let c4_i32_106 : BitVec 32 := 4#32
  let v152 : BitVec 32 := Scalar.muli v57 c4_i32_106
  let v153 : BitVec 32 := Scalar.addi v2 v152
  let v154 : BitVec 32 := Scalar.subi v151 v153
  let c0_i32_107 : BitVec 32 := 0#32
  ![v154.toNat, 0]

def k0_off16 (v124 : BitVec 32) : Fin 2 → Nat :=
  let c16384_i32 : BitVec 32 := 16384#32
  let c0_i32_94 : BitVec 32 := 0#32
  let v125 : BitVec 1 := Scalar.cmpi .eq c16384_i32 c0_i32_94
  let c1_i32_95 : BitVec 32 := 1#32
  let v126 : BitVec 32 := Scalar.select v125 c1_i32_95 c16384_i32
  let v127 : BitVec 32 := Scalar.remsi v124 v126
  let c0_i32_97 : BitVec 32 := 0#32
  let v129 : BitVec 1 := Scalar.cmpi .slt v127 c0_i32_97
  let c0_i32_98 : BitVec 32 := 0#32
  let v130 : BitVec 1 := Scalar.cmpi .slt v126 c0_i32_98
  let v131 : BitVec 1 := Scalar.xori v129 v130
  let c0_i32_96 : BitVec 32 := 0#32
  let v128 : BitVec 1 := Scalar.cmpi .ne v127 c0_i32_96
  let v132 : BitVec 1 := Scalar.andi v131 v128
  let v133 : BitVec 32 := Scalar.addi v127 v126
  let v134 : BitVec 32 := Scalar.select v132 v133 v127
  let c0_i32_108 : BitVec 32 := 0#32
  ![v134.toNat, 0]

def k0_chk13 (i : grid0.Coords) (k0_t8 : Fin k0_t8_loop.trips) (v124 : BitVec 32) : Prop :=
  (∀ a, (k0_off15 i k0_t8 v124) a + S1x8192.size a ≤ S4x8192.size a) ∧
  (∀ a, (k0_off16 v124) a + S1x8192.size a ≤ S16384x8192.size a)
theorem k0_off15_inb : ∀ (i : grid0.Coords) (k0_t8 : Fin k0_t8_loop.trips) (v124 : BitVec 32) (k0_hw13 : k0_chk13 i k0_t8 v124), ∀ a, (k0_off15 i k0_t8 v124) a + S1x8192.size a ≤ S4x8192.size a := fun i k0_t8 v124 k0_hw13 => k0_hw13.1
theorem k0_off16_inb : ∀ (i : grid0.Coords) (k0_t8 : Fin k0_t8_loop.trips) (v124 : BitVec 32) (k0_hw13 : k0_chk13 i k0_t8 v124), ∀ a, (k0_off16 v124) a + S1x8192.size a ≤ S16384x8192.size a := fun i k0_t8 v124 k0_hw13 => k0_hw13.2

@[reducible] def k0_t10_loop (arg16 : BitVec 32) (v65 : BitVec 32) : Scf.Loop 32 :=
  let c0_i32_56 : BitVec 32 := 0#32
  let v66 : BitVec 32 := Scalar.subi v65 arg16
  let c1_i32_52 : BitVec 32 := 1#32
  let c1_i32_53 : BitVec 32 := 1#32
  let v67 : BitVec 32 := Scalar.subi c1_i32_52 c1_i32_53
  let v68 : BitVec 32 := Scalar.addi v66 v67
  let c1_i32_54 : BitVec 32 := 1#32
  let v69 : BitVec 32 := Scalar.divsi v68 c1_i32_54
  let v70 : BitVec 32 := Scalar.subi v69 c0_i32_56
  let c1_i32_57 : BitVec 32 := 1#32
  let v72 : BitVec 32 := Scalar.divsi v70 c1_i32_57
  let v73 : BitVec 32 := Scalar.muli v72 c1_i32_57
  let v74 : BitVec 32 := Scalar.addi c0_i32_56 v73
  let v71 : BitVec 32 := Scalar.addi c0_i32_56 v70
  let c1_i32_59 : BitVec 32 := 1#32
  ⟨v74, v71, c1_i32_59⟩
def k0_off17 (arg16 : BitVec 32) (v65 : BitVec 32) (k0_t10 : Fin (k0_t10_loop arg16 v65).trips) : Fin 1 → Nat :=
  let c0_i32_56 : BitVec 32 := 0#32
  let v66 : BitVec 32 := Scalar.subi v65 arg16
  let c1_i32_52 : BitVec 32 := 1#32
  let c1_i32_53 : BitVec 32 := 1#32
  let v67 : BitVec 32 := Scalar.subi c1_i32_52 c1_i32_53
  let v68 : BitVec 32 := Scalar.addi v66 v67
  let c1_i32_54 : BitVec 32 := 1#32
  let v69 : BitVec 32 := Scalar.divsi v68 c1_i32_54
  let v70 : BitVec 32 := Scalar.subi v69 c0_i32_56
  let c1_i32_57 : BitVec 32 := 1#32
  let v72 : BitVec 32 := Scalar.divsi v70 c1_i32_57
  let v73 : BitVec 32 := Scalar.muli v72 c1_i32_57
  let v74 : BitVec 32 := Scalar.addi c0_i32_56 v73
  let c1_i32_59 : BitVec 32 := 1#32
  let arg17 : BitVec 32 := Scf.iv v74 c1_i32_59 k0_t10
  let c1_i32_55 : BitVec 32 := 1#32
  let v119 : BitVec 32 := Scalar.muli arg17 c1_i32_55
  let v120 : BitVec 32 := Scalar.addi arg16 v119
  let v121 : Index := Scalar.indexCast v120
  ![v121.toNat]
def k0_off18 (i : grid0.Coords) (k0_t8 : Fin k0_t8_loop.trips) (v124 : BitVec 32) : Fin 2 → Nat :=
  let c0_i32_100 : BitVec 32 := 0#32
  let v136 : BitVec 1 := Scalar.cmpi .sgt v124 c0_i32_100
  let v137 : BitVec 32 := Scalar.extui v136
  let c0_i32_101 : BitVec 32 := 0#32
  let v138 : BitVec 1 := Scalar.cmpi .slt v124 c0_i32_101
  let v139 : BitVec 32 := Scalar.extui v138
  let v140 : BitVec 32 := Scalar.subi v137 v139
  let c16384_i32_99 : BitVec 32 := 16384#32
  let c0_i32_102 : BitVec 32 := 0#32
  let v141 : BitVec 1 := Scalar.cmpi .sgt c16384_i32_99 c0_i32_102
  let v142 : BitVec 32 := Scalar.extui v141
  let c0_i32_103 : BitVec 32 := 0#32
  let v143 : BitVec 1 := Scalar.cmpi .slt c16384_i32_99 c0_i32_103
  let v144 : BitVec 32 := Scalar.extui v143
  let v145 : BitVec 32 := Scalar.subi v142 v144
  let v146 : BitVec 1 := Scalar.cmpi .ne v140 v145
  let v147 : BitVec 32 := Scalar.remsi v124 c16384_i32_99
  let c0_i32_104 : BitVec 32 := 0#32
  let v148 : BitVec 1 := Scalar.cmpi .ne v147 c0_i32_104
  let v149 : BitVec 1 := Scalar.andi v146 v148
  let v135 : BitVec 32 := Scalar.divsi v124 c16384_i32_99
  let c1_i32_105 : BitVec 32 := 1#32
  let v150 : BitVec 32 := Scalar.subi v135 c1_i32_105
  let v151 : BitVec 32 := Scalar.select v149 v150 v135
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_47 : BitVec 32 := 0#32
  let c0_i32_43 : BitVec 32 := 0#32
  let c1_i32_44 : BitVec 32 := 1#32
  let arg15 : BitVec 32 := Scf.iv c0_i32_43 c1_i32_44 k0_t8
  let c2_i32_46 : BitVec 32 := 2#32
  let v55 : BitVec 32 := Scalar.muli arg15 c2_i32_46
  let v56 : BitVec 32 := Scalar.addi c0_i32_47 v55
  let c0_i32_48 : BitVec 32 := 0#32
  let v57 : BitVec 32 := Scalar.addi v56 c0_i32_48
  let c4_i32_106 : BitVec 32 := 4#32
  let v152 : BitVec 32 := Scalar.muli v57 c4_i32_106
  let v153 : BitVec 32 := Scalar.addi v2 v152
  let v154 : BitVec 32 := Scalar.subi v151 v153
  let c0_i32_107 : BitVec 32 := 0#32
  ![v154.toNat, 0]

def k0_off19 (v124 : BitVec 32) : Fin 2 → Nat :=
  let c16384_i32 : BitVec 32 := 16384#32
  let c0_i32_94 : BitVec 32 := 0#32
  let v125 : BitVec 1 := Scalar.cmpi .eq c16384_i32 c0_i32_94
  let c1_i32_95 : BitVec 32 := 1#32
  let v126 : BitVec 32 := Scalar.select v125 c1_i32_95 c16384_i32
  let v127 : BitVec 32 := Scalar.remsi v124 v126
  let c0_i32_97 : BitVec 32 := 0#32
  let v129 : BitVec 1 := Scalar.cmpi .slt v127 c0_i32_97
  let c0_i32_98 : BitVec 32 := 0#32
  let v130 : BitVec 1 := Scalar.cmpi .slt v126 c0_i32_98
  let v131 : BitVec 1 := Scalar.xori v129 v130
  let c0_i32_96 : BitVec 32 := 0#32
  let v128 : BitVec 1 := Scalar.cmpi .ne v127 c0_i32_96
  let v132 : BitVec 1 := Scalar.andi v131 v128
  let v133 : BitVec 32 := Scalar.addi v127 v126
  let v134 : BitVec 32 := Scalar.select v132 v133 v127
  let c0_i32_108 : BitVec 32 := 0#32
  ![v134.toNat, 0]

def k0_chk14 (i : grid0.Coords) (k0_t8 : Fin k0_t8_loop.trips) (v124 : BitVec 32) : Prop :=
  (∀ a, (k0_off18 i k0_t8 v124) a + S1x8192.size a ≤ S4x8192.size a) ∧
  (∀ a, (k0_off19 v124) a + S1x8192.size a ≤ S16384x8192.size a)
theorem k0_off18_inb : ∀ (i : grid0.Coords) (k0_t8 : Fin k0_t8_loop.trips) (v124 : BitVec 32) (k0_hw14 : k0_chk14 i k0_t8 v124), ∀ a, (k0_off18 i k0_t8 v124) a + S1x8192.size a ≤ S4x8192.size a := fun i k0_t8 v124 k0_hw14 => k0_hw14.1
theorem k0_off19_inb : ∀ (i : grid0.Coords) (k0_t8 : Fin k0_t8_loop.trips) (v124 : BitVec 32) (k0_hw14 : k0_chk14 i k0_t8 v124), ∀ a, (k0_off19 v124) a + S1x8192.size a ≤ S16384x8192.size a := fun i k0_t8 v124 k0_hw14 => k0_hw14.2

@[reducible] def k0_t11_loop (arg16 : BitVec 32) (v65 : BitVec 32) : Scf.Loop 32 :=
  let c0_i32_64 : BitVec 32 := 0#32
  let v75 : BitVec 32 := Scalar.subi v65 arg16
  let c1_i32_60 : BitVec 32 := 1#32
  let c1_i32_61 : BitVec 32 := 1#32
  let v76 : BitVec 32 := Scalar.subi c1_i32_60 c1_i32_61
  let v77 : BitVec 32 := Scalar.addi v75 v76
  let c1_i32_62 : BitVec 32 := 1#32
  let v78 : BitVec 32 := Scalar.divsi v77 c1_i32_62
  let v79 : BitVec 32 := Scalar.subi v78 c0_i32_64
  let c1_i32_65 : BitVec 32 := 1#32
  let v81 : BitVec 32 := Scalar.divsi v79 c1_i32_65
  let v82 : BitVec 32 := Scalar.muli v81 c1_i32_65
  let v83 : BitVec 32 := Scalar.addi c0_i32_64 v82
  let c1_i32_66 : BitVec 32 := 1#32
  ⟨c0_i32_64, v83, c1_i32_66⟩
@[reducible] def k0_t12_loop (arg16 : BitVec 32) (v65 : BitVec 32) : Scf.Loop 32 :=
  let c0_i32_64 : BitVec 32 := 0#32
  let v75 : BitVec 32 := Scalar.subi v65 arg16
  let c1_i32_60 : BitVec 32 := 1#32
  let c1_i32_61 : BitVec 32 := 1#32
  let v76 : BitVec 32 := Scalar.subi c1_i32_60 c1_i32_61
  let v77 : BitVec 32 := Scalar.addi v75 v76
  let c1_i32_62 : BitVec 32 := 1#32
  let v78 : BitVec 32 := Scalar.divsi v77 c1_i32_62
  let v79 : BitVec 32 := Scalar.subi v78 c0_i32_64
  let c1_i32_65 : BitVec 32 := 1#32
  let v81 : BitVec 32 := Scalar.divsi v79 c1_i32_65
  let v82 : BitVec 32 := Scalar.muli v81 c1_i32_65
  let v83 : BitVec 32 := Scalar.addi c0_i32_64 v82
  let v80 : BitVec 32 := Scalar.addi c0_i32_64 v79
  let c1_i32_67 : BitVec 32 := 1#32
  ⟨v83, v80, c1_i32_67⟩

def k0_chk12 (arg16 : BitVec 32) (v65 : BitVec 32) : Prop :=
  ((k0_t9_loop arg16 v65).OK) ∧
  (∀ k0_t9 : Fin (k0_t9_loop arg16 v65).trips, ∀ a, (k0_off14 arg16 v65 k0_t9) a + S16.size a ≤ S16416.size a) ∧
  ((k0_t10_loop arg16 v65).OK) ∧
  (∀ k0_t10 : Fin (k0_t10_loop arg16 v65).trips, ∀ a, (k0_off17 arg16 v65 k0_t10) a + S16.size a ≤ S16416.size a) ∧
  ((k0_t11_loop arg16 v65).OK) ∧
  ((k0_t12_loop arg16 v65).OK)
theorem k0_t9_ok : ∀ (arg16 : BitVec 32) (v65 : BitVec 32) (k0_hw12 : k0_chk12 arg16 v65), (k0_t9_loop arg16 v65).OK := fun arg16 v65 k0_hw12 => k0_hw12.1
theorem k0_off14_inb : ∀ (arg16 : BitVec 32) (v65 : BitVec 32) (k0_hw12 : k0_chk12 arg16 v65) (k0_t9 : Fin (k0_t9_loop arg16 v65).trips), ∀ a, (k0_off14 arg16 v65 k0_t9) a + S16.size a ≤ S16416.size a := fun arg16 v65 k0_hw12 k0_t9 => k0_hw12.2.1 k0_t9
theorem k0_t10_ok : ∀ (arg16 : BitVec 32) (v65 : BitVec 32) (k0_hw12 : k0_chk12 arg16 v65), (k0_t10_loop arg16 v65).OK := fun arg16 v65 k0_hw12 => k0_hw12.2.2.1
theorem k0_off17_inb : ∀ (arg16 : BitVec 32) (v65 : BitVec 32) (k0_hw12 : k0_chk12 arg16 v65) (k0_t10 : Fin (k0_t10_loop arg16 v65).trips), ∀ a, (k0_off17 arg16 v65 k0_t10) a + S16.size a ≤ S16416.size a := fun arg16 v65 k0_hw12 k0_t10 => k0_hw12.2.2.2.1 k0_t10
theorem k0_t11_ok : ∀ (arg16 : BitVec 32) (v65 : BitVec 32) (k0_hw12 : k0_chk12 arg16 v65), (k0_t11_loop arg16 v65).OK := fun arg16 v65 k0_hw12 => k0_hw12.2.2.2.2.1
theorem k0_t12_ok : ∀ (arg16 : BitVec 32) (v65 : BitVec 32) (k0_hw12 : k0_chk12 arg16 v65), (k0_t12_loop arg16 v65).OK := fun arg16 v65 k0_hw12 => k0_hw12.2.2.2.2.2

def k0_cond1 (k0_t8 : Fin k0_t8_loop.trips) : BitVec 1 :=
  let c0_i32_47 : BitVec 32 := 0#32
  let c0_i32_43 : BitVec 32 := 0#32
  let c1_i32_44 : BitVec 32 := 1#32
  let arg15 : BitVec 32 := Scf.iv c0_i32_43 c1_i32_44 k0_t8
  let c2_i32_46 : BitVec 32 := 2#32
  let v55 : BitVec 32 := Scalar.muli arg15 c2_i32_46
  let v56 : BitVec 32 := Scalar.addi c0_i32_47 v55
  let c0_i32_48 : BitVec 32 := 0#32
  let v57 : BitVec 32 := Scalar.addi v56 c0_i32_48
  let c2_i32_68 : BitVec 32 := 2#32
  let v84 : BitVec 32 := Scalar.addi v57 c2_i32_68
  let c64_i32_69 : BitVec 32 := 64#32
  let v85 : BitVec 1 := Scalar.cmpi .slt v84 c64_i32_69
  let v86 : BitVec 32 := Scalar.extui v85
  let c0_i32_70 : BitVec 32 := 0#32
  let v87 : BitVec 1 := Scalar.cmpi .ne v86 c0_i32_70
  v87

def k0_off20 (i : grid0.Coords) (k0_t8 : Fin k0_t8_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_47 : BitVec 32 := 0#32
  let c0_i32_43 : BitVec 32 := 0#32
  let c1_i32_44 : BitVec 32 := 1#32
  let arg15 : BitVec 32 := Scf.iv c0_i32_43 c1_i32_44 k0_t8
  let c2_i32_46 : BitVec 32 := 2#32
  let v55 : BitVec 32 := Scalar.muli arg15 c2_i32_46
  let v56 : BitVec 32 := Scalar.addi c0_i32_47 v55
  let c0_i32_48 : BitVec 32 := 0#32
  let v57 : BitVec 32 := Scalar.addi v56 c0_i32_48
  let c2_i32_94 : BitVec 32 := 2#32
  let v119 : BitVec 32 := Scalar.addi v57 c2_i32_94
  let c4_i32_95 : BitVec 32 := 4#32
  let v120 : BitVec 32 := Scalar.muli v119 c4_i32_95
  let v121 : BitVec 32 := Scalar.addi v2 v120
  let c0_i32_96 : BitVec 32 := 0#32
  ![v121.toNat, 0]
def k0_off21 (i : grid0.Coords) (k0_t8 : Fin k0_t8_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_47 : BitVec 32 := 0#32
  let c0_i32_43 : BitVec 32 := 0#32
  let c1_i32_44 : BitVec 32 := 1#32
  let arg15 : BitVec 32 := Scf.iv c0_i32_43 c1_i32_44 k0_t8
  let c2_i32_46 : BitVec 32 := 2#32
  let v55 : BitVec 32 := Scalar.muli arg15 c2_i32_46
  let v56 : BitVec 32 := Scalar.addi c0_i32_47 v55
  let c1_i32_71 : BitVec 32 := 1#32
  let v88 : BitVec 32 := Scalar.addi v56 c1_i32_71
  let c4_i32_72 : BitVec 32 := 4#32
  let v89 : BitVec 32 := Scalar.muli v88 c4_i32_72
  let v90 : BitVec 32 := Scalar.addi v2 v89
  let c0_i32_73 : BitVec 32 := 0#32
  ![v90.toNat, 0]
def k0_off22 (k0_t8 : Fin k0_t8_loop.trips) : Fin 1 → Nat :=
  let c0_i32_47 : BitVec 32 := 0#32
  let c0_i32_43 : BitVec 32 := 0#32
  let c1_i32_44 : BitVec 32 := 1#32
  let arg15 : BitVec 32 := Scf.iv c0_i32_43 c1_i32_44 k0_t8
  let c2_i32_46 : BitVec 32 := 2#32
  let v55 : BitVec 32 := Scalar.muli arg15 c2_i32_46
  let v56 : BitVec 32 := Scalar.addi c0_i32_47 v55
  let c1_i32_71 : BitVec 32 := 1#32
  let v88 : BitVec 32 := Scalar.addi v56 c1_i32_71
  let v93 : Index := Scalar.indexCast v88
  ![v93.toNat]
@[reducible] def k0_t13_loop (v65 : BitVec 32) (v96 : BitVec 32) : Scf.Loop 32 :=
  let c0_i32_79 : BitVec 32 := 0#32
  let v97 : BitVec 32 := Scalar.subi v96 v65
  let c1_i32_75 : BitVec 32 := 1#32
  let c1_i32_76 : BitVec 32 := 1#32
  let v98 : BitVec 32 := Scalar.subi c1_i32_75 c1_i32_76
  let v99 : BitVec 32 := Scalar.addi v97 v98
  let c1_i32_77 : BitVec 32 := 1#32
  let v100 : BitVec 32 := Scalar.divsi v99 c1_i32_77
  let v101 : BitVec 32 := Scalar.subi v100 c0_i32_79
  let c1_i32_80 : BitVec 32 := 1#32
  let v103 : BitVec 32 := Scalar.divsi v101 c1_i32_80
  let v104 : BitVec 32 := Scalar.muli v103 c1_i32_80
  let v105 : BitVec 32 := Scalar.addi c0_i32_79 v104
  let c1_i32_81 : BitVec 32 := 1#32
  ⟨c0_i32_79, v105, c1_i32_81⟩

def k0_off23 (v65 : BitVec 32) (v96 : BitVec 32) (k0_t13 : Fin (k0_t13_loop v65 v96).trips) : Fin 1 → Nat :=
  let c0_i32_79 : BitVec 32 := 0#32
  let c1_i32_81 : BitVec 32 := 1#32
  let arg17 : BitVec 32 := Scf.iv c0_i32_79 c1_i32_81 k0_t13
  let c1_i32_78 : BitVec 32 := 1#32
  let v119 : BitVec 32 := Scalar.muli arg17 c1_i32_78
  let v120 : BitVec 32 := Scalar.addi v65 v119
  let v121 : Index := Scalar.indexCast v120
  ![v121.toNat]
def k0_off24 (i : grid0.Coords) (k0_t8 : Fin k0_t8_loop.trips) (v124 : BitVec 32) : Fin 2 → Nat :=
  let c0_i32_100 : BitVec 32 := 0#32
  let v136 : BitVec 1 := Scalar.cmpi .sgt v124 c0_i32_100
  let v137 : BitVec 32 := Scalar.extui v136
  let c0_i32_101 : BitVec 32 := 0#32
  let v138 : BitVec 1 := Scalar.cmpi .slt v124 c0_i32_101
  let v139 : BitVec 32 := Scalar.extui v138
  let v140 : BitVec 32 := Scalar.subi v137 v139
  let c16384_i32_99 : BitVec 32 := 16384#32
  let c0_i32_102 : BitVec 32 := 0#32
  let v141 : BitVec 1 := Scalar.cmpi .sgt c16384_i32_99 c0_i32_102
  let v142 : BitVec 32 := Scalar.extui v141
  let c0_i32_103 : BitVec 32 := 0#32
  let v143 : BitVec 1 := Scalar.cmpi .slt c16384_i32_99 c0_i32_103
  let v144 : BitVec 32 := Scalar.extui v143
  let v145 : BitVec 32 := Scalar.subi v142 v144
  let v146 : BitVec 1 := Scalar.cmpi .ne v140 v145
  let v147 : BitVec 32 := Scalar.remsi v124 c16384_i32_99
  let c0_i32_104 : BitVec 32 := 0#32
  let v148 : BitVec 1 := Scalar.cmpi .ne v147 c0_i32_104
  let v149 : BitVec 1 := Scalar.andi v146 v148
  let v135 : BitVec 32 := Scalar.divsi v124 c16384_i32_99
  let c1_i32_105 : BitVec 32 := 1#32
  let v150 : BitVec 32 := Scalar.subi v135 c1_i32_105
  let v151 : BitVec 32 := Scalar.select v149 v150 v135
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_47 : BitVec 32 := 0#32
  let c0_i32_43 : BitVec 32 := 0#32
  let c1_i32_44 : BitVec 32 := 1#32
  let arg15 : BitVec 32 := Scf.iv c0_i32_43 c1_i32_44 k0_t8
  let c2_i32_46 : BitVec 32 := 2#32
  let v55 : BitVec 32 := Scalar.muli arg15 c2_i32_46
  let v56 : BitVec 32 := Scalar.addi c0_i32_47 v55
  let c1_i32_71 : BitVec 32 := 1#32
  let v88 : BitVec 32 := Scalar.addi v56 c1_i32_71
  let c4_i32_106 : BitVec 32 := 4#32
  let v152 : BitVec 32 := Scalar.muli v88 c4_i32_106
  let v153 : BitVec 32 := Scalar.addi v2 v152
  let v154 : BitVec 32 := Scalar.subi v151 v153
  let c0_i32_107 : BitVec 32 := 0#32
  ![v154.toNat, 0]

def k0_off25 (v124 : BitVec 32) : Fin 2 → Nat :=
  let c16384_i32 : BitVec 32 := 16384#32
  let c0_i32_94 : BitVec 32 := 0#32
  let v125 : BitVec 1 := Scalar.cmpi .eq c16384_i32 c0_i32_94
  let c1_i32_95 : BitVec 32 := 1#32
  let v126 : BitVec 32 := Scalar.select v125 c1_i32_95 c16384_i32
  let v127 : BitVec 32 := Scalar.remsi v124 v126
  let c0_i32_97 : BitVec 32 := 0#32
  let v129 : BitVec 1 := Scalar.cmpi .slt v127 c0_i32_97
  let c0_i32_98 : BitVec 32 := 0#32
  let v130 : BitVec 1 := Scalar.cmpi .slt v126 c0_i32_98
  let v131 : BitVec 1 := Scalar.xori v129 v130
  let c0_i32_96 : BitVec 32 := 0#32
  let v128 : BitVec 1 := Scalar.cmpi .ne v127 c0_i32_96
  let v132 : BitVec 1 := Scalar.andi v131 v128
  let v133 : BitVec 32 := Scalar.addi v127 v126
  let v134 : BitVec 32 := Scalar.select v132 v133 v127
  let c0_i32_108 : BitVec 32 := 0#32
  ![v134.toNat, 0]

def k0_chk16 (i : grid0.Coords) (k0_t8 : Fin k0_t8_loop.trips) (v124 : BitVec 32) : Prop :=
  (∀ a, (k0_off24 i k0_t8 v124) a + S1x8192.size a ≤ S4x8192.size a) ∧
  (∀ a, (k0_off25 v124) a + S1x8192.size a ≤ S16384x8192.size a)
theorem k0_off24_inb : ∀ (i : grid0.Coords) (k0_t8 : Fin k0_t8_loop.trips) (v124 : BitVec 32) (k0_hw16 : k0_chk16 i k0_t8 v124), ∀ a, (k0_off24 i k0_t8 v124) a + S1x8192.size a ≤ S4x8192.size a := fun i k0_t8 v124 k0_hw16 => k0_hw16.1
theorem k0_off25_inb : ∀ (i : grid0.Coords) (k0_t8 : Fin k0_t8_loop.trips) (v124 : BitVec 32) (k0_hw16 : k0_chk16 i k0_t8 v124), ∀ a, (k0_off25 v124) a + S1x8192.size a ≤ S16384x8192.size a := fun i k0_t8 v124 k0_hw16 => k0_hw16.2

@[reducible] def k0_t14_loop (v65 : BitVec 32) (v96 : BitVec 32) : Scf.Loop 32 :=
  let c0_i32_79 : BitVec 32 := 0#32
  let v97 : BitVec 32 := Scalar.subi v96 v65
  let c1_i32_75 : BitVec 32 := 1#32
  let c1_i32_76 : BitVec 32 := 1#32
  let v98 : BitVec 32 := Scalar.subi c1_i32_75 c1_i32_76
  let v99 : BitVec 32 := Scalar.addi v97 v98
  let c1_i32_77 : BitVec 32 := 1#32
  let v100 : BitVec 32 := Scalar.divsi v99 c1_i32_77
  let v101 : BitVec 32 := Scalar.subi v100 c0_i32_79
  let c1_i32_80 : BitVec 32 := 1#32
  let v103 : BitVec 32 := Scalar.divsi v101 c1_i32_80
  let v104 : BitVec 32 := Scalar.muli v103 c1_i32_80
  let v105 : BitVec 32 := Scalar.addi c0_i32_79 v104
  let v102 : BitVec 32 := Scalar.addi c0_i32_79 v101
  let c1_i32_82 : BitVec 32 := 1#32
  ⟨v105, v102, c1_i32_82⟩
def k0_off26 (v65 : BitVec 32) (v96 : BitVec 32) (k0_t14 : Fin (k0_t14_loop v65 v96).trips) : Fin 1 → Nat :=
  let c0_i32_79 : BitVec 32 := 0#32
  let v97 : BitVec 32 := Scalar.subi v96 v65
  let c1_i32_75 : BitVec 32 := 1#32
  let c1_i32_76 : BitVec 32 := 1#32
  let v98 : BitVec 32 := Scalar.subi c1_i32_75 c1_i32_76
  let v99 : BitVec 32 := Scalar.addi v97 v98
  let c1_i32_77 : BitVec 32 := 1#32
  let v100 : BitVec 32 := Scalar.divsi v99 c1_i32_77
  let v101 : BitVec 32 := Scalar.subi v100 c0_i32_79
  let c1_i32_80 : BitVec 32 := 1#32
  let v103 : BitVec 32 := Scalar.divsi v101 c1_i32_80
  let v104 : BitVec 32 := Scalar.muli v103 c1_i32_80
  let v105 : BitVec 32 := Scalar.addi c0_i32_79 v104
  let c1_i32_82 : BitVec 32 := 1#32
  let arg17 : BitVec 32 := Scf.iv v105 c1_i32_82 k0_t14
  let c1_i32_78 : BitVec 32 := 1#32
  let v119 : BitVec 32 := Scalar.muli arg17 c1_i32_78
  let v120 : BitVec 32 := Scalar.addi v65 v119
  let v121 : Index := Scalar.indexCast v120
  ![v121.toNat]
def k0_off27 (i : grid0.Coords) (k0_t8 : Fin k0_t8_loop.trips) (v124 : BitVec 32) : Fin 2 → Nat :=
  let c0_i32_100 : BitVec 32 := 0#32
  let v136 : BitVec 1 := Scalar.cmpi .sgt v124 c0_i32_100
  let v137 : BitVec 32 := Scalar.extui v136
  let c0_i32_101 : BitVec 32 := 0#32
  let v138 : BitVec 1 := Scalar.cmpi .slt v124 c0_i32_101
  let v139 : BitVec 32 := Scalar.extui v138
  let v140 : BitVec 32 := Scalar.subi v137 v139
  let c16384_i32_99 : BitVec 32 := 16384#32
  let c0_i32_102 : BitVec 32 := 0#32
  let v141 : BitVec 1 := Scalar.cmpi .sgt c16384_i32_99 c0_i32_102
  let v142 : BitVec 32 := Scalar.extui v141
  let c0_i32_103 : BitVec 32 := 0#32
  let v143 : BitVec 1 := Scalar.cmpi .slt c16384_i32_99 c0_i32_103
  let v144 : BitVec 32 := Scalar.extui v143
  let v145 : BitVec 32 := Scalar.subi v142 v144
  let v146 : BitVec 1 := Scalar.cmpi .ne v140 v145
  let v147 : BitVec 32 := Scalar.remsi v124 c16384_i32_99
  let c0_i32_104 : BitVec 32 := 0#32
  let v148 : BitVec 1 := Scalar.cmpi .ne v147 c0_i32_104
  let v149 : BitVec 1 := Scalar.andi v146 v148
  let v135 : BitVec 32 := Scalar.divsi v124 c16384_i32_99
  let c1_i32_105 : BitVec 32 := 1#32
  let v150 : BitVec 32 := Scalar.subi v135 c1_i32_105
  let v151 : BitVec 32 := Scalar.select v149 v150 v135
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_47 : BitVec 32 := 0#32
  let c0_i32_43 : BitVec 32 := 0#32
  let c1_i32_44 : BitVec 32 := 1#32
  let arg15 : BitVec 32 := Scf.iv c0_i32_43 c1_i32_44 k0_t8
  let c2_i32_46 : BitVec 32 := 2#32
  let v55 : BitVec 32 := Scalar.muli arg15 c2_i32_46
  let v56 : BitVec 32 := Scalar.addi c0_i32_47 v55
  let c1_i32_71 : BitVec 32 := 1#32
  let v88 : BitVec 32 := Scalar.addi v56 c1_i32_71
  let c4_i32_106 : BitVec 32 := 4#32
  let v152 : BitVec 32 := Scalar.muli v88 c4_i32_106
  let v153 : BitVec 32 := Scalar.addi v2 v152
  let v154 : BitVec 32 := Scalar.subi v151 v153
  let c0_i32_107 : BitVec 32 := 0#32
  ![v154.toNat, 0]

def k0_off28 (v124 : BitVec 32) : Fin 2 → Nat :=
  let c16384_i32 : BitVec 32 := 16384#32
  let c0_i32_94 : BitVec 32 := 0#32
  let v125 : BitVec 1 := Scalar.cmpi .eq c16384_i32 c0_i32_94
  let c1_i32_95 : BitVec 32 := 1#32
  let v126 : BitVec 32 := Scalar.select v125 c1_i32_95 c16384_i32
  let v127 : BitVec 32 := Scalar.remsi v124 v126
  let c0_i32_97 : BitVec 32 := 0#32
  let v129 : BitVec 1 := Scalar.cmpi .slt v127 c0_i32_97
  let c0_i32_98 : BitVec 32 := 0#32
  let v130 : BitVec 1 := Scalar.cmpi .slt v126 c0_i32_98
  let v131 : BitVec 1 := Scalar.xori v129 v130
  let c0_i32_96 : BitVec 32 := 0#32
  let v128 : BitVec 1 := Scalar.cmpi .ne v127 c0_i32_96
  let v132 : BitVec 1 := Scalar.andi v131 v128
  let v133 : BitVec 32 := Scalar.addi v127 v126
  let v134 : BitVec 32 := Scalar.select v132 v133 v127
  let c0_i32_108 : BitVec 32 := 0#32
  ![v134.toNat, 0]

def k0_chk17 (i : grid0.Coords) (k0_t8 : Fin k0_t8_loop.trips) (v124 : BitVec 32) : Prop :=
  (∀ a, (k0_off27 i k0_t8 v124) a + S1x8192.size a ≤ S4x8192.size a) ∧
  (∀ a, (k0_off28 v124) a + S1x8192.size a ≤ S16384x8192.size a)
theorem k0_off27_inb : ∀ (i : grid0.Coords) (k0_t8 : Fin k0_t8_loop.trips) (v124 : BitVec 32) (k0_hw17 : k0_chk17 i k0_t8 v124), ∀ a, (k0_off27 i k0_t8 v124) a + S1x8192.size a ≤ S4x8192.size a := fun i k0_t8 v124 k0_hw17 => k0_hw17.1
theorem k0_off28_inb : ∀ (i : grid0.Coords) (k0_t8 : Fin k0_t8_loop.trips) (v124 : BitVec 32) (k0_hw17 : k0_chk17 i k0_t8 v124), ∀ a, (k0_off28 v124) a + S1x8192.size a ≤ S16384x8192.size a := fun i k0_t8 v124 k0_hw17 => k0_hw17.2

@[reducible] def k0_t15_loop (v65 : BitVec 32) (v96 : BitVec 32) : Scf.Loop 32 :=
  let c0_i32_87 : BitVec 32 := 0#32
  let v106 : BitVec 32 := Scalar.subi v96 v65
  let c1_i32_83 : BitVec 32 := 1#32
  let c1_i32_84 : BitVec 32 := 1#32
  let v107 : BitVec 32 := Scalar.subi c1_i32_83 c1_i32_84
  let v108 : BitVec 32 := Scalar.addi v106 v107
  let c1_i32_85 : BitVec 32 := 1#32
  let v109 : BitVec 32 := Scalar.divsi v108 c1_i32_85
  let v110 : BitVec 32 := Scalar.subi v109 c0_i32_87
  let c1_i32_88 : BitVec 32 := 1#32
  let v112 : BitVec 32 := Scalar.divsi v110 c1_i32_88
  let v113 : BitVec 32 := Scalar.muli v112 c1_i32_88
  let v114 : BitVec 32 := Scalar.addi c0_i32_87 v113
  let c1_i32_89 : BitVec 32 := 1#32
  ⟨c0_i32_87, v114, c1_i32_89⟩
@[reducible] def k0_t16_loop (v65 : BitVec 32) (v96 : BitVec 32) : Scf.Loop 32 :=
  let c0_i32_87 : BitVec 32 := 0#32
  let v106 : BitVec 32 := Scalar.subi v96 v65
  let c1_i32_83 : BitVec 32 := 1#32
  let c1_i32_84 : BitVec 32 := 1#32
  let v107 : BitVec 32 := Scalar.subi c1_i32_83 c1_i32_84
  let v108 : BitVec 32 := Scalar.addi v106 v107
  let c1_i32_85 : BitVec 32 := 1#32
  let v109 : BitVec 32 := Scalar.divsi v108 c1_i32_85
  let v110 : BitVec 32 := Scalar.subi v109 c0_i32_87
  let c1_i32_88 : BitVec 32 := 1#32
  let v112 : BitVec 32 := Scalar.divsi v110 c1_i32_88
  let v113 : BitVec 32 := Scalar.muli v112 c1_i32_88
  let v114 : BitVec 32 := Scalar.addi c0_i32_87 v113
  let v111 : BitVec 32 := Scalar.addi c0_i32_87 v110
  let c1_i32_90 : BitVec 32 := 1#32
  ⟨v114, v111, c1_i32_90⟩

def k0_chk15 (v65 : BitVec 32) (v96 : BitVec 32) : Prop :=
  ((k0_t13_loop v65 v96).OK) ∧
  (∀ k0_t13 : Fin (k0_t13_loop v65 v96).trips, ∀ a, (k0_off23 v65 v96 k0_t13) a + S16.size a ≤ S16416.size a) ∧
  ((k0_t14_loop v65 v96).OK) ∧
  (∀ k0_t14 : Fin (k0_t14_loop v65 v96).trips, ∀ a, (k0_off26 v65 v96 k0_t14) a + S16.size a ≤ S16416.size a) ∧
  ((k0_t15_loop v65 v96).OK) ∧
  ((k0_t16_loop v65 v96).OK)
theorem k0_t13_ok : ∀ (v65 : BitVec 32) (v96 : BitVec 32) (k0_hw15 : k0_chk15 v65 v96), (k0_t13_loop v65 v96).OK := fun v65 v96 k0_hw15 => k0_hw15.1
theorem k0_off23_inb : ∀ (v65 : BitVec 32) (v96 : BitVec 32) (k0_hw15 : k0_chk15 v65 v96) (k0_t13 : Fin (k0_t13_loop v65 v96).trips), ∀ a, (k0_off23 v65 v96 k0_t13) a + S16.size a ≤ S16416.size a := fun v65 v96 k0_hw15 k0_t13 => k0_hw15.2.1 k0_t13
theorem k0_t14_ok : ∀ (v65 : BitVec 32) (v96 : BitVec 32) (k0_hw15 : k0_chk15 v65 v96), (k0_t14_loop v65 v96).OK := fun v65 v96 k0_hw15 => k0_hw15.2.2.1
theorem k0_off26_inb : ∀ (v65 : BitVec 32) (v96 : BitVec 32) (k0_hw15 : k0_chk15 v65 v96) (k0_t14 : Fin (k0_t14_loop v65 v96).trips), ∀ a, (k0_off26 v65 v96 k0_t14) a + S16.size a ≤ S16416.size a := fun v65 v96 k0_hw15 k0_t14 => k0_hw15.2.2.2.1 k0_t14
theorem k0_t15_ok : ∀ (v65 : BitVec 32) (v96 : BitVec 32) (k0_hw15 : k0_chk15 v65 v96), (k0_t15_loop v65 v96).OK := fun v65 v96 k0_hw15 => k0_hw15.2.2.2.2.1
theorem k0_t16_ok : ∀ (v65 : BitVec 32) (v96 : BitVec 32) (k0_hw15 : k0_chk15 v65 v96), (k0_t16_loop v65 v96).OK := fun v65 v96 k0_hw15 => k0_hw15.2.2.2.2.2

def k0_cond2 (k0_t8 : Fin k0_t8_loop.trips) : BitVec 1 :=
  let c0_i32_47 : BitVec 32 := 0#32
  let c0_i32_43 : BitVec 32 := 0#32
  let c1_i32_44 : BitVec 32 := 1#32
  let arg15 : BitVec 32 := Scf.iv c0_i32_43 c1_i32_44 k0_t8
  let c2_i32_46 : BitVec 32 := 2#32
  let v55 : BitVec 32 := Scalar.muli arg15 c2_i32_46
  let v56 : BitVec 32 := Scalar.addi c0_i32_47 v55
  let c1_i32_71 : BitVec 32 := 1#32
  let v88 : BitVec 32 := Scalar.addi v56 c1_i32_71
  let c2_i32_91 : BitVec 32 := 2#32
  let v115 : BitVec 32 := Scalar.addi v88 c2_i32_91
  let c64_i32_92 : BitVec 32 := 64#32
  let v116 : BitVec 1 := Scalar.cmpi .slt v115 c64_i32_92
  let v117 : BitVec 32 := Scalar.extui v116
  let c0_i32_93 : BitVec 32 := 0#32
  let v118 : BitVec 1 := Scalar.cmpi .ne v117 c0_i32_93
  v118

def k0_off29 (i : grid0.Coords) (k0_t8 : Fin k0_t8_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_47 : BitVec 32 := 0#32
  let c0_i32_43 : BitVec 32 := 0#32
  let c1_i32_44 : BitVec 32 := 1#32
  let arg15 : BitVec 32 := Scf.iv c0_i32_43 c1_i32_44 k0_t8
  let c2_i32_46 : BitVec 32 := 2#32
  let v55 : BitVec 32 := Scalar.muli arg15 c2_i32_46
  let v56 : BitVec 32 := Scalar.addi c0_i32_47 v55
  let c1_i32_71 : BitVec 32 := 1#32
  let v88 : BitVec 32 := Scalar.addi v56 c1_i32_71
  let c2_i32_94 : BitVec 32 := 2#32
  let v119 : BitVec 32 := Scalar.addi v88 c2_i32_94
  let c4_i32_95 : BitVec 32 := 4#32
  let v120 : BitVec 32 := Scalar.muli v119 c4_i32_95
  let v121 : BitVec 32 := Scalar.addi v2 v120
  let c0_i32_96 : BitVec 32 := 0#32
  ![v121.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S8x2048 : Shape := ⟨2, ![8, 2048]⟩
abbrev S8192x8192 : Shape := ⟨2, ![8192, 8192]⟩
abbrev S_ : Shape := ⟨0, ![]⟩
abbrev S8x2048x1 : Shape := ⟨3, ![8, 2048, 1]⟩
abbrev S1 : Shape := ⟨1, ![1]⟩
abbrev S1x1x1 : Shape := ⟨3, ![1, 1, 1]⟩
abbrev S8x2048x8192 : Shape := ⟨3, ![8, 2048, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8x2048, .i32⟩
  | .hbm, ⟨1, _⟩ => ⟨S8192x8192, .f32⟩
  | .hbm, ⟨2, _⟩ => ⟨S_, .i32⟩
  | .hbm, ⟨3, _⟩ => ⟨S8x2048, .i32⟩
  | .hbm, ⟨4, _⟩ => ⟨S8x2048, .i1⟩
  | .hbm, ⟨5, _⟩ => ⟨S_, .i32⟩
  | .hbm, ⟨6, _⟩ => ⟨S8x2048, .i32⟩
  | .hbm, ⟨7, _⟩ => ⟨S8x2048, .i32⟩
  | .hbm, ⟨8, _⟩ => ⟨S8x2048, .i32⟩
  | .hbm, ⟨9, _⟩ => ⟨S8x2048x1, .i32⟩
  | .hbm, ⟨10, _⟩ => ⟨S1, .i32⟩
  | .hbm, ⟨11, _⟩ => ⟨S_, .i32⟩
  | .hbm, ⟨12, _⟩ => ⟨S8x2048x1, .i32⟩
  | .hbm, ⟨13, _⟩ => ⟨S8x2048x1, .i1⟩
  | .hbm, ⟨14, _⟩ => ⟨S1x1x1, .i32⟩
  | .hbm, ⟨15, _⟩ => ⟨S8x2048x1, .i32⟩
  | .hbm, ⟨16, _⟩ => ⟨S8x2048x1, .i1⟩
  | .hbm, ⟨17, _⟩ => ⟨S8x2048x1, .i1⟩
  | .hbm, ⟨18, _⟩ => ⟨S_, .i1⟩
  | .hbm, ⟨19, _⟩ => ⟨S8x2048, .i1⟩
  | .hbm, ⟨20, _⟩ => ⟨S8x2048x8192, .f32⟩
  | .hbm, ⟨21, _⟩ => ⟨S8x2048x8192, .i1⟩
  | .hbm, ⟨22, _⟩ => ⟨S_, .f32⟩
  | .hbm, ⟨23, _⟩ => ⟨S8x2048x8192, .f32⟩
  | .hbm, ⟨24, _⟩ => ⟨S8x2048x8192, .f32⟩
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Counts.lean ====
/-
  The counting sort of one vector subcore, on natural numbers. The subcore owns the table rows `lo … lo + 255`; the
  positions of the index array whose value it owns are its MATCHES, in increasing order. Each match has a chunk of four
  rows (its bin), and the sorted list puts the matches bin after bin, in order of position inside a bin.
-/
module

public import Mathlib.Data.Nat.Count
public import proofs.«01_k».proof.Defs

@[expose] public section

namespace Cert.Proof

/-! ## Counting -/

/-- A number below the count of `p` up to `k` is the count of `p` up to some place that satisfies `p`. -/
theorem exists_of_lt_count {p : ℕ → Prop} [DecidablePred p] {i k : ℕ} (h : i < Nat.count p k) : ∃ j, j < k ∧ p j ∧ Nat.count p j = i := by
  induction k with
  | zero => simp at h
  | succ k ih =>
    rw [Nat.count_succ] at h
    by_cases hi : i < Nat.count p k
    · obtain ⟨j, hj, hp, hc⟩ := ih hi
      exact ⟨j, by omega, hp, hc⟩
    · by_cases hp : p k
      · rw [if_pos hp] at h; exact ⟨k, by omega, hp, by omega⟩
      · rw [if_neg hp] at h; omega

/-- A place of `p` below `k` is counted by `k`. -/
theorem count_lt_count {p : ℕ → Prop} [DecidablePred p] {j k : ℕ} (hp : p j) (h : j < k) : Nat.count p j < Nat.count p k :=
  Nat.count_strict_mono hp h

/-- Two places of `p` with the same count are one. -/
theorem count_inj {p : ℕ → Prop} [DecidablePred p] {j k : ℕ} (hj : p j) (hk : p k) (h : Nat.count p j = Nat.count p k) : j = k := by
  rcases Nat.lt_trichotomy j k with hlt | he | hlt
  · have := count_lt_count hj hlt; omega
  · exact he
  · have := count_lt_count hk hlt; omega

/-! ## The matches and the sorted list -/

section Sorted

variable (v : ℕ → ℕ) (lo : ℕ)

/-- The value at position `p` is a row this subcore owns. -/
def Mine (p : ℕ) : Prop := lo ≤ v p ∧ v p < lo + 256

/-- Whether a position is a match can be decided. -/
instance : DecidablePred (Mine v lo) := fun p => inferInstanceAs (Decidable (_ ∧ _))

/-- How many matches lie below position `p`. -/
def rank (p : ℕ) : ℕ := Nat.count (Mine v lo) p

/-- How many matches there are. -/
def total : ℕ := rank v lo 16384

open Classical in
/-- The position of match `j`. -/
noncomputable def pos (j : ℕ) : ℕ := if h : ∃ p, p < 16384 ∧ Mine v lo p ∧ rank v lo p = j then h.choose else 0

/-- Position and value in one word. -/
def pack (p : ℕ) : ℕ := v p * 16384 + p

/-- The chunk of four rows that match `j` falls in, counted from the subcore's first row. -/
noncomputable def bin (j : ℕ) : ℕ := (v (pos v lo j) - lo) / 4

/-- How many of the first `j` matches are in bin `b`. -/
noncomputable def within (b j : ℕ) : ℕ := Nat.count (fun i => bin v lo i = b) j

/-- How many of the first `m` matches are in a bin below `b`. -/
noncomputable def below (b m : ℕ) : ℕ := Nat.count (fun i => bin v lo i < b) m

/-- Where bin `b` begins in the sorted list. -/
noncomputable def base (b : ℕ) : ℕ := below v lo b (total v lo)

/-- The place of match `j` in the sorted list. -/
noncomputable def slot (j : ℕ) : ℕ := base v lo (bin v lo j) + within v lo (bin v lo j) j

open Classical in
/-- The match at place `i` of the sorted list. -/
noncomputable def unslot (i : ℕ) : ℕ := if h : ∃ j, j < total v lo ∧ slot v lo j = i then h.choose else 0

/-- The position at place `i` of the sorted list. -/
noncomputable def row (i : ℕ) : ℕ := pos v lo (unslot v lo i)

variable {v lo}

/-- A match's position: below the array's length, a match, and its rank is the match's number. -/
theorem pos_spec {j : ℕ} (h : j < total v lo) : pos v lo j < 16384 ∧ Mine v lo (pos v lo j) ∧ rank v lo (pos v lo j) = j := by
  have hex : ∃ p, p < 16384 ∧ Mine v lo p ∧ rank v lo p = j := exists_of_lt_count h
  unfold pos
  rw [dif_pos hex]
  exact hex.choose_spec

/-- A match's rank is below the number of matches. -/
theorem rank_lt {p : ℕ} (hp : p < 16384) (h : Mine v lo p) : rank v lo p < total v lo := count_lt_count h hp

/-- The match whose number is a match's rank is at that match's position. -/
theorem pos_rank {p : ℕ} (hp : p < 16384) (h : Mine v lo p) : pos v lo (rank v lo p) = p :=
  count_inj (pos_spec (rank_lt hp h)).2.1 h (pos_spec (rank_lt hp h)).2.2

/-- No more matches lie below a position than there are positions. -/
theorem rank_le (p : ℕ) : rank v lo p ≤ p := Nat.count_le _

/-- There are at most 16384 matches. -/
theorem total_le : total v lo ≤ 16384 := rank_le _

/-- Every match falls in one of the 64 chunks. -/
theorem bin_lt {j : ℕ} (h : j < total v lo) : bin v lo j < 64 := by
  obtain ⟨-, ⟨h1, h2⟩, -⟩ := pos_spec h
  unfold bin; omega

/-- The matches of chunks up to `b` are those of chunks below `b` and those of `b`. -/
theorem below_succ (b m : ℕ) : below v lo (b + 1) m = below v lo b m + within v lo b m := by
  unfold below within
  induction m with
  | zero => simp
  | succ m ih =>
    simp only [Nat.count_succ]
    rw [ih]
    split_ifs <;> omega

/-- A chunk's places end where the next chunk's begin. -/
theorem base_succ (b : ℕ) : base v lo (b + 1) = base v lo b + within v lo b (total v lo) := below_succ _ _

/-- The first chunk begins at place zero. -/
theorem base_zero : base v lo 0 = 0 := by
  unfold base below
  generalize total v lo = m
  induction m with
  | zero => rfl
  | succ m ih => rw [Nat.count_succ, ih]; simp

/-- The chunks begin in order. -/
theorem base_mono {b c : ℕ} (h : b ≤ c) : base v lo b ≤ base v lo c := by
  induction c with
  | zero => obtain rfl : b = 0 := by omega
            exact le_rfl
  | succ c ih =>
    by_cases hb : b = c + 1
    · subst hb; exact le_rfl
    · have := ih (by omega); rw [base_succ]; omega

/-- The 64 chunks hold all the matches. -/
theorem base_64 : base v lo 64 = total v lo := by
  unfold base below
  have : ∀ m, m ≤ total v lo → Nat.count (fun i => bin v lo i < 64) m = m := by
    intro m
    induction m with
    | zero => simp
    | succ m ih =>
      intro h
      rw [Nat.count_succ, ih (by omega), if_pos (bin_lt (by omega))]
  exact this _ le_rfl

/-- Every chunk begins within the list. -/
theorem base_le {b : ℕ} : base v lo b ≤ total v lo := Nat.count_le _

/-- A match's place is not before its chunk's first. -/
theorem slot_ge (j : ℕ) : base v lo (bin v lo j) ≤ slot v lo j := Nat.le_add_right _ _

/-- An earlier match of a chunk is counted before a later place. -/
theorem within_lt {j m : ℕ} (h : j < m) : within v lo (bin v lo j) j < within v lo (bin v lo j) m :=
  count_lt_count (p := fun i => bin v lo i = bin v lo j) rfl h

/-- A match's place is before the next chunk's first. -/
theorem slot_lt {j : ℕ} (h : j < total v lo) : slot v lo j < base v lo (bin v lo j + 1) := by
  rw [base_succ]; unfold slot
  have := within_lt (v := v) (lo := lo) h
  omega

/-- A match's place is within the list. -/
theorem slot_lt_total {j : ℕ} (h : j < total v lo) : slot v lo j < total v lo := (slot_lt h).trans_le base_le

/-- A place of the list lies in one bin only. -/
theorem bin_unique {b c i : ℕ} (h1 : base v lo b ≤ i) (h2 : i < base v lo (b + 1)) (h3 : base v lo c ≤ i) (h4 : i < base v lo (c + 1)) : b = c := by
  rcases Nat.lt_trichotomy b c with h | h | h
  · have := base_mono (v := v) (lo := lo) (show b + 1 ≤ c from h); omega
  · exact h
  · have := base_mono (v := v) (lo := lo) (show c + 1 ≤ b from h); omega

/-- Two matches at one place are one. -/
theorem slot_inj {j k : ℕ} (hj : j < total v lo) (hk : k < total v lo) (h : slot v lo j = slot v lo k) : j = k := by
  have hb : bin v lo j = bin v lo k :=
    bin_unique (slot_ge j) (slot_lt hj) (by rw [h]; exact slot_ge k) (by rw [h]; exact slot_lt hk)
  unfold slot at h
  rw [hb] at h
  exact count_inj (p := fun i => bin v lo i = bin v lo k) hb rfl (by unfold within at h; omega)

/-- Every place of bin `c` is the place of a match of that bin. -/
theorem slot_surj {c i : ℕ} (h1 : base v lo c ≤ i) (h2 : i < base v lo (c + 1)) : ∃ j, j < total v lo ∧ bin v lo j = c ∧ slot v lo j = i := by
  rw [base_succ] at h2
  obtain ⟨j, hj, hb, hc⟩ := exists_of_lt_count (p := fun i => bin v lo i = c) (i := i - base v lo c) (k := total v lo) (by unfold within at h2; omega)
  refine ⟨j, hj, hb, ?_⟩
  unfold slot within
  simp only [hb, hc]
  omega

/-- Every place of the list lies in some chunk. -/
theorem exists_bin {i : ℕ} (h : i < total v lo) : ∃ c, c < 64 ∧ base v lo c ≤ i ∧ i < base v lo (c + 1) := by
  have : ∀ b, i < base v lo b → ∃ c, c < b ∧ base v lo c ≤ i ∧ i < base v lo (c + 1) := by
    intro b
    induction b with
    | zero => rw [base_zero]; omega
    | succ b ih =>
      intro hb
      by_cases hi : i < base v lo b
      · obtain ⟨c, hc, h1, h2⟩ := ih hi; exact ⟨c, by omega, h1, h2⟩
      · exact ⟨b, by omega, by omega, hb⟩
  exact this 64 (by rw [base_64]; exact h)

/-- The match at a place, and that its place is that place. -/
theorem unslot_spec {i : ℕ} (h : i < total v lo) : unslot v lo i < total v lo ∧ slot v lo (unslot v lo i) = i := by
  obtain ⟨c, -, h1, h2⟩ := exists_bin h
  obtain ⟨j, hj, -, hs⟩ := slot_surj h1 h2
  have hex : ∃ j, j < total v lo ∧ slot v lo j = i := ⟨j, hj, hs⟩
  unfold unslot
  rw [dif_pos hex]
  exact hex.choose_spec

/-- The match at a match's place is that match. -/
theorem unslot_slot {j : ℕ} (h : j < total v lo) : unslot v lo (slot v lo j) = j := by
  obtain ⟨h1, h2⟩ := unslot_spec (slot_lt_total h)
  exact slot_inj h1 h h2

/-- The match at a place of chunk `c` falls in chunk `c`. -/
theorem bin_unslot {c i : ℕ} (h1 : base v lo c ≤ i) (h2 : i < base v lo (c + 1)) : bin v lo (unslot v lo i) = c := by
  obtain ⟨h3, h4⟩ := unslot_spec (h2.trans_le base_le)
  exact bin_unique (i := i) (by rw [← h4, unslot_slot h3]; exact slot_ge _) (by have := slot_lt h3; rw [h4] at this; exact this) h1 h2

/-- The position at a place of the list is below 16384. -/
theorem row_lt {i : ℕ} (h : i < total v lo) : row v lo i < 16384 := (pos_spec (unslot_spec h).1).1

/-- The position at a place of the list is a match. -/
theorem row_mine {i : ℕ} (h : i < total v lo) : Mine v lo (row v lo i) := (pos_spec (unslot_spec h).1).2.1

/-- The value at a place of bin `c`: one of the four rows of chunk `c`. -/
theorem row_chunk {c i : ℕ} (h1 : base v lo c ≤ i) (h2 : i < base v lo (c + 1)) :
    lo + 4 * c ≤ v (row v lo i) ∧ v (row v lo i) < lo + 4 * c + 4 := by
  have hb := bin_unslot h1 h2
  obtain ⟨h3, h4⟩ := row_mine (h2.trans_le base_le)
  unfold bin at hb
  unfold row at *
  omega

/-- Two places with one position are one. -/
theorem row_inj {i k : ℕ} (hi : i < total v lo) (hk : k < total v lo) (h : row v lo i = row v lo k) : i = k := by
  have h1 := (pos_spec (unslot_spec hi).1).2.2
  have h2 := (pos_spec (unslot_spec hk).1).2.2
  unfold row at h
  rw [h, h2] at h1
  rw [← (unslot_spec hi).2, ← (unslot_spec hk).2, h1]

/-- Every matching position is at some place of the list. -/
theorem row_surj {p : ℕ} (hp : p < 16384) (h : Mine v lo p) : ∃ i, i < total v lo ∧ row v lo i = p := by
  refine ⟨slot v lo (rank v lo p), slot_lt_total (rank_lt hp h), ?_⟩
  unfold row
  rw [unslot_slot (rank_lt hp h), pos_rank hp h]

end Sorted

end Cert.Proof

end
-- ==== Proof.Words.lean ====
/-
  The kernel's 32-bit words as natural numbers: the operations that occur in its offsets, masks and loop bounds, on words
  that are small natural numbers, and the closed forms of the offsets the program reads out of memory.
-/
module

public import proofs.«01_k».proof.Proof.Counts
public import proofs.«01_k».proof.Proof.Gen.KernelIdeal.Skeleton

@[expose] public section

noncomputable section

namespace Cert.Proof

open Cert.KernelIdeal Cert.KernelIdeal.Gen
open Idealize.ShloMosaic

/-! ## Operations on small natural numbers -/

/-- The word of a natural number. -/
abbrev W (n : ℕ) : BitVec 32 := BitVec.ofNat 32 n

/-- A word is the word of its value. -/
theorem eq_W {w : BitVec 32} {n : ℕ} (h : w.toNat = n) : w = W n := by rw [← h]; simp

/-- The value of the word of a small number. -/
theorem W_toNat {n : ℕ} (h : n < 4294967296) : (W n).toNat = n := by simp only [BitVec.toNat_ofNat]; omega

/-- The signed value of the word of a small number. -/
theorem W_toInt {n : ℕ} (h : n < 2147483648) : (W n).toInt = (n : ℤ) := by
  rw [BitVec.toInt_eq_toNat_cond, W_toNat (by omega)]; rw [if_pos (by omega)]

/-- Words add as numbers. -/
theorem W_add (a b : ℕ) : (W a + W b : BitVec 32) = W (a + b) := (BitVec.ofNat_add a b).symm
/-- Words multiply as numbers. -/
theorem W_mul (a b : ℕ) : (W a * W b : BitVec 32) = W (a * b) := (BitVec.ofNat_mul a b).symm
/-- Words subtract as numbers, the smaller from the larger. -/
theorem W_sub {a b : ℕ} (h : b ≤ a) : (W a - W b : BitVec 32) = W (a - b) := by
  have e : W a = W (a - b) + W b := by rw [W_add, Nat.sub_add_cancel h]
  rw [e, BitVec.add_sub_cancel]

/-- Small numbers with one word are one. -/
theorem W_inj {a b : ℕ} (ha : a < 4294967296) (hb : b < 4294967296) : W a = W b ↔ a = b :=
  ⟨fun h => by rw [← W_toNat ha, ← W_toNat hb, h], fun h => by rw [h]⟩

/-- The word of a small number is not negative. -/
theorem W_msb {n : ℕ} (h : n < 2147483648) : (W n).msb = false := by
  rw [BitVec.msb_eq_decide, W_toNat (by omega)]; simp; omega

/-- Words of small numbers compare as the numbers do. -/
theorem W_slt {a b : ℕ} (ha : a < 2147483648) (hb : b < 2147483648) : (W a).slt (W b) = decide (a < b) := by
  rw [BitVec.slt, W_toInt ha, W_toInt hb]; simp

/-- The same, or equal. -/
theorem W_sle {a b : ℕ} (ha : a < 2147483648) (hb : b < 2147483648) : (W a).sle (W b) = decide (a ≤ b) := by
  rw [BitVec.sle, W_toInt ha, W_toInt hb]; simp

/-- Small numbers divide without a corner case. -/
theorem not_corner {a b : ℕ} (ha : a < 2147483648) (hb0 : 0 < b) (hb : b < 2147483648) : ¬ IntOp.SDivCorner (W a) (W b) := by
  rintro (h | ⟨h, -⟩)
  · have := congrArg BitVec.toNat h
    rw [W_toNat (by omega)] at this; simp at this; omega
  · have := congrArg BitVec.msb h
    rw [W_msb ha, show (BitVec.intMin 32).msb = true from by decide] at this; cases this

/-- Words of small numbers divide as the numbers do. -/
theorem divsi_W (u : ArithUnit) {a b : ℕ} (ha : a < 2147483648) (hb0 : 0 < b) (hb : b < 2147483648) :
    IntOp.divsi u (W a) (W b) = W (a / b) := by
  rw [IntOp.divsi, if_neg (not_corner ha hb0 hb), BitVec.sdiv_eq, W_msb ha, W_msb hb]
  apply BitVec.eq_of_toNat_eq
  have : a / b ≤ a := Nat.div_le_self _ _
  show (BitVec.udiv (W a) (W b)).toNat = _
  rw [W_toNat (by omega)]
  simp only [BitVec.udiv_eq, BitVec.toNat_udiv]
  rw [W_toNat (by omega), W_toNat (by omega)]

/-- The remainder likewise. -/
theorem remsi_W (u : ArithUnit) {a b : ℕ} (ha : a < 2147483648) (hb0 : 0 < b) (hb : b < 2147483648) :
    IntOp.remsi u (W a) (W b) = W (a % b) := by
  rw [IntOp.remsi, if_neg (not_corner ha hb0 hb), BitVec.srem_eq, W_msb ha, W_msb hb]
  apply BitVec.eq_of_toNat_eq
  have : a % b ≤ a := Nat.mod_le _ _
  show (W a % W b).toNat = _
  rw [W_toNat (n := a % b) (by omega), BitVec.toNat_umod, W_toNat (by omega), W_toNat (by omega)]

/-- The quotient rounded down, as the kernel computes it: the quotient rounded toward zero, one less where the signs differ
    and the remainder is not zero. -/
def fdiv (u : ArithUnit) (x y : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt y 0#32)) (Scalar.extui (Scalar.cmpi .slt y 0#32))))
      (Scalar.cmpi .ne (IntOp.remsi u x y) 0#32))
    (Scalar.subi (IntOp.divsi u x y) 1#32) (IntOp.divsi u x y)

/-- Floor division likewise. -/
theorem fdiv_W (u : ArithUnit) {a b : ℕ} (ha : a < 2147483648) (hb0 : 0 < b) (hb : b < 2147483648) :
    fdiv u (W a) (W b) = W (a / b) := by
  unfold fdiv
  rw [divsi_W u ha hb0 hb, remsi_W u ha hb0 hb]
  have hsel : ∀ (c : BitVec 1) (x y : BitVec 32), c ≠ 1 → Scalar.select c x y = y := fun c x y h => if_neg h
  apply hsel
  have h0 : (0#32 : BitVec 32) = W 0 := rfl
  simp only [Scalar.andi, Scalar.cmpi, Scalar.subi, Scalar.extui, IntOp.cmpi, IntOp.andi, IntOp.subi]
  rw [h0, W_slt (a := 0) (by omega) ha, W_slt (a := a) ha (by omega), W_slt (a := 0) (by omega) hb, W_slt (a := b) hb (by omega)]
  rw [decide_eq_true hb0, decide_eq_false (Nat.not_lt_zero a), decide_eq_false (Nat.not_lt_zero b)]
  by_cases hz : a = 0
  · subst hz; simp
  · rw [decide_eq_true (Nat.pos_of_ne_zero hz)]; simp

/-! ## Counted loops from zero by one -/

/-- A loop from zero to a small number runs that many times. -/
theorem trips_W {n : ℕ} (hn : n < 2147483648) : Scf.trips (0#32) (W n) (1#32) = n := by
  unfold Scf.trips
  rw [W_toInt hn, show (0#32 : BitVec 32).toInt = 0 from rfl, show (1#32 : BitVec 32).toInt = 1 from rfl]
  simp

/-- Such a loop does not overflow. -/
theorem ok_W {n : ℕ} (hn : n < 2147483647) : Scf.OK (0#32) (W n) (1#32) := by
  refine ⟨by decide, ?_⟩
  rw [trips_W (by omega), show (0#32 : BitVec 32).toInt = 0 from rfl, show (1#32 : BitVec 32).toInt = 1 from rfl]
  norm_num; omega

/-- A loop from a bound to itself does not run. -/
theorem trips_self (l : BitVec 32) : Scf.trips l l (1#32) = 0 := by
  unfold Scf.trips; rw [show (1#32 : BitVec 32).toInt = 1 from rfl]; simp

/-- Such a loop does not overflow. -/
theorem ok_self {n : ℕ} (hn : n < 2147483647) : Scf.OK (W n) (W n) (1#32) := by
  refine ⟨by decide, ?_⟩
  rw [trips_self, W_toInt (by omega)]
  norm_num; omega

/-- The induction variable of a loop from zero is the trip. -/
theorem iv_W (k : ℕ) : Scf.iv 0#32 1#32 k = W k := by unfold Scf.iv; simp

/-! ## The loops whose bounds are read from memory -/

/-- Dividing by one changes nothing. -/
theorem divsi_one (u : ArithUnit) (x : BitVec 32) : IntOp.divsi u x 1#32 = x := by
  have h : ¬ IntOp.SDivCorner x 1#32 := by rintro (h | ⟨-, h⟩) <;> revert h <;> decide
  rw [IntOp.divsi, if_neg h, BitVec.sdiv_one]

/-- The same on the scalar unit. -/
theorem sdivsi_one (x : BitVec 32) : Scalar.divsi x 1#32 = x := divsi_one _ x

/-- The placing loop's bounds. -/
theorem t6_loop_eq (w : BitVec 32) : k0_t6_loop w = ⟨0#32, w, 1#32⟩ := by
  simp [k0_t6_loop, sdivsi_one, Scalar.subi, Scalar.addi, Scalar.muli, IntOp.subi, IntOp.addi, IntOp.muli]

/-- The bounds of the placing loop's remainder. -/
theorem t7_loop_eq (w : BitVec 32) : k0_t7_loop w = ⟨w, w, 1#32⟩ := by
  simp [k0_t7_loop, sdivsi_one, Scalar.subi, Scalar.addi, Scalar.muli, IntOp.subi, IntOp.addi, IntOp.muli]

/-- The issuing loop's bounds. -/
theorem t9_loop_eq (a b : BitVec 32) : k0_t9_loop a b = ⟨0#32, b - a, 1#32⟩ := by
  simp [k0_t9_loop, sdivsi_one, Scalar.subi, Scalar.addi, Scalar.muli, IntOp.subi, IntOp.addi, IntOp.muli]

/-- The bounds of the issuing loop's remainder. -/
theorem t10_loop_eq (a b : BitVec 32) : k0_t10_loop a b = ⟨b - a, b - a, 1#32⟩ := by
  simp [k0_t10_loop, sdivsi_one, Scalar.subi, Scalar.addi, Scalar.muli, IntOp.subi, IntOp.addi, IntOp.muli]

/-- The histogram loop's bounds. -/
theorem t3_loop_eq (w : BitVec 32) : k0_t3_loop w = ⟨0#32, fdiv .scalar (w + 15#32) 16#32, 1#32⟩ := by
  have e : k0_t3_loop w = ⟨0#32, Scalar.addi 0#32 (Scalar.muli (Scalar.divsi (Scalar.subi (Scalar.divsi (Scalar.addi
      (Scalar.subi (fdiv .scalar (w + 15#32) 16#32) 0#32) (Scalar.subi 1#32 1#32)) 1#32) 0#32) 1#32) 1#32), 1#32⟩ := rfl
  rw [e]
  simp [sdivsi_one, Scalar.subi, Scalar.addi, Scalar.muli, IntOp.subi, IntOp.addi, IntOp.muli]

/-- The bounds of the histogram loop's remainder. -/
theorem t4_loop_eq (w : BitVec 32) : k0_t4_loop w = ⟨fdiv .scalar (w + 15#32) 16#32, fdiv .scalar (w + 15#32) 16#32, 1#32⟩ := by
  have e : k0_t4_loop w = ⟨Scalar.addi 0#32 (Scalar.muli (Scalar.divsi (Scalar.subi (Scalar.divsi (Scalar.addi
      (Scalar.subi (fdiv .scalar (w + 15#32) 16#32) 0#32) (Scalar.subi 1#32 1#32)) 1#32) 0#32) 1#32) 1#32),
      Scalar.addi 0#32 (Scalar.subi (Scalar.divsi (Scalar.addi
      (Scalar.subi (fdiv .scalar (w + 15#32) 16#32) 0#32) (Scalar.subi 1#32 1#32)) 1#32) 0#32), 1#32⟩ := rfl
  rw [e]
  simp [sdivsi_one, Scalar.subi, Scalar.addi, Scalar.muli, IntOp.subi, IntOp.addi, IntOp.muli]

/-- The histogram loop runs once for every sixteen matches begun. -/
theorem t3_trips {n : ℕ} (hn : n ≤ 16384) : (k0_t3_loop (W n)).trips = (n + 15) / 16 := by
  rw [t3_loop_eq, W_add, fdiv_W _ (by omega) (by omega) (by omega)]
  exact trips_W (by omega)

/-- Its remainder does not run. -/
theorem t4_trips (w : BitVec 32) : (k0_t4_loop w).trips = 0 := by rw [t4_loop_eq]; exact trips_self _
/-- The placing loop's remainder does not run. -/
theorem t7_trips (w : BitVec 32) : (k0_t7_loop w).trips = 0 := by rw [t7_loop_eq]; exact trips_self _
/-- The issuing loop's remainder does not run. -/
theorem t10_trips (a b : BitVec 32) : (k0_t10_loop a b).trips = 0 := by rw [t10_loop_eq]; exact trips_self _
/-- The placing loop runs once for every match. -/
theorem t6_trips {n : ℕ} (hn : n ≤ 16384) : (k0_t6_loop (W n)).trips = n := by rw [t6_loop_eq]; exact trips_W (by omega)

/-- The issuing loop runs once for every place of the chunk. -/
theorem t9_trips {a b : ℕ} (hab : a ≤ b) (hb : b ≤ 16384) : (k0_t9_loop (W a) (W b)).trips = b - a := by
  rw [t9_loop_eq, W_sub hab]; exact trips_W (by omega)

/-- Where trip `k` of the histogram loop reads. -/
theorem off4_eq (w : BitVec 32) (k : Fin (k0_t3_loop w).trips) : k0_off4 w k = ![(W (k.val * 16)).toNat] := by
  have e : k0_off4 w k = ![((0#32 + Scf.iv 0#32 1#32 k * 1#32) * 16#32 : BitVec 32).toNat] := rfl
  rw [e, iv_W, W_mul, W_add, W_mul]; simp

/-- Where trip `k` of the placing loop reads. -/
theorem off8_eq (w : BitVec 32) (k : Fin (k0_t6_loop w).trips) : k0_off8 w k = ![(W k.val).toNat] := by
  have e : k0_off8 w k = ![(0#32 + Scf.iv 0#32 1#32 k * 1#32 : BitVec 32).toNat] := rfl
  rw [e, iv_W, W_mul, W_add]; simp

/-- Where trip `k` of the issuing loop reads. -/
theorem off14_eq (a : ℕ) (b : BitVec 32) (k : Fin (k0_t9_loop (W a) b).trips) : k0_off14 (W a) b k = ![(W (a + k.val)).toNat] := by
  have e : k0_off14 (W a) b k = ![(W a + Scf.iv 0#32 1#32 k * 1#32 : BitVec 32).toNat] := rfl
  rw [e, iv_W, W_mul, W_add]; simp

/-- The side conditions of the loops over the matches. -/
theorem chk2 {n : ℕ} (hn : n ≤ 16384) : k0_chk2 (W n) := by
  refine ⟨?_, ?_, ?_, ?_, ?_, ?_, ?_, ?_⟩
  · rw [t3_loop_eq, W_add, fdiv_W _ (by omega) (by omega) (by omega)]; exact ok_W (by omega)
  · intro k a
    have hk := lt_of_lt_of_eq k.isLt (t3_trips hn)
    rw [off4_eq, W_toNat (by omega)]
    obtain rfl : a = 0 := Subsingleton.elim _ _
    show k.val * 16 + 16 ≤ 16416
    omega
  · rw [t4_loop_eq, W_add, fdiv_W _ (by omega) (by omega) (by omega)]; exact ok_self (by omega)
  · intro k; exact absurd (lt_of_lt_of_eq k.isLt (t4_trips ..)) (Nat.not_lt_zero _)
  · rw [t6_loop_eq]; exact ok_W (by omega)
  · intro k a
    have hk := lt_of_lt_of_eq k.isLt (t6_trips hn)
    rw [off8_eq, W_toNat (by omega)]
    obtain rfl : a = 0 := Subsingleton.elim _ _
    show k.val + 16 ≤ 16416
    omega
  · rw [t7_loop_eq]; exact ok_self (by omega)
  · intro k; exact absurd (lt_of_lt_of_eq k.isLt (t7_trips ..)) (Nat.not_lt_zero _)

/-- The side conditions of the loops over the first chunk of a pair. -/
theorem chk12 {a b : ℕ} (hab : a ≤ b) (hb : b ≤ 16384) : k0_chk12 (W a) (W b) := by
  have h9 : (k0_t9_loop (W a) (W b)).OK := by rw [t9_loop_eq, W_sub hab]; exact ok_W (by omega)
  have h10 : (k0_t10_loop (W a) (W b)).OK := by rw [t10_loop_eq, W_sub hab]; exact ok_self (by omega)
  refine ⟨h9, ?_, h10, ?_, h9, h10⟩
  · intro k c
    have hk := lt_of_lt_of_eq k.isLt (t9_trips hab hb)
    rw [off14_eq, W_toNat (by omega)]
    obtain rfl : c = 0 := Subsingleton.elim _ _
    show a + k.val + 16 ≤ 16416
    omega
  · intro k; exact absurd (lt_of_lt_of_eq k.isLt (t10_trips ..)) (Nat.not_lt_zero _)

/-- The side conditions of the loops over the second chunk of a pair. -/
theorem chk15 {a b : ℕ} (hab : a ≤ b) (hb : b ≤ 16384) : k0_chk15 (W a) (W b) := chk12 hab hb

/-! ## A tile and its words -/

/-- The first table row of a tile. -/
abbrev lo (i : grid0.Coords) : ℕ := ((i 1).val * 2 + (i 0).val) * 256

/-- There are sixteen tiles in a SparseCore, -/
theorem i1_lt (i : grid0.Coords) : (i 1).val < 16 := (i 1).isLt
/-- and two SparseCores. -/
theorem i0_lt (i : grid0.Coords) : (i 0).val < 2 := (i 0).isLt

/-- A tile's rows are rows of the table. -/
theorem lo_lt (i : grid0.Coords) : lo i + 256 ≤ 8192 := by
  have := i1_lt i; have := i0_lt i; unfold lo; omega

/-- The kernel's word for a tile's first row. -/
theorem loW (i : grid0.Coords) :
    ((BitVec.ofNat 32 (i 1).val * 2#32 + BitVec.ofNat 32 (i 0).val) * 256#32 : BitVec 32) = W (lo i) := by
  rw [W_mul, W_add, W_mul]

/-- The cursor that a packed match names. -/
theorem off9_eq (i : grid0.Coords) {x : ℕ} (hx : x < 2147483648) (hl : lo i ≤ x / 16384) :
    k0_off9 i (W x) = ![(x / 16384 - lo i) / 4] := by
  have e : k0_off9 i (W x) = ![(fdiv .scalar (fdiv .scalar (W x) (W 16384) -
      (BitVec.ofNat 32 (i 1).val * 2#32 + BitVec.ofNat 32 (i 0).val) * 256#32 : BitVec 32) (W 4)).toNat] := rfl
  rw [e, loW, fdiv_W _ hx (by omega) (by omega), W_sub hl, fdiv_W _ (by omega) (by omega) (by omega), W_toNat (by omega)]

/-- The row of the first buffer that a packed match names. -/
theorem off15_eq (i : grid0.Coords) (t : Fin k0_t8_loop.trips) {x : ℕ} (hx : x < 2147483648)
    (hl : lo i + t.val * 2 * 4 ≤ x / 16384) :
    k0_off15 i t (W x) = ![x / 16384 - (lo i + t.val * 2 * 4), 0] := by
  have e : k0_off15 i t (W x) = ![(fdiv .scalar (W x) (W 16384) -
      ((BitVec.ofNat 32 (i 1).val * 2#32 + BitVec.ofNat 32 (i 0).val) * 256#32 +
        (0#32 + Scf.iv 0#32 1#32 t * 2#32 + 0#32) * 4#32) : BitVec 32).toNat, 0] := rfl
  rw [e, loW, iv_W, W_mul, W_add, W_add, W_mul, W_add, fdiv_W _ hx (by omega) (by omega)]
  simp only [Nat.zero_add, Nat.add_zero]
  rw [W_sub hl, W_toNat (by omega)]

/-- The row of the second buffer that a packed match names. -/
theorem off24_eq (i : grid0.Coords) (t : Fin k0_t8_loop.trips) {x : ℕ} (hx : x < 2147483648)
    (hl : lo i + (t.val * 2 + 1) * 4 ≤ x / 16384) :
    k0_off24 i t (W x) = ![x / 16384 - (lo i + (t.val * 2 + 1) * 4), 0] := by
  have e : k0_off24 i t (W x) = ![(fdiv .scalar (W x) (W 16384) -
      ((BitVec.ofNat 32 (i 1).val * 2#32 + BitVec.ofNat 32 (i 0).val) * 256#32 +
        (0#32 + Scf.iv 0#32 1#32 t * 2#32 + 1#32) * 4#32) : BitVec 32).toNat, 0] := rfl
  rw [e, loW, iv_W, W_mul, W_add, W_add, W_mul, W_add, fdiv_W _ hx (by omega) (by omega)]
  simp only [Nat.zero_add, Nat.add_zero]
  rw [W_sub hl, W_toNat (by omega)]

/-- The row of the result that a packed match names. -/
theorem off16_eq {x : ℕ} (hx : x < 2147483648) : k0_off16 (W x) = ![x % 16384, 0] := by
  have e : k0_off16 (W x) = ![(Scalar.select (Scalar.andi (Scalar.xori (Scalar.cmpi .slt (IntOp.remsi .scalar (W x) (W 16384)) 0#32)
        (0#1)) (Scalar.cmpi .ne (IntOp.remsi .scalar (W x) (W 16384)) 0#32))
        (Scalar.addi (IntOp.remsi .scalar (W x) (W 16384)) (W 16384)) (IntOp.remsi .scalar (W x) (W 16384))).toNat, 0] := by
    have h1 : Scalar.select (Scalar.cmpi .eq (16384#32) 0#32) 1#32 (16384#32) = W 16384 := by decide
    have h2 : Scalar.cmpi .slt (W 16384) 0#32 = 0#1 := by decide
    simp only [k0_off16, h1, h2]; rfl
  rw [e, remsi_W _ hx (by omega) (by omega)]
  have h3 : Scalar.cmpi .slt (W (x % 16384)) 0#32 = 0#1 := by
    show BitVec.ofBool ((W (x % 16384)).slt (W 0)) = 0#1
    rw [W_slt (by omega) (by omega)]; simp
  rw [h3]
  have h4 : ∀ c : BitVec 1, Scalar.andi (Scalar.xori 0#1 0#1) c = 0#1 := by decide
  rw [h4]
  show ![(W (x % 16384)).toNat, 0] = _
  rw [W_toNat (by omega)]

/-- Every trip but the last fetches the next first chunk, -/
theorem cond1_eq (t : Fin k0_t8_loop.trips) : k0_cond1 t = 1#1 ↔ t.val < 31 := by
  revert t; decide

/-- and the next second chunk. -/
theorem cond2_eq (t : Fin k0_t8_loop.trips) : k0_cond2 t = 1#1 ↔ t.val < 31 := by
  revert t; decide

end Cert.Proof

end
-- ==== Proof.Lanes.lean ====
/-
  Vectors of sixteen words lane by lane, buffers of words word by word: what a load, a store and an indexed store do to
  the words of a buffer, and the prefix count the kernel takes with `plsc.cumsum`.
-/
module

public import proofs.«01_k».proof.Proof.Words

@[expose] public section

noncomputable section

namespace Cert.Proof

open Cert.KernelIdeal Cert.KernelIdeal.Gen
open Idealize.ShloMosaic

/-- Word `p` of a buffer of `n` words (zero past its end). -/
def Wd {n : ℕ} (f : Shape.Idx ⟨1, ![n]⟩ → BitVec 32) (p : ℕ) : BitVec 32 :=
  if h : p < n then f (fun a => ⟨p, by obtain rfl : a = 0 := Subsingleton.elim _ _; exact h⟩) else 0

/-- Lane `k` of a vector of sixteen. -/
def ln {α : Type} (v : S16.Idx → α) (k : ℕ) : α :=
  v fun a => ⟨k % 16, by obtain rfl : a = 0 := Subsingleton.elim _ _; exact Nat.mod_lt _ (by omega)⟩

/-- A vector's element at an index is its lane. -/
theorem ln_apply {α : Type} (v : S16.Idx → α) (x : S16.Idx) : v x = ln v (x 0).val := by
  unfold ln; congr 1; funext a
  obtain rfl : a = 0 := Subsingleton.elim _ _
  exact Fin.ext (Nat.mod_eq_of_lt (show (x 0).val < 16 from (x 0).isLt)).symm

/-- A vector's element at lane `k` is lane `k`. -/
theorem ln_ofLane {α : Type} (v : S16.Idx → α) (k : Fin 16) : v (Shape.ofLane (d := ![16]) k) = ln v k.val := ln_apply v _

/-- A buffer's element at an index is its word. -/
theorem Wd_apply {n : ℕ} (f : Shape.Idx ⟨1, ![n]⟩ → BitVec 32) (x : Shape.Idx ⟨1, ![n]⟩) : f x = Wd f (x 0).val := by
  unfold Wd
  rw [dif_pos (show (x 0).val < n from (x 0).isLt)]
  congr 1; funext a
  obtain rfl : a = 0 := Subsingleton.elim _ _
  rfl

section Access

variable {sig : RefSig} {κ : Kind} {sp : Space} {n : ℕ} {F : FTy → Type}

/-- A load of sixteen words at offset `o` reads the words from `o`. -/
theorem ln_load (vw : View sig κ sp ⟨1, ![n]⟩ .i32) (f : vw.ty.Contents (Elt F)) {off : Fin 1 → ℕ}
    (inb : ∀ a, off a + S16.size a ≤ Shape.size ⟨1, ![n]⟩ a) {k : ℕ} (hk : k < 16) :
    ln (vw.readAt (Elt F) (Rect.unit (s := ⟨1, ![n]⟩) off S16.size inb).toLoadRect f) k = Wd (vw.read (Elt F) f) (off 0 + k) := by
  have hb : off 0 + 16 ≤ n := inb 0
  unfold ln
  rw [View.readAt_apply]
  refine (Wd_apply _ _).trans ?_
  congr 1
  show off 0 + 1 * (k % 16) = _
  rw [Nat.mod_eq_of_lt hk, Nat.one_mul]

/-- A store of sixteen words at offset `o` replaces the words from `o` and no other. -/
theorem Wd_store (vw : View sig κ sp ⟨1, ![n]⟩ .i32) (f : vw.ty.Contents (Elt F)) {off : Fin 1 → ℕ}
    (inb : ∀ a, off a + S16.size a ≤ Shape.size ⟨1, ![n]⟩ a) (w : S16.Idx → BitVec 32) (p : ℕ) (hp : p < n) :
    Wd (vw.read (Elt F) ((vw.slice (Rect.unit (s := ⟨1, ![n]⟩) off S16.size inb)).write (Elt F) f w Finset.univ)) p
      = if off 0 ≤ p ∧ p < off 0 + 16 then ln w (p - off 0) else Wd (vw.read (Elt F) f) p := by
  set y : Shape.Idx ⟨1, ![n]⟩ := fun a => ⟨p, by obtain rfl : a = 0 := Subsingleton.elim _ _; exact hp⟩ with hy
  have e : ∀ g : Shape.Idx ⟨1, ![n]⟩ → BitVec 32, Wd g p = g y := fun g => by unfold Wd; rw [dif_pos hp]
  rw [e, e]
  split
  · rename_i h
    have hx : y = (Rect.unit (s := ⟨1, ![n]⟩) off S16.size inb).emb
        (fun a => ⟨(p - off 0) % 16, by obtain rfl : a = 0 := Subsingleton.elim _ _; exact Nat.mod_lt _ (by omega)⟩) := by
      funext a
      obtain rfl : a = 0 := Subsingleton.elim _ _
      refine Fin.ext ?_
      show p = off 0 + 1 * ((p - off 0) % 16)
      omega
    rw [hx, View.read_slice_write_emb _ _ _ (Finset.mem_univ _)]
    rfl
  · rename_i h
    refine View.read_slice_write_of_not_mem _ _ _ _ fun hm => h ?_
    obtain ⟨x, -, hx⟩ := Finset.mem_map.mp hm
    have h0 : off 0 + 1 * (x 0).val = p := congrArg (fun z : Shape.Idx ⟨1, ![n]⟩ => (z 0).val) hx
    have hx0 : (x 0).val < 16 := (x 0).isLt
    omega

end Access

section Scatter

variable {n : ℕ} {F : FTy → Type} [FloatOps F]

/-- One lane's part in an indexed store, on the words. -/
def putLane (idx val : S16.Idx → BitVec 32) (mask : S16.Idx → BitVec 1) (add : Bool) (k : ℕ) (g : ℕ → BitVec 32) : ℕ → BitVec 32 :=
  if ln mask k = 1 then
    Function.update g (ln idx k).toNat (if add then g (ln idx k).toNat + ln val k else ln val k)
  else g

/-- One lane's part in an indexed store, on the buffer. -/
def putAt (idx val : IVec S16 32) (mask : IVec S16 1) (add : Bool)
    (h : ∀ a x, ((![idx] : Fin 1 → IVec S16 32) a x).toNat < Shape.size ⟨1, ![n]⟩ a)
    (g : Shape.Idx ⟨1, ![n]⟩ → BitVec 32) (k : Fin 16) : Shape.Idx ⟨1, ![n]⟩ → BitVec 32 :=
  if mask (Shape.ofLane (d := ![16]) k) = 1 then
    fun j => if ∀ a, (j a).val = (idxAt (s := ⟨1, ![n]⟩) ![idx] h (Shape.ofLane (d := ![16]) k) a).val then
      (if add then Elt.idxAdd (F := F) .i32 (g (idxAt (s := ⟨1, ![n]⟩) ![idx] h (Shape.ofLane (d := ![16]) k)))
          (val (Shape.ofLane (d := ![16]) k)) else val (Shape.ofLane (d := ![16]) k)) else g j
  else g

/-- One lane's step of a scatter, read as words. -/
theorem Wd_putAt (idx val : IVec S16 32) (mask : IVec S16 1) (add : Bool)
    (h : ∀ a x, ((![idx] : Fin 1 → IVec S16 32) a x).toNat < Shape.size ⟨1, ![n]⟩ a)
    (g : Shape.Idx ⟨1, ![n]⟩ → BitVec 32) (k : Fin 16) :
    Wd (putAt (F := F) idx val mask add h g k) = putLane idx val mask add k.val (Wd g) := by
  unfold putLane putAt
  have hi : (ln idx k.val).toNat < n := by
    have := h 0 (Shape.ofLane (d := ![16]) k)
    rw [← ln_ofLane idx k]; exact this
  rw [ln_ofLane mask k, ln_ofLane val k]
  by_cases hm : ln mask k.val = 1
  · rw [if_pos hm, if_pos hm]
    have hiv : ∀ a, (idxAt (s := ⟨1, ![n]⟩) ![idx] h (Shape.ofLane (d := ![16]) k) a).val = (ln idx k.val).toNat := fun a => by
      obtain rfl : a = 0 := Subsingleton.elim _ _
      rw [← ln_ofLane idx k]; rfl
    have hg : g (idxAt (s := ⟨1, ![n]⟩) ![idx] h (Shape.ofLane (d := ![16]) k)) = Wd g (ln idx k.val).toNat := by
      rw [Wd_apply g, hiv]
    rw [hg]
    funext p
    by_cases hp : p < n
    · have e : ∀ g : Shape.Idx ⟨1, ![n]⟩ → BitVec 32, Wd g p
          = g (fun a => ⟨p, by obtain rfl : a = 0 := Subsingleton.elim _ _; exact hp⟩) := fun g => by
        unfold Wd; rw [dif_pos hp]
      rw [e]
      by_cases hpi : p = (ln idx k.val).toNat
      · subst hpi
        rw [if_pos (fun a => by obtain rfl : a = 0 := Subsingleton.elim _ _; exact (hiv 0).symm), Function.update_self]
        rfl
      · rw [if_neg (fun hc => hpi ((hc 0).trans (hiv 0))), Function.update_of_ne hpi, e]
    · have hne : p ≠ (ln idx k.val).toNat := by omega
      rw [Function.update_of_ne hne]
      unfold Wd; rw [dif_neg hp, dif_neg hp]
  · rw [if_neg hm, if_neg hm]

/-- A property that every lane preserves holds after the lanes still to come. -/
theorem putAt_ind (idx val : IVec S16 32) (mask : IVec S16 1) (add : Bool)
    (h : ∀ a x, ((![idx] : Fin 1 → IVec S16 32) a x).toNat < Shape.size ⟨1, ![n]⟩ a)
    (P : ℕ → (ℕ → BitVec 32) → Prop)
    (hs : ∀ k, k < 16 → ∀ g, P k g → P (k + 1) (putLane idx val mask add k g)) (m : ℕ) :
    m ≤ 16 → ∀ l : List (Fin 16), l.map Fin.val = List.range' (16 - m) m →
      ∀ g : Shape.Idx ⟨1, ![n]⟩ → BitVec 32, P (16 - m) (Wd g) → P 16 (Wd (l.foldl (putAt (F := F) idx val mask add h) g)) := by
  induction m with
  | zero =>
    intro _ l hl g hg
    rw [List.range'_zero, List.map_eq_nil_iff] at hl
    subst hl; exact hg
  | succ m ih =>
    intro hm l hl g hg
    cases l with
    | nil => simp at hl
    | cons k l =>
      rw [List.range'_succ, List.map_cons, List.cons.injEq] at hl
      obtain ⟨hk, hl⟩ := hl
      rw [List.foldl_cons]
      have e1 : 16 - (m + 1) + 1 = 16 - m := by omega
      refine ih (by omega) l (by rw [hl, e1]) _ ?_
      have hstep := hs (16 - (m + 1)) (by omega) (Wd g) hg
      rw [e1, ← hk] at hstep
      rw [Wd_putAt]; exact hstep

/-- An indexed store is its lanes' parts in turn. -/
theorem storeIdx_eq (f : Shape.Idx ⟨1, ![n]⟩ → BitVec 32) (idx : IVec S16 32) (val : IVec S16 32) (mask : IVec S16 1)
    (add : Bool) (h : ∀ a x, ((![idx] : Fin 1 → IVec S16 32) a x).toNat < Shape.size ⟨1, ![n]⟩ a) :
    storeIdx (F := F) (s := ⟨1, ![n]⟩) (e := .i32) f ![idx] val mask add h
      = (List.finRange 16).foldl (putAt (F := F) idx val mask add h) f := by
  unfold storeIdx
  refine congrFun (congrFun (congrArg List.foldl ?_) _) _
  funext g k
  dsimp only
  unfold putAt
  by_cases hm : mask (Shape.ofLane k) = 1
  · refine (if_pos hm).trans (Eq.trans ?_ (if_pos hm).symm)
    funext j
    by_cases hj : ∀ a, (j a).val = (idxAt (s := ⟨1, ![n]⟩) ![idx] h (Shape.ofLane (d := ![16]) k) a).val
    · exact (if_pos hj).trans (if_pos hj).symm
    · exact (if_neg hj).trans (if_neg hj).symm
  · exact (if_neg hm).trans (if_neg hm).symm

/-- What holds of the words before an indexed store and is kept by each lane in turn holds of the words after it. -/
theorem storeIdx_ind (f : Shape.Idx ⟨1, ![n]⟩ → BitVec 32) (idx : IVec S16 32) (val : IVec S16 32) (mask : IVec S16 1)
    (add : Bool) (h : ∀ a x, ((![idx] : Fin 1 → IVec S16 32) a x).toNat < Shape.size ⟨1, ![n]⟩ a)
    (P : ℕ → (ℕ → BitVec 32) → Prop) (h0 : P 0 (Wd f))
    (hs : ∀ k, k < 16 → ∀ g, P k g → P (k + 1) (putLane idx val mask add k g)) :
    P 16 (Wd (n := n) (storeIdx (F := F) (s := ⟨1, ![n]⟩) (e := .i32) f ![idx] val mask add h)) := by
  rw [storeIdx_eq]
  exact putAt_ind (F := F) idx val mask add h P hs 16 (le_refl _) (List.finRange 16) (by decide) f h0

/-- The mask of lane zero alone. -/
theorem ln_lane0 {k : ℕ} (hk : k < 16) : ln k0_pay21 k = 1 ↔ k = 0 := by
  have e : ln k0_pay21 k = IntOp.cmpi .eq (BitVec.ofNat 32 (0 * 16 + k % 16)) 0#32 := rfl
  rw [e, Nat.mod_eq_of_lt hk, Nat.zero_mul, Nat.zero_add]
  revert k; decide

/-- An indexed store masked to lane zero replaces one word. -/
theorem storeIdx_lane0 (f : Shape.Idx ⟨1, ![n]⟩ → BitVec 32) (idx : IVec S16 32) (val : IVec S16 32)
    (h : ∀ a x, ((![idx] : Fin 1 → IVec S16 32) a x).toNat < Shape.size ⟨1, ![n]⟩ a) :
    Wd (n := n) (storeIdx (F := F) (s := ⟨1, ![n]⟩) (e := .i32) f ![idx] val k0_pay21 false h)
      = Function.update (Wd f) (ln idx 0).toNat (ln val 0) := by
  refine storeIdx_ind (F := F) f idx val k0_pay21 false h
    (fun k g => if k = 0 then g = Wd f else g = Function.update (Wd f) (ln idx 0).toNat (ln val 0)) rfl ?_
  intro k hk g hg
  rw [if_neg (Nat.succ_ne_zero k)]
  unfold putLane
  by_cases h0 : k = 0
  · subst h0
    rw [if_pos ((ln_lane0 (by omega)).mpr rfl)]
    rw [if_pos rfl] at hg; subst hg; rfl
  · rw [if_neg (fun hc => h0 ((ln_lane0 hk).mp hc))]
    rw [if_neg h0] at hg; exact hg

end Scatter

/-! ## The prefix count -/

/-- The running sum of a mask's lanes counts its set lanes. -/
theorem ln_scan (mask : IVec S16 1) {k : ℕ} (hk : k < 16) :
    ln (scan .sum (extui 32 mask natLt_1_32)) k = W (Nat.count (fun j => ln mask j = 1) (k + 1)) := by
  have hl : ∀ j : Fin 16, (extui 32 mask natLt_1_32) (Shape.ofLane (d := ![16]) j) = (ln mask j.val).setWidth 32 := fun j => by
    rw [← ln_ofLane mask j]; rfl
  have hb : ∀ b : BitVec 1, b.setWidth 32 = W (if b = 1 then 1 else 0) := by decide
  have e : ∀ k (hk : k < 16), ln (scan .sum (extui 32 mask natLt_1_32)) k
      = ((List.finRange 16).filter (fun j : Fin 16 => 0 < j.val ∧ j.val ≤ k)).foldl
          (fun r j => r + (ln mask j.val).setWidth 32) ((ln mask 0).setWidth 32) := by
    intro k hk
    have : ln (scan .sum (extui 32 mask natLt_1_32)) k
      = ((List.finRange 16).filter (fun j : Fin 16 => 0 < j.val ∧ j.val ≤ k % 16)).foldl
          (fun r j => r + (extui 32 mask natLt_1_32) (Shape.ofLane (d := ![16]) j)) ((extui 32 mask natLt_1_32) (Shape.ofLane (d := ![16]) (0 : Fin 16))) := rfl
    rw [this, Nat.mod_eq_of_lt hk]
    exact (congrArg (fun z => List.foldl _ z _) (hl 0)).trans
      (congrFun (congrFun (congrArg List.foldl (funext₂ fun r j => congrArg (r + ·) (hl j))) _) _)
  rw [e k hk]
  induction k with
  | zero =>
    rw [show (List.finRange 16).filter (fun j : Fin 16 => 0 < j.val ∧ j.val ≤ 0) = [] from by decide]
    rw [List.foldl_nil, hb, Nat.count_succ, Nat.count_zero, Nat.zero_add]
  | succ k ih =>
    have hf : ∀ k : Fin 15, (List.finRange 16).filter (fun j : Fin 16 => 0 < j.val ∧ j.val ≤ k.val + 1)
        = (List.finRange 16).filter (fun j : Fin 16 => 0 < j.val ∧ j.val ≤ k.val) ++ [k.succ] := by decide
    have := hf ⟨k, by omega⟩
    dsimp only at this
    rw [this, List.foldl_append, ih (by omega), List.foldl_cons, List.foldl_nil, hb, W_add,
      Nat.count_succ (fun j => ln mask j = 1) (k + 1)]
    rfl

end Cert.Proof

end
-- ==== Proof.Steps.lean ====
/-
  What one trip of each counting loop does to the words: a trip that lists matches, a trip that counts them by chunk, a
  trip that adds a prefix, a trip that puts one match in its slot.
-/
module

public import proofs.«01_k».proof.Proof.Lanes

@[expose] public section

noncomputable section

namespace Cert.Proof

open Cert.KernelIdeal Cert.KernelIdeal.Gen
open Idealize.ShloMosaic

variable {F : FTy → Type} [FloatOps F] {v : ℕ → ℕ}

/-- Lane `k` of the lane numbers is `k`. -/
theorem ln_iota {k : ℕ} (hk : k < 16) : ln (iota .scVector S16 32 [0] iota_S16_d0_w32_scVector) k = W k := by
  have e : ln (iota .scVector S16 32 [0] iota_S16_d0_w32_scVector) k = W (0 * 16 + k % 16) := rfl
  rw [e, Nat.mod_eq_of_lt hk]; simp

/-- A bit is one when its truth value is true. -/
theorem ofBool_eq_one {b : Bool} : BitVec.ofBool b = 1 ↔ b = true := by cases b <;> decide

/-! ## Listing the matches -/

section Match

variable (i : grid0.Coords) (x : Vec F S16 .i32)

/-- A lane is in the mask when its word names a row of the tile. -/
theorem ln_mine {k : ℕ} (w : ℕ) (hw : w < 4294967296) (hx : ln x k = W w) :
    ln (k0_pay23 (F := F) i x) k = 1 ↔ lo i ≤ w ∧ w < lo i + 256 := by
  have hl := lo_lt i
  have e : ln (k0_pay23 (F := F) i x) k = IntOp.andi
      (IntOp.cmpi .sge (ln x k) ((BitVec.ofNat 32 (i 1).val * 2#32 + BitVec.ofNat 32 (i 0).val) * 256#32))
      (IntOp.cmpi .slt (ln x k) ((BitVec.ofNat 32 (i 1).val * 2#32 + BitVec.ofNat 32 (i 0).val) * 256#32 + 256#32)) := rfl
  rw [e, loW, W_add, hx]
  have h2 : ∀ a b : BitVec 1, IntOp.andi a b = 1 ↔ a = 1 ∧ b = 1 := by decide
  rw [h2]
  show BitVec.ofBool ((W (lo i)).sle (W w)) = 1 ∧ BitVec.ofBool ((W w).slt (W (lo i + 256))) = 1 ↔ _
  rw [ofBool_eq_one, ofBool_eq_one]
  by_cases hs : w < 2147483648
  · rw [W_sle (by omega) hs, W_slt hs (by omega)]; simp
  · have hneg : (W w).toInt < 0 := by
      rw [BitVec.toInt_eq_toNat_cond, W_toNat hw, if_neg (by omega)]; omega
    constructor
    · rintro ⟨h, -⟩
      rw [BitVec.sle, W_toInt (n := lo i) (by omega)] at h
      simp at h; omega
    · rintro ⟨-, h⟩; omega

variable {t : ℕ} (hx : ∀ k, k < 16 → ln x k = W (v (16 * t + k))) (hv : ∀ p, v p < 4294967296)

include hx hv in
/-- A lane is in the mask when its position is a match. -/
theorem mine_iff {k : ℕ} (hk : k < 16) : ln (k0_pay23 (F := F) i x) k = 1 ↔ Mine v (lo i) (16 * t + k) :=
  ln_mine i x (v (16 * t + k)) (hv _) (hx k hk)

include hx hv in
/-- The rank grows lane by lane by the lanes in the mask. -/
theorem count_mine {k : ℕ} (hk : k ≤ 16) :
    rank v (lo i) (16 * t) + Nat.count (fun j => ln (k0_pay23 (F := F) i x) j = 1) k = rank v (lo i) (16 * t + k) := by
  unfold rank
  induction k with
  | zero => rw [Nat.count_zero]; rfl
  | succ k ih =>
    rw [Nat.count_succ, ← Nat.add_assoc, ih (by omega), show 16 * t + (k + 1) = (16 * t + k) + 1 from rfl, Nat.count_succ]
    congr 1
    have := mine_iff i x hx hv (k := k) (by omega)
    by_cases h : Mine v (lo i) (16 * t + k)
    · rw [if_pos h, if_pos (this.mpr h)]
    · rw [if_neg h, if_neg (fun hc => h (this.mp hc))]

include hx hv in
/-- The count so far and the running sum make the rank past the lane. -/
theorem ln_count {k : ℕ} (hk : k < 16) :
    W (rank v (lo i) (16 * t)) + ln (k0_pay25 (F := F) i x) k = W (rank v (lo i) (16 * t + k + 1)) := by
  have e : ln (k0_pay25 (F := F) i x) k = W (Nat.count (fun j => ln (k0_pay23 (F := F) i x) j = 1) (k + 1)) := ln_scan _ hk
  rw [e, W_add, count_mine i x hx hv (by omega)]; rfl

include hx hv in
/-- The slot each lane of a trip names: for a match, its number. -/
theorem ln_slot {k : ℕ} (hk : k < 16) :
    ln (k0_pay26 (F := F) i (W (rank v (lo i) (16 * t))) x) k
      = W (if Mine v (lo i) (16 * t + k) then rank v (lo i) (16 * t + k) else 0) := by
  have e : ln (k0_pay26 (F := F) i (W (rank v (lo i) (16 * t))) x) k
      = if ln (k0_pay23 (F := F) i x) k = 1 then (W (rank v (lo i) (16 * t)) + ln (k0_pay25 (F := F) i x) k) - 1#32 else 0#32 := rfl
  rw [e, ln_count i x hx hv hk]
  have := mine_iff i x hx hv hk
  by_cases h : Mine v (lo i) (16 * t + k)
  · rw [if_pos h, if_pos (this.mpr h)]
    have : rank v (lo i) (16 * t + k + 1) = rank v (lo i) (16 * t + k) + 1 := by
      unfold rank; rw [Nat.count_succ, if_pos h]
    rw [this]
    exact W_sub (a := _ + 1) (b := 1) (by omega)
  · rw [if_neg h, if_neg (fun hc => h (this.mp hc))]

include hx hv in
/-- Every slot of the masked scatter lies in the buffer. -/
theorem chk1_of (ht : t < 1024) : k0_chk1 (k0_pay26 (F := F) i (W (rank v (lo i) (16 * t))) x) := by
  intro a y
  obtain rfl : a = 0 := Subsingleton.elim _ _
  show (k0_pay26 (F := F) i (W (rank v (lo i) (16 * t))) x y).toNat < 16416
  rw [ln_apply (k0_pay26 (F := F) i (W (rank v (lo i) (16 * t))) x) y, ln_slot i x hx hv (show (y 0).val < 16 from (y 0).isLt)]
  have hr := rank_le (v := v) (lo := lo i) (16 * t + (y 0).val)
  have : (y 0).val < 16 := (y 0).isLt
  split
  · rw [W_toNat (by omega)]; omega
  · decide

include hx hv in
/-- A trip's indexed store puts the trip's matches after those listed before. -/
theorem match_step (ht : t < 1024) (tt : Fin k0_t1_loop.trips) (htt : tt.val = t) {n : ℕ} (hn : n = 16416) (f : Shape.Idx ⟨1, ![n]⟩ → BitVec 32)
    (hf : ∀ j, j < rank v (lo i) (16 * t) → Wd f j = W (pack v (pos v (lo i) j)))
    (h : ∀ a y, ((![k0_pay26 (F := F) i (W (rank v (lo i) (16 * t))) x] : Fin 1 → IVec S16 32) a y).toNat < Shape.size ⟨1, ![n]⟩ a) :
    ∀ j, j < rank v (lo i) (16 * (t + 1)) →
      Wd (n := n) (storeIdx (F := F) (s := ⟨1, ![n]⟩) (e := .i32) f ![k0_pay26 (F := F) i (W (rank v (lo i) (16 * t))) x]
        (k0_pay24 (F := F) tt x) (k0_pay23 (F := F) i x) false h) j = W (pack v (pos v (lo i) j)) := by
  have key := storeIdx_ind (F := F) f (k0_pay26 (F := F) i (W (rank v (lo i) (16 * t))) x) (k0_pay24 (F := F) tt x)
    (k0_pay23 (F := F) i x) false h
    (fun k g => ∀ j, j < rank v (lo i) (16 * t + k) → g j = W (pack v (pos v (lo i) j))) hf ?_
  · exact key
  intro k hk g hg j hj
  unfold putLane
  have hm := mine_iff i x hx hv hk
  have hslot := ln_slot i x hx hv hk
  by_cases h : Mine v (lo i) (16 * t + k)
  · rw [if_pos (hm.mpr h), hslot, if_pos h]
    have hr := rank_le (v := v) (lo := lo i) (16 * t + k)
    have hp : 16 * t + k < 16384 := by omega
    rw [W_toNat (by omega)]
    by_cases hjr : j = rank v (lo i) (16 * t + k)
    · subst hjr
      rw [Function.update_self, pos_rank hp h]
      have e : ln (k0_pay24 (F := F) tt x) k = ln x k * 16384#32
          + (ln (iota .scVector S16 32 [0] iota_S16_d0_w32_scVector) k + (0#32 + Scf.iv 0#32 1#32 tt * 1#32) * 16#32) := rfl
      rw [if_neg (by decide), e, hx k hk, ln_iota hk, iv_W, htt, W_mul, W_mul, W_add, W_mul, W_add, W_add]
      unfold pack
      congr 1; omega
    · rw [Function.update_of_ne hjr]
      have : rank v (lo i) (16 * t + (k + 1)) = rank v (lo i) (16 * t + k) + 1 := by
        unfold rank; rw [← Nat.add_assoc, Nat.count_succ, if_pos h]
      exact hg j (by omega)
  · rw [if_neg (fun hc => h (hm.mp hc))]
    have : rank v (lo i) (16 * t + (k + 1)) = rank v (lo i) (16 * t + k) := by
      unfold rank; rw [← Nat.add_assoc, Nat.count_succ, if_neg h]; rfl
    exact hg j (by omega)

include hx hv in
/-- A trip's new count. -/
theorem match_count :
    Scalar.addi (W (rank v (lo i) (16 * t))) (extractAt ![0] (k0_pay27 (F := F) i x) inpos_S1_p0) = W (rank v (lo i) (16 * (t + 1))) := by
  have e : extractAt ![0] (k0_pay27 (F := F) i x) inpos_S1_p0 = ln (k0_pay25 (F := F) i x) 15 := rfl
  show W (rank v (lo i) (16 * t)) + extractAt ![0] (k0_pay27 (F := F) i x) inpos_S1_p0 = _
  rw [e, ln_count i x hx hv (by omega)]
  congr 2

end Match

/-! ## Counting by chunk -/

/-- A packed match is below 2²⁷. -/
theorem pack_lt {p : ℕ} (hp : p < 16384) {l : ℕ} (hl : l + 256 ≤ 8192) (h : Mine v l p) : pack v p < 134217728 := by
  unfold Mine at h; unfold pack; omega

/-- A packed match's value. -/
theorem pack_div {p : ℕ} (hp : p < 16384) : pack v p / 16384 = v p := by unfold pack; omega
/-- A packed match's position. -/
theorem pack_mod {p : ℕ} (hp : p < 16384) : pack v p % 16384 = p := by unfold pack; omega

section Count

variable (i : grid0.Coords) (x : Vec F S16 .i32)

/-- The lanes of a counting trip that hold a match. -/
theorem ln_active {n : ℕ} (hn : n ≤ 16384) (g : Fin (k0_t3_loop (W n)).trips) {k : ℕ} (hk : k < 16) :
    ln (k0_pay3 (iota .scVector S16 32 [0] iota_S16_d0_w32_scVector) (W n) 1#32 0#32 0#32 1#32 g) k = 1 ↔ g.val * 16 + k < n := by
  have e : ln (k0_pay3 (iota .scVector S16 32 [0] iota_S16_d0_w32_scVector) (W n) 1#32 0#32 0#32 1#32 g) k
      = BitVec.ofBool (((0#32 + Scf.iv 0#32 1#32 g * 1#32) * 16#32 + ln (iota .scVector S16 32 [0] iota_S16_d0_w32_scVector) k : BitVec 32).slt (W n)) := rfl
  have hg := lt_of_lt_of_eq g.isLt (t3_trips hn)
  rw [e, iv_W, ln_iota hk, W_mul, W_add, W_mul, W_add, ofBool_eq_one, W_slt (by omega) (by omega)]
  simp

/-- The word each lane of a counting trip names. -/
abbrev binIdx (mask : IVec S16 1) (l : BitVec 32) : IVec S16 32 :=
  k0_pay29 mask (k0_pay4 (F := F) l x) 4#32 (k0_pay5 (F := F) l x) (k0_pay6 (F := F) l x) (Scalar.cmpi .sgt 4#32 0#32)

/-- The histogram's index at a lane. -/
theorem ln_binIdx (mask : IVec S16 1) (l : BitVec 32) (k : ℕ) :
    ln (binIdx (F := F) x mask l) k = if ln mask k = 1 then fdiv .vector (fdiv .vector (ln x k) (W 16384) - l) (W 4) + 1#32 else 63#32 := rfl

/-- The histogram's index at a lane that holds a match is one past its chunk. -/
theorem ln_bin {mask : IVec S16 1} {k : ℕ} (hm : ln mask k = 1) {p : ℕ} (hp : p < 16384) (h : Mine v (lo i) p)
    (hx : ln x k = W (pack v p)) : ln (binIdx (F := F) x mask (W (lo i))) k = W ((v p - lo i) / 4 + 1) := by
  have hl := lo_lt i
  have hpl := pack_lt hp hl h
  rw [ln_binIdx, if_pos hm, hx, fdiv_W _ (by omega) (by omega) (by omega), pack_div hp, W_sub h.1]
  unfold Mine at h
  rw [fdiv_W _ (by omega) (by omega) (by omega), W_add]

variable {n : ℕ} (hn : n = total v (lo i)) (g : Fin (k0_t3_loop (W n)).trips)
  (hx : ∀ k, k < 16 → g.val * 16 + k < n → ln x k = W (pack v (pos v (lo i) (g.val * 16 + k))))

/-- The lanes of trip `g` that hold one of the `n` matches. -/
abbrev act : IVec S16 1 := k0_pay3 (iota .scVector S16 32 [0] iota_S16_d0_w32_scVector) (W n) 1#32 0#32 0#32 1#32 g

include hn hx in
/-- The histogram's index at a lane of trip `g`. -/
theorem ln_chunk {k : ℕ} (hk : k < 16) :
    ln (binIdx (F := F) x (act g) (W (lo i))) k = W (if g.val * 16 + k < n then bin v (lo i) (g.val * 16 + k) + 1 else 63) := by
  have hnl : n ≤ 16384 := hn.le.trans total_le
  by_cases h : g.val * 16 + k < n
  · have hps := pos_spec (v := v) (lo := lo i) (j := g.val * 16 + k) (h.trans_eq hn)
    rw [ln_bin i x ((ln_active hnl g hk).mpr h) hps.1 hps.2.1 (hx k hk h), if_pos h]; rfl
  · rw [ln_binIdx, if_neg (fun hc => h ((ln_active hnl g hk).mp hc)), if_neg h]

include hn hx in
/-- Every index of the histogram lies in the buffer. -/
theorem chk3_of : k0_chk3 (binIdx (F := F) x (act g) (W (lo i))) := by
  intro a y
  obtain rfl : a = 0 := Subsingleton.elim _ _
  show (binIdx (F := F) x (act g) (W (lo i)) y).toNat < 80
  rw [ln_apply (binIdx (F := F) x (act g) (W (lo i))) y, ln_chunk i x hn g hx (show (y 0).val < 16 from (y 0).isLt)]
  split
  · rename_i h
    have := bin_lt (v := v) (lo := lo i) (h.trans_eq hn)
    rw [W_toNat (by omega)]; omega
  · decide

include hn hx in
/-- A counting trip adds one to the word of each of its matches' chunks. -/
theorem count_step (f : Shape.Idx ⟨1, ![80]⟩ → BitVec 32)
    (hf0 : Wd f 0 = W 0)
    (hf : ∀ b, b < 63 → Wd f (b + 1) = W (within v (lo i) b (min (g.val * 16) n)))
    (h : ∀ a y, ((![binIdx (F := F) x (act g) (W (lo i))] : Fin 1 → IVec S16 32) a y).toNat < Shape.size ⟨1, ![80]⟩ a) :
    Wd (n := 80) (storeIdx (F := F) (s := ⟨1, ![80]⟩) (e := .i32) f ![binIdx (F := F) x (act g) (W (lo i))] k0_pay22 (act g) true h) 0 = W 0
    ∧ ∀ b, b < 63 → Wd (n := 80) (storeIdx (F := F) (s := ⟨1, ![80]⟩) (e := .i32) f ![binIdx (F := F) x (act g) (W (lo i))] k0_pay22
        (act g) true h) (b + 1) = W (within v (lo i) b (min ((g.val + 1) * 16) n)) := by
  have hnl : n ≤ 16384 := hn.le.trans total_le
  have key := storeIdx_ind (F := F) f (binIdx (F := F) x (act g) (W (lo i))) k0_pay22 (act g) true h
    (fun k q => q 0 = W 0 ∧ ∀ b, b < 63 → q (b + 1) = W (within v (lo i) b (min (g.val * 16 + k) n))) ⟨hf0, hf⟩ ?_
  · rw [show (g.val + 1) * 16 = g.val * 16 + 16 by omega]; exact key
  intro k hk q ⟨hq0, hq⟩
  unfold putLane
  have hm := ln_active hnl g hk
  by_cases hlt : g.val * 16 + k < n
  · rw [if_pos (hm.mpr hlt), ln_chunk i x hn g hx hk, if_pos hlt]
    have hb := bin_lt (v := v) (lo := lo i) (hlt.trans_eq hn)
    rw [W_toNat (by omega)]
    refine ⟨by rw [Function.update_of_ne (by omega)]; exact hq0, fun b hb63 => ?_⟩
    rw [show min (g.val * 16 + k) n = g.val * 16 + k by omega] at hq
    rw [show min (g.val * 16 + (k + 1)) n = (g.val * 16 + k) + 1 by omega]
    have hw : within v (lo i) b (g.val * 16 + k + 1) = within v (lo i) b (g.val * 16 + k)
        + if bin v (lo i) (g.val * 16 + k) = b then 1 else 0 := by unfold within; rw [Nat.count_succ]
    rw [hw]
    by_cases hbe : bin v (lo i) (g.val * 16 + k) = b
    · subst hbe
      rw [Function.update_self, if_pos rfl, if_pos rfl, hq _ hb63]
      exact W_add _ 1
    · rw [Function.update_of_ne (by omega), if_neg hbe, hq b hb63]; rfl
  · rw [if_neg (fun hc => hlt (hm.mp hc))]
    refine ⟨hq0, fun b hb63 => ?_⟩
    rw [hq b hb63]
    congr 2; omega

end Count

/-! ## One word at a time -/

/-- A word broadcast over the lanes, as the index of an indexed store, is in range when the word is. -/
theorem bcast_inb {n p : ℕ} (hp : p < n) (hp' : p < 4294967296) :
    ∀ a x, ((![broadcast S16 (W p)] : Fin 1 → IVec S16 32) a x).toNat < Shape.size ⟨1, ![n]⟩ a := by
  intro a x
  obtain rfl : a = 0 := Subsingleton.elim _ _
  show (W p).toNat < n
  rw [W_toNat hp']; exact hp

/-- Every lane of a word spread over a vector is the word. -/
theorem ln_broadcast (w : BitVec 32) (k : ℕ) : ln (broadcast S16 w) k = w := rfl

/-- Lane zero, taken out of a vector as the kernel does. -/
theorem lane0 (x : Vec F S16 .i32) : extractAt ![0] (extractStridedSlice S1 ![0] x slices_S16_o0_S1) inpos_S1_p0 = ln x 0 := by
  show x _ = x _
  congr 1; funext a
  obtain rfl : a = 0 := Subsingleton.elim _ _
  rfl

/-- A prefix sum's step at lane zero. -/
theorem ln_pay31 (a b : Vec F S16 .i32) : ln (k0_pay31 (F := F) a b) 0 = ln b 0 + ln a 0 := by
  rw [← lane0 a]; rfl

/-- A cursor's step at lane zero. -/
theorem ln_pay1 (a : Vec F S16 .i32) : ln (k0_pay1 (F := F) a) 0 = ln a 0 + 1#32 := rfl

end Cert.Proof

end
-- ==== Proof.Kern.lean ====
/-
  The kernel as the launch theorem sees it: its configuration, the resources it is proved over, the arrays and buffers its
  tiles name, and the loads and stores of those buffers in the form the loops below use.
-/
module

public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Steps

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

/-- The program's labels. -/
abbrev ΛP : Labels := Pipeline.Sig Λ₀ (Fin 0) fun p => (pcfgs (F := F) p).Adm
/-- The call on the vector subcores. -/
abbrev K : SparseCore.Cfg τ sig (ΛP (F := F)) 1 := sc (F := F)
/-- The program's body table. -/
abbrev D [FloatOps F] : Defs nD τ sig (Elt F) (ΛP (F := F)) := Pipeline.defs pcfgs defs₀
/-- No loop of the kernel needs a variant of its own. -/
abbrev 𝒱₀ : Variants := Variants.none
/-- No loop of the program does. -/
abbrev 𝒱 : Variants := 𝒱₀.lift
/-- The one value of the empty variant. -/
abbrev v₀ : 𝒱.V := Sum.inl none

/-- The side conditions on the semaphores of the call. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the handshakes' rounds, the transfers' counters -/

/-- The rounds of the handshakes. -/
abbrev UH : Type := URounds (GSem nD τ sig) ℕ
/-- Those and the counters of the transfers. -/
abbrev UU : Type := UH × Counters
/-- The resources of the proof. -/
abbrev MM (F : FTy → Type) : Type := MT nD τ sig (HIx 1) (Elt F) ℕ UU ℕ

local notation "𝕄" => MM F

/-- Where the rounds lie among the resources. -/
abbrev EH : Emb UH (MT nD τ sig (HIx 1) (Elt F) ℕ UU ℕ) := embL
/-- Where the counters lie among the resources. -/
abbrev EC : UEmb Counters (MT nD τ sig (HIx 1) (Elt F) ℕ UU ℕ) := countersEmb (U := UU)

/-! ## The arrays and buffers -/

/-- The list of rows to read, the table, the result; a tile's copy of the list, its matches unsorted and sorted, the
    cursors, the two chunk buffers. -/
abbrev aI : Memref sig .scVector .hbm S16384 .i32 := Memref.whole main_v0_scv
/-- The table. -/
abbrev aT : Memref sig .scVector .hbm S8192x8192 .f32 := Memref.whole main_arg1_scv
/-- The result. -/
abbrev aO : Memref sig .scVector .hbm S16384x8192 .f32 := Memref.whole main_v1_scv
/-- A tile's copy of the list. -/
abbrev sI : Memref sig .scVector .vmem S16400 .i32 := Memref.whole cc0_scratch0
/-- A tile's matches, unsorted. -/
abbrev sU : Memref sig .scVector .vmem S16416 .i32 := Memref.whole cc0_scratch1
/-- A tile's matches, sorted by chunk. -/
abbrev sP : Memref sig .scVector .vmem S16416 .i32 := Memref.whole cc0_scratch2
/-- The cursors. -/
abbrev sC : Memref sig .scVector .vmem S80 .i32 := Memref.whole cc0_scratch3
/-- The first chunk buffer. -/
abbrev bA : Memref sig .scVector .vmem S4x8192 .f32 := Memref.whole cc0_scratch4
/-- The second chunk buffer. -/
abbrev bB : Memref sig .scVector .vmem S4x8192 .f32 := Memref.whole cc0_scratch5

/-- The SparseCore of the tile at `L`. -/
abbrev cV (L : grid0.Coords) : Fin τ.nSC := (L 0).castLE hcore0
/-- The number of that tile in its SparseCore. -/
abbrev jV (L : grid0.Coords) : Fin τ.nSub := (L 1).castLE hsub0
/-- The tile at `L` of device `d`. -/
abbrev thr (d : Dev nD) (L : grid0.Coords) : Thread nD τ := V d (cV L) (jV L)

variable [FloatOps F] (d : Dev nD) (L : grid0.Coords)

/-- What the program `e` of the tile at `L` needs so as to end in `Q`. -/
abbrev run {α : Type} (e : Prog (TpuEff nD τ sig (Elt F) Λ₀ (.scVector (cV L) (jV L))) α) (Q : α → sProp 𝕄) : sProp 𝕄 :=
  wp frame (wpE (defs₀ (F := F)) 𝒱₀ (thr d L) none) Set.univ e Q

/-- A masked scatter into a buffer of words held whole. -/
theorem wp_scatter {α : Type} {Q : α → sProp 𝕄} {n : ℕ} {base : Memref sig .scVector .vmem ⟨1, ![n]⟩ .i32} {idxs : Fin 1 → IVec S16 32}
    {v : Vec F S16 .i32} {mask : IVec S16 1} {add : Bool}
    {h : ∀ a x, (idxs a x).toNat < Shape.size ⟨1, ![n]⟩ a} {hs : (base.access (.whole ⟨1, ![n]⟩)).Stores Finset.univ}
    {k : PUnit → Prog (TpuEff nD τ sig (Elt F) Λ₀ (.scVector (cV L) (jV L))) α}
    {f g : Buf (Elt F) ((base.access (.whole ⟨1, ![n]⟩)).loc (thr d L))}
    (hset : (base.access (.whole ⟨1, ![n]⟩)).set = Finset.univ)
    (hg : (base.access (.whole ⟨1, ![n]⟩)).write (Elt F) f (storeIdx ((base.access (.whole ⟨1, ![n]⟩)).read (Elt F) f) idxs v mask add h) Finset.univ = g) :
    ((base.access (.whole ⟨1, ![n]⟩)).loc (thr d L) ↦{fullShare} f)
      ⊢ iprop((((base.access (.whole ⟨1, ![n]⟩)).loc (thr d L) ↦{fullShare} g) -∗ run d L (k ⟨⟩) Q)
        -∗ run d L (SparseCore.vectorStoreIdx base idxs v mask add h hs >>= k) Q) := by
  have := SparseCore.wp_vectorStoreIdx (defs := defs₀ (F := F)) (Ix := HIx 1) (Name := ℕ) (U := UU) (Lvl := ℕ) 𝒱₀ (thr d L) none Set.univ (base := base) (idxs := idxs) (v := v) (mask := mask) (add := add) (h := h) (hs := hs) (k := k) (Q := Q) (f := f)
  rw [hset, hg] at this
  exact this

/-- The scatter into the list of matches. -/
theorem wp_scatterU {α : Type} {Q : α → sProp 𝕄} {idxs : Fin 1 → IVec S16 32} {v : Vec F S16 .i32} {mask : IVec S16 1} {add : Bool}
    {h : ∀ a x, (idxs a x).toNat < S16416.size a} {hs : (sU.access (.whole S16416)).Stores Finset.univ}
    {k : PUnit → Prog (TpuEff nD τ sig (Elt F) Λ₀ (.scVector (cV L) (jV L))) α} (f : Buf (Elt F) ((thr d L).loc cc0_scratch1)) :
    ((thr d L).loc cc0_scratch1 ↦{fullShare} f)
      ⊢ iprop((((thr d L).loc cc0_scratch1 ↦{fullShare} (storeIdx (F := F) (s := S16416) (e := .i32) f idxs v mask add h)) -∗ run d L (k ⟨⟩) Q)
        -∗ run d L (SparseCore.vectorStoreIdx sU idxs v mask add h hs >>= k) Q) :=
  wp_scatter d L (base := sU) (Memref.set_access_whole cc0_scratch1)
    ((Memref.write_access_whole_univ (Elt F) cc0_scratch1 _ _).trans
      (congrArg (fun g => storeIdx (F := F) (s := S16416) (e := .i32) g idxs v mask add h) (Memref.read_access_whole (Elt F) cc0_scratch1 f)))

/-- The scatter into the sorted list. -/
theorem wp_scatterP {α : Type} {Q : α → sProp 𝕄} {idxs : Fin 1 → IVec S16 32} {v : Vec F S16 .i32} {mask : IVec S16 1} {add : Bool}
    {h : ∀ a x, (idxs a x).toNat < S16416.size a} {hs : (sP.access (.whole S16416)).Stores Finset.univ}
    {k : PUnit → Prog (TpuEff nD τ sig (Elt F) Λ₀ (.scVector (cV L) (jV L))) α} (f : Buf (Elt F) ((thr d L).loc cc0_scratch2)) :
    ((thr d L).loc cc0_scratch2 ↦{fullShare} f)
      ⊢ iprop((((thr d L).loc cc0_scratch2 ↦{fullShare} (storeIdx (F := F) (s := S16416) (e := .i32) f idxs v mask add h)) -∗ run d L (k ⟨⟩) Q)
        -∗ run d L (SparseCore.vectorStoreIdx sP idxs v mask add h hs >>= k) Q) :=
  wp_scatter d L (base := sP) (Memref.set_access_whole cc0_scratch2)
    ((Memref.write_access_whole_univ (Elt F) cc0_scratch2 _ _).trans
      (congrArg (fun g => storeIdx (F := F) (s := S16416) (e := .i32) g idxs v mask add h) (Memref.read_access_whole (Elt F) cc0_scratch2 f)))

/-- The scatter into the cursors. -/
theorem wp_scatterC {α : Type} {Q : α → sProp 𝕄} {idxs : Fin 1 → IVec S16 32} {v : Vec F S16 .i32} {mask : IVec S16 1} {add : Bool}
    {h : ∀ a x, (idxs a x).toNat < S80.size a} {hs : (sC.access (.whole S80)).Stores Finset.univ}
    {k : PUnit → Prog (TpuEff nD τ sig (Elt F) Λ₀ (.scVector (cV L) (jV L))) α} (f : Buf (Elt F) ((thr d L).loc cc0_scratch3)) :
    ((thr d L).loc cc0_scratch3 ↦{fullShare} f)
      ⊢ iprop((((thr d L).loc cc0_scratch3 ↦{fullShare} (storeIdx (F := F) (s := S80) (e := .i32) f idxs v mask add h)) -∗ run d L (k ⟨⟩) Q)
        -∗ run d L (SparseCore.vectorStoreIdx sC idxs v mask add h hs >>= k) Q) :=
  wp_scatter d L (base := sC) (Memref.set_access_whole cc0_scratch3)
    ((Memref.write_access_whole_univ (Elt F) cc0_scratch3 _ _).trans
      (congrArg (fun g => storeIdx (F := F) (s := S80) (e := .i32) g idxs v mask add h) (Memref.read_access_whole (Elt F) cc0_scratch3 f)))

end Cert.Proof

end
-- ==== Proof.Sort.lean ====
/-
  The counting sort a tile runs, loop by loop: listing its matches, counting them by chunk, summing the counts, putting each
  match in its slot.
-/
module

public import proofs.«01_k».proof.Proof.Kern

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords) (v : ℕ → ℕ)

local notation "𝕄" => MM F

omit [FloatOps F] in
/-- The lanes of a load of sixteen words from a known place. -/
theorem ln_at {n : ℕ} {sp : Space} (vw : View sig .scVector sp ⟨1, ![n]⟩ .i32) (f : vw.ty.Contents (Elt F)) {off : Fin 1 → ℕ} {o : ℕ}
    (inb : ∀ a, off a + S16.size a ≤ Shape.size ⟨1, ![n]⟩ a) (ho : off = ![o]) {k : ℕ} (hk : k < 16) :
    ln (vw.readAt (Elt F) (Rect.unit (s := ⟨1, ![n]⟩) off S16.size inb).toLoadRect f) k = Wd (vw.read (Elt F) f) (o + k) := by
  subst ho; exact ln_load vw f inb hk

omit [FloatOps F] in
/-- The words after a store of sixteen words at a known place. -/
theorem Wd_at {n : ℕ} {sp : Space} (vw : View sig .scVector sp ⟨1, ![n]⟩ .i32) (f : vw.ty.Contents (Elt F)) {off : Fin 1 → ℕ} {o : ℕ}
    (inb : ∀ a, off a + S16.size a ≤ Shape.size ⟨1, ![n]⟩ a) (ho : off = ![o]) (w : S16.Idx → BitVec 32) (p : ℕ) (hp : p < n) :
    Wd (vw.read (Elt F) ((vw.slice (Rect.unit (s := ⟨1, ![n]⟩) off S16.size inb)).write (Elt F) f w Finset.univ)) p
      = if o ≤ p ∧ p < o + 16 then ln w (p - o) else Wd (vw.read (Elt F) f) p := by
  subst ho; exact Wd_store vw f inb w p hp

/-- A finished trip leaves its result to what follows. -/
theorem run_ret {α : Type} {Q : α → sProp 𝕄} (a : α) :
    Q a ⊢ run d L (.ret a : Prog (TpuEff nD τ sig (Elt F) Λ₀ (.scVector (cV L) (jV L))) α) Q := by
  unfold run; rw [wp_ret]; exact fupd_intro

/-- A check that holds is passed. -/
theorem run_assume {α : Type} {Q : α → sProp 𝕄} {p : Prop} {dec : Decidable p} (h : p)
    {k : PLift p → Prog (TpuEff nD τ sig (Elt F) Λ₀ (.scVector (cV L) (jV L))) α} :
    run d L (k ⟨h⟩) Q ⊢ run d L (.op (.assume p dec) k) Q := by
  unfold run; rw [wp_assume_of _ _ _ _ h]

/-! ## Listing the matches -/

/-- The tile's copy of the list holds the words of `v`. -/
def Listed (f : Buf (Elt F) ((thr d L).loc cc0_scratch0)) : Prop := ∀ p, p < 16384 → Wd (n := 16400) f p = W (v p)

/-- The first `c` matches are listed, in the order of the list. -/
def Matched (c : ℕ) (f : Buf (Elt F) ((thr d L).loc cc0_scratch1)) : Prop := ∀ j, j < c → Wd (n := 16416) f j = W (pack v (pos v (lo L) j))

/-- Before trip `k` of the listing loop: the matches among the first `16 k` words are listed. -/
def I1 (f5 : Buf (Elt F) ((thr d L).loc cc0_scratch0)) (k : ℕ) (acc : BitVec 32) : sProp 𝕄 :=
  iprop(⌜acc = W (rank v (lo L) (16 * k))⌝ ∗ ((thr d L).loc cc0_scratch0 ↦{fullShare} f5)
    ∗ ∃ f6 : Buf (Elt F) ((thr d L).loc cc0_scratch1), ⌜Matched d L v (rank v (lo L) (16 * k)) f6⌝ ∗ ((thr d L).loc cc0_scratch1 ↦{fullShare} f6))

/-- A trip of the listing loop. -/
theorem t1_step (hv : ∀ p, v p < 4294967296) (f5 : Buf (Elt F) ((thr d L).loc cc0_scratch0)) (h5 : Listed d L v f5) (k : Fin k0_t1_loop.trips) (acc : BitVec 32) :
    I1 d L v f5 k.val acc ⊢ run d L (k0_t1_body L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0 k acc) (I1 d L v f5 (k.val + 1)) := by
  have hk : k.val < 1024 := lt_of_lt_of_le k.isLt k0_t1_abs.2.1
  unfold k0_t1_body I1
  simp only [Prog.lift, Prog.bind_op, Prog.bind_ret, Prog.pure_eq_ret]
  iintro ⟨%hacc, H5, ⟨%f6, %h6, H6⟩⟩
  subst hacc
  iapply (wp_load 𝒱₀ (thr d L) none Set.univ (m := sI) (S := Finset.univ) (Finset.subset_univ _)) $$ H5; iintro H5
  have hx : ∀ j, j < 16 → ln (sI.view.readAt (Elt F) (Rect.unit (s := S16400) (k0_off2 k) S16.size (k0_off2_inb k)).toLoadRect f5) j = W (v (16 * k.val + j)) :=
    fun j hj => (ln_at (F := F) sI.view f5 (k0_off2_inb k) (k0_off2_eq k) hj).trans (h5 _ (by omega))
  generalize sI.view.readAt (Elt F) (Rect.unit (s := S16400) (k0_off2 k) S16.size (k0_off2_inb k)).toLoadRect f5 = x at hx
  iapply (run_assume d L (chk1_of L x hx hv hk))
  iapply (wp_scatterU d L f6) $$ H6; iintro H6
  iapply (run_ret d L)
  isplitr
  · ipureintro; exact match_count L x hx hv
  isplitl [H5]; · iexact H5
  iexists _; isplitr; swap; · iexact H6
  ipureintro
  exact match_step L x hx hv hk k rfl rfl f6 h6 _

/-! ## Clearing the cursors -/

/-- Before trip `k` of the clearing loop: the first `16 k` cursors are zero. -/
def I2 (k : ℕ) (_ : Unit) : sProp 𝕄 :=
  iprop(∃ f8 : Buf (Elt F) ((thr d L).loc cc0_scratch3), ⌜∀ p, p < 16 * k → Wd (n := 80) f8 p = W 0⌝ ∗ ((thr d L).loc cc0_scratch3 ↦{fullShare} f8))

/-- A trip of the clearing loop. -/
theorem t2_step (k : Fin k0_t2_loop.trips) (acc : Unit) :
    I2 d L k.val acc ⊢ run (F := F) d L (k0_t2_body L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0 k acc) (I2 d L (k.val + 1)) := by
  have hk : k.val < 4 := k.isLt
  unfold k0_t2_body I2
  simp only [Prog.lift, Prog.bind_op, Prog.bind_ret, Prog.pure_eq_ret]
  iintro ⟨%f8, %h8, H8⟩
  iapply (wp_load 𝒱₀ (thr d L) none Set.univ (m := sC) (S := Finset.univ) (Finset.subset_univ _)) $$ H8; iintro H8
  iapply (wp_store 𝒱₀ (thr d L) none Set.univ (m := sC) (S := Finset.univ)
    (r := (Rect.unit (s := S80) (k0_off3 k) S16.size (k0_off3_inb k))) (Mk := Finset.univ) (Finset.subset_univ _)) $$ H8; iintro H8
  iapply (run_ret d L)
  iexists _; isplitr; swap; · iexact H8
  ipureintro
  intro p hp
  refine (Wd_at (F := F) sC.view f8 (k0_off3_inb k) (k0_off3_eq k) _ p (by omega)).trans ?_
  split
  · rfl
  · exact h8 p (by omega)

/-! ## Counting the matches by chunk -/

/-- Before trip `k` of the counting loop: cursor `b + 1` counts the matches of chunk `b` among the first `16 k` listed. -/
def I3 (f6 : Buf (Elt F) ((thr d L).loc cc0_scratch1)) (n : ℕ) (k : ℕ) (_ : Unit) : sProp 𝕄 :=
  iprop(((thr d L).loc cc0_scratch1 ↦{fullShare} f6)
    ∗ ∃ f8 : Buf (Elt F) ((thr d L).loc cc0_scratch3),
      ⌜Wd (n := 80) f8 0 = W 0 ∧ ∀ b, b < 63 → Wd (n := 80) f8 (b + 1) = W (within v (lo L) b (min (k * 16) n))⌝ ∗ ((thr d L).loc cc0_scratch3 ↦{fullShare} f8))

/-- A trip of the counting loop. -/
theorem t3_step {n : ℕ} (hn : n = total v (lo L)) (f6 : Buf (Elt F) ((thr d L).loc cc0_scratch1)) (h6 : Matched d L v n f6) (hw : k0_chk2 (W n))
    (v5 : IVec S16 1) (x16 c16 x17 x19 : BitVec 32) (x20 : BitVec 1) (k : Fin (k0_t3_loop (W n)).trips) (acc : Unit) :
    I3 d L v f6 n k.val acc ⊢ run d L (k0_t3_body L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0 (W (lo L)) (iota .scVector S16 32 [0] iota_S16_d0_w32_scVector) v5 k0_pay22 (W n) hw
      x16 c16 x17 x19 x20 k acc) (I3 d L v f6 n (k.val + 1)) := by
  have hnl : n ≤ 16384 := hn.le.trans total_le
  have hk := lt_of_lt_of_eq k.isLt (t3_trips hnl)
  unfold k0_t3_body I3
  simp only [k0_part1_eq_skeleton]; unfold k0_part1_skel
  simp only [Prog.lift, Prog.bind_op, Prog.bind_ret, Prog.pure_eq_ret]
  iintro ⟨H6, ⟨%f8, %h8, H8⟩⟩
  iapply (wp_load 𝒱₀ (thr d L) none Set.univ (m := sU) (S := Finset.univ) (Finset.subset_univ _)) $$ H6; iintro H6
  have hx : ∀ j, j < 16 → k.val * 16 + j < n →
      ln (sU.view.readAt (Elt F) (Rect.unit (s := S16416) (k0_off4 (W n) k) S16.size (k0_off4_inb (W n) hw k)).toLoadRect f6) j
        = W (pack v (pos v (lo L) (k.val * 16 + j))) := by
    intro j hj hjn
    refine (ln_at (F := F) sU.view f6 (k0_off4_inb (W n) hw k) (off4_eq (W n) k) hj).trans ?_
    rw [W_toNat (by omega)]
    exact h6 _ hjn
  generalize sU.view.readAt (Elt F) (Rect.unit (s := S16416) (k0_off4 (W n) k) S16.size (k0_off4_inb (W n) hw k)).toLoadRect f6 = x at hx
  iapply (run_assume d L (chk3_of L x hn k hx))
  iapply (wp_scatterC d L f8) $$ H8; iintro H8
  iapply (run_ret d L)
  isplitl [H6]; · iexact H6
  iexists _; isplitr; swap; · iexact H8
  ipureintro
  exact count_step L x hn k hx f8 h8.1 h8.2 _

/-! ## Summing the counts -/

/-- Before trip `k` of the summing loop: the first `k + 1` cursors hold the first place of their chunk, the later ones still count. -/
def I5 (k : ℕ) (_ : Unit) : sProp 𝕄 :=
  iprop(∃ f8 : Buf (Elt F) ((thr d L).loc cc0_scratch3),
    ⌜(∀ b, b ≤ k → b < 64 → Wd (n := 80) f8 b = W (base v (lo L) b))
      ∧ ∀ b, k ≤ b → b < 63 → Wd (n := 80) f8 (b + 1) = W (within v (lo L) b (total v (lo L)))⌝ ∗ ((thr d L).loc cc0_scratch3 ↦{fullShare} f8))

/-- A trip of the summing loop. -/
theorem t5_step (v2 : BitVec 32) (v3 : IVec S16 32) (v6 : IVec S16 32) (w : BitVec 32) (hw : k0_chk2 w)
    (x16 c16 x17 x19 : BitVec 32) (x20 : BitVec 1) (k : Fin k0_t5_loop.trips) (acc : Unit) :
    I5 d L v k.val acc ⊢ run (F := F) d L (k0_t5_body L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0 v2 v3 k0_pay21 v6 w hw x16 c16 x17 x19 x20 k acc) (I5 d L v (k.val + 1)) := by
  have hk : k.val < 64 := k.isLt
  unfold k0_t5_body I5
  simp only [Prog.lift, Prog.bind_op, Prog.bind_ret, Prog.pure_eq_ret]
  iintro ⟨%f8, %h8, H8⟩
  iapply (wp_load 𝒱₀ (thr d L) none Set.univ (m := sC) (S := Finset.univ) (Finset.subset_univ _)) $$ H8; iintro H8
  iapply (wp_load 𝒱₀ (thr d L) none Set.univ (m := sC) (S := Finset.univ) (Finset.subset_univ _)) $$ H8; iintro H8
  have hx : ln (sC.view.readAt (Elt F) (Rect.unit (s := S80) (k0_off6 k) S16.size (k0_off6_inb k)).toLoadRect f8) 0 = W (base v (lo L) k.val) :=
    (ln_at (F := F) sC.view f8 (k0_off6_inb k) (k0_off6_eq k) (k := 0) (by omega)).trans (h8.1 _ le_rfl hk)
  have hy : k.val < 63 → ln (sC.view.readAt (Elt F) (Rect.unit (s := S80) (k0_off7 k) S16.size (k0_off7_inb k)).toLoadRect f8) 0
      = W (within v (lo L) k.val (total v (lo L))) := fun h =>
    (ln_at (F := F) sC.view f8 (k0_off7_inb k) (k0_off7_eq k) (k := 0) (by omega)).trans (h8.2 _ le_rfl h)
  generalize sC.view.readAt (Elt F) (Rect.unit (s := S80) (k0_off6 k) S16.size (k0_off6_inb k)).toLoadRect f8 = x at hx
  generalize sC.view.readAt (Elt F) (Rect.unit (s := S80) (k0_off7 k) S16.size (k0_off7_inb k)).toLoadRect f8 = y at hy
  have hi : Scalar.addi (Scalar.addi 0#32 (Scalar.muli (Scf.iv 0#32 1#32 k) 1#32)) 1#32 = W (k.val + 1) := by
    show (0#32 + Scf.iv 0#32 1#32 k * 1#32 : BitVec 32) + 1#32 = _
    rw [iv_W, W_mul, W_add, W_add]; simp
  have hc : k0_chk5 (broadcast S16 (W (k.val + 1))) := bcast_inb (by omega) (by omega)
  generalize Scalar.addi (Scalar.addi 0#32 (Scalar.muli (Scf.iv 0#32 1#32 k) 1#32)) 1#32 = z at hi
  subst hi
  iapply (run_assume d L hc)
  iapply (wp_scatterC d L f8) $$ H8; iintro H8
  iapply (run_ret d L)
  iexists _; isplitr; swap; · iexact H8
  ipureintro
  have hu := storeIdx_lane0 (F := F) (n := 80) f8 (broadcast S16 (W (k.val + 1))) (k0_pay31 (F := F) x y) hc
  rw [ln_broadcast, W_toNat (by omega), ln_pay31] at hu
  refine ⟨fun b hb hb' => ?_, fun b hb hb' => ?_⟩
  · refine (congrFun hu b).trans ?_
    by_cases e : b = k.val + 1
    · subst e
      rw [Function.update_self, hx, hy (by omega), W_add, base_succ, Nat.add_comm]
    · rw [Function.update_of_ne e]; exact h8.1 b (by omega) hb'
  · refine (congrFun hu (b + 1)).trans ?_
    rw [Function.update_of_ne (by omega)]; exact h8.2 b (by omega) hb'

/-! ## Putting each match in its slot -/

/-- Before trip `k` of the placing loop: the first `k` matches are in their slots, each cursor past those of its chunk. -/
def I6 (f6 : Buf (Elt F) ((thr d L).loc cc0_scratch1)) (k : ℕ) (_ : Unit) : sProp 𝕄 :=
  iprop(((thr d L).loc cc0_scratch1 ↦{fullShare} f6)
    ∗ (∃ f7 : Buf (Elt F) ((thr d L).loc cc0_scratch2),
        ⌜∀ j, j < k → Wd (n := 16416) f7 (slot v (lo L) j) = W (pack v (pos v (lo L) j))⌝ ∗ ((thr d L).loc cc0_scratch2 ↦{fullShare} f7))
    ∗ ∃ f8 : Buf (Elt F) ((thr d L).loc cc0_scratch3),
        ⌜∀ b, b < 64 → Wd (n := 80) f8 b = W (base v (lo L) b + within v (lo L) b k)⌝ ∗ ((thr d L).loc cc0_scratch3 ↦{fullShare} f8))

/-- A placing trip's loads: the match, its chunk, and the chunk's cursor. -/
theorem part3_step {n : ℕ} (hn : n = total v (lo L)) (f6 : Buf (Elt F) ((thr d L).loc cc0_scratch1)) (h6 : Matched d L v n f6) (hw : k0_chk2 (W n))
    (k : Fin (k0_t6_loop (W n)).trips) (f8 : Buf (Elt F) ((thr d L).loc cc0_scratch3))
    (h8 : ∀ b, b < 64 → Wd (n := 80) f8 b = W (base v (lo L) b + within v (lo L) b k.val)) {α : Type} {Q : α → sProp 𝕄}
    (f : (Σ' (_ : Vec F S16 .i32) (_ : BitVec 32) (_ : Vec F S16 .i32), IVec S1 32) → Prog (TpuEff nD τ sig (Elt F) Λ₀ (.scVector (cV L) (jV L))) α) :
    iprop(((thr d L).loc cc0_scratch1 ↦{fullShare} f6) ∗ ((thr d L).loc cc0_scratch3 ↦{fullShare} f8)) ⊢
      iprop((∀ x y, ⌜ln x 0 = W (pack v (pos v (lo L) k.val)) ∧ ln y 0 = W (slot v (lo L) k.val)⌝
          ∗ ((thr d L).loc cc0_scratch1 ↦{fullShare} f6) ∗ ((thr d L).loc cc0_scratch3 ↦{fullShare} f8)
          -∗ run d L (f ⟨x, W (bin v (lo L) k.val), y, k0_pay12 (F := F) y⟩) Q)
        -∗ run d L (k0_part3 L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0 (W (lo L)) (W n) hw 1#32 0#32 0#32 1#32 k >>= f) Q) := by
  have hnl : n ≤ 16384 := hn.le.trans total_le
  have hk : k.val < n := lt_of_lt_of_eq k.isLt (t6_trips hnl)
  have hkt : k.val < total v (lo L) := hk.trans_eq hn
  have hl := lo_lt L
  have hps := pos_spec hkt
  have hpl := pack_lt (v := v) hps.1 hl hps.2.1
  have hpd := pack_div (v := v) hps.1
  have hm := hps.2.1
  unfold Mine at hm
  have hb := bin_lt (v := v) hkt
  rw [k0_part3_eq_skeleton]; unfold k0_part3_skel
  simp only [Prog.lift, Prog.bind_op, Prog.bind_ret, Prog.pure_eq_ret]
  iintro ⟨H6, H8⟩ Hk
  iapply (wp_load 𝒱₀ (thr d L) none Set.univ (m := sU) (S := Finset.univ) (Finset.subset_univ _)) $$ H6; iintro H6
  have hx : ln (sU.view.readAt (Elt F) (Rect.unit (s := S16416) (k0_off8 (W n) k) S16.size (k0_off8_inb (W n) hw k)).toLoadRect f6) 0
        = W (pack v (pos v (lo L) k.val)) := by
    refine (ln_at (F := F) sU.view f6 (k0_off8_inb (W n) hw k) (off8_eq (W n) k) (k := 0) (by omega)).trans ?_
    rw [W_toNat (by omega)]
    exact h6 _ hk
  generalize sU.view.readAt (Elt F) (Rect.unit (s := S16416) (k0_off8 (W n) k) S16.size (k0_off8_inb (W n) hw k)).toLoadRect f6 = x at hx
  have he : extractAt ![0] (k0_pay11 (F := F) x) inpos_S1_p0 = W (pack v (pos v (lo L) k.val)) := (lane0 (F := F) x).trans hx
  have ho : k0_off9 L (extractAt ![0] (k0_pay11 (F := F) x) inpos_S1_p0) = ![bin v (lo L) k.val] := by
    rw [he, off9_eq L (by omega) (by omega), hpd]; rfl
  have hc6 : k0_chk6 L (extractAt ![0] (k0_pay11 (F := F) x) inpos_S1_p0) := by
    intro a
    obtain rfl : a = 0 := Subsingleton.elim _ _
    rw [ho]; show bin v (lo L) k.val + 16 ≤ 80; omega
  iapply (run_assume d L hc6)
  iapply (wp_load 𝒱₀ (thr d L) none Set.univ (m := sC) (S := Finset.univ) (Finset.subset_univ _)) $$ H8; iintro H8
  have hsl : slot v (lo L) k.val = base v (lo L) (bin v (lo L) k.val) + within v (lo L) (bin v (lo L) k.val) k.val := rfl
  have hy : ∀ inb, ln (sC.view.readAt (Elt F) (Rect.unit (s := S80) (k0_off9 L (extractAt ![0] (k0_pay11 (F := F) x) inpos_S1_p0)) S16.size inb).toLoadRect f8) 0
      = W (slot v (lo L) k.val) := fun inb =>
    (ln_at (F := F) sC.view f8 inb ho (k := 0) (by omega)).trans ((h8 _ hb).trans (congrArg W hsl.symm))
  have hbv : bin v (lo L) k.val = (v (pos v (lo L) k.val) - lo L) / 4 := rfl
  have hbin : fdiv .scalar (fdiv .scalar (extractAt ![0] (k0_pay11 (F := F) x) inpos_S1_p0) (W 16384) - W (lo L)) (W 4) = W (bin v (lo L) k.val) := by
    rw [he, fdiv_W _ (by omega) (by omega) (by omega), hpd, W_sub hm.1, fdiv_W _ (by omega) (by omega) (by omega), ← hbv]
  have key : ∀ y, run d L (f ⟨x, W (bin v (lo L) k.val), y, k0_pay12 (F := F) y⟩) Q
      ⊢ run d L (f ⟨x, fdiv .scalar (fdiv .scalar (extractAt ![0] (k0_pay11 (F := F) x) inpos_S1_p0) (W 16384) - W (lo L)) (W 4), y, k0_pay12 (F := F) y⟩) Q :=
    fun y => by rw [hbin]
  iapply (key _)
  iapply Hk $$ %x %_
  isplitr; · ipureintro; exact ⟨hx, hy _⟩
  isplitl [H6]; · iexact H6
  iexact H8

/-- A trip of the placing loop. -/
theorem t6_step {n : ℕ} (hn : n = total v (lo L)) (f6 : Buf (Elt F) ((thr d L).loc cc0_scratch1)) (h6 : Matched d L v n f6) (hw : k0_chk2 (W n))
    (k : Fin (k0_t6_loop (W n)).trips) (acc : Unit) :
    I6 d L v f6 k.val acc ⊢ run d L (k0_t6_body L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0 (W (lo L)) k0_pay21 (W n) hw 1#32 0#32 0#32 k acc) (I6 d L v f6 (k.val + 1)) := by
  have hnl : n ≤ 16384 := hn.le.trans total_le
  have hk : k.val < n := lt_of_lt_of_eq k.isLt (t6_trips hnl)
  have hkt : k.val < total v (lo L) := hk.trans_eq hn
  have hb := bin_lt (v := v) hkt
  have hsl : slot v (lo L) k.val < total v (lo L) := slot_lt_total hkt
  unfold k0_t6_body I6
  iintro ⟨H6, ⟨%f7, %h7, H7⟩, ⟨%f8, %h8, H8⟩⟩
  iapply (part3_step d L v hn f6 h6 hw k f8 h8) $$ [H6 H8]
  · isplitl [H6]; · iexact H6
    iexact H8
  iintro %x %y ⟨%hxy, H6, H8⟩
  obtain ⟨hx, hy⟩ := hxy
  simp only [Prog.lift, Prog.bind_op, Prog.bind_ret, Prog.pure_eq_ret]
  have he' : extractAt ![0] (k0_pay12 (F := F) y) inpos_S1_p0 = W (slot v (lo L) k.val) := (lane0 (F := F) y).trans hy
  generalize extractAt ![0] (k0_pay12 (F := F) y) inpos_S1_p0 = z at he'
  subst he'
  have hc7 : k0_chk7 (broadcast S16 (W (slot v (lo L) k.val))) := bcast_inb (by omega) (by omega)
  iapply (run_assume d L hc7)
  iapply (wp_scatterP d L f7) $$ H7; iintro H7
  have hc8 : k0_chk8 (broadcast S16 (W (bin v (lo L) k.val))) := bcast_inb (by omega) (by omega)
  iapply (run_assume d L hc8)
  iapply (wp_scatterC d L f8) $$ H8; iintro H8
  iapply (run_ret d L)
  isplitl [H6]; · iexact H6
  isplitl [H7]
  · iexists _; isplitr; swap; · iexact H7
    ipureintro
    intro j hj
    have hu := storeIdx_lane0 (F := F) (n := 16416) f7 (broadcast S16 (W (slot v (lo L) k.val))) x hc7
    rw [ln_broadcast, W_toNat (by omega), hx] at hu
    refine (congrFun hu _).trans ?_
    by_cases e : j = k.val
    · subst e; rw [Function.update_self]
    · rw [Function.update_of_ne (fun h => e (slot_inj (by omega) hkt h))]; exact h7 j (by omega)
  iexists _; isplitr; swap; · iexact H8
  ipureintro
  intro b hbb
  have hu := storeIdx_lane0 (F := F) (n := 80) f8 (broadcast S16 (W (bin v (lo L) k.val))) (k0_pay1 (F := F) y) hc8
  rw [ln_broadcast, W_toNat (by omega), ln_pay1 (F := F) y, hy, W_add] at hu
  refine (congrFun hu _).trans ?_
  have hs : within v (lo L) b (k.val + 1) = within v (lo L) b k.val + if bin v (lo L) k.val = b then 1 else 0 := Nat.count_succ _ _
  rw [hs]
  by_cases e : b = bin v (lo L) k.val
  · rw [if_pos e.symm, e, Function.update_self]; exact congrArg W (by unfold slot; omega)
  · rw [if_neg (Ne.symm e), Function.update_of_ne e]; exact h8 b hbb

end Cert.Proof

end
-- ==== Proof.Chunk.lean ====
/-
  One chunk of the table: the read that brings its four rows into a buffer, the copies out of that buffer, one per place of
  the sorted list holding a row of the chunk, and the waits that see them done. Everything is stated for either buffer and
  either semaphore.
-/
module

public import proofs.«01_k».proof.Proof.Sort

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Batch Flight pending shareTok shareDrop)

variable {F : FTy → Type} [FloatOps F] (d : Dev nD) (L : grid0.Coords) (v : ℕ → ℕ)

local notation "𝕄" => MM F

/-! ## Rows -/

/-- The elements of row `p` of an array of rows of 8192. -/
def Rows (n p : ℕ) : Finset (Shape.Idx ⟨2, ![n, 8192]⟩) := Finset.univ.filter fun x => (x 0).val = p

/-- A rectangle of one row is that row. -/
theorem rect_row {n : ℕ} {off : Fin 2 → ℕ} {p : ℕ} (inb : ∀ a, off a + S1x8192.size a ≤ Shape.size ⟨2, ![n, 8192]⟩ a) (h : off = ![p, 0]) :
    (Rect.unit (s := ⟨2, ![n, 8192]⟩) off S1x8192.size inb).set = Rows n p := by
  subst h
  ext x
  rw [Rect.mem_set_unit, Rows, Finset.mem_filter]
  constructor
  · intro hx
    refine ⟨Finset.mem_univ _, ?_⟩
    have h0 := hx 0
    change p ≤ (x 0).val ∧ (x 0).val < p + 1 at h0
    omega
  · rintro ⟨-, hx⟩ a
    match a with
    | 0 => show p ≤ (x 0).val ∧ (x 0).val < p + 1; omega
    | 1 => exact ⟨Nat.zero_le _, by show (x 1).val < 0 + 8192; have : (x 1).val < 8192 := (x 1).isLt; omega⟩

/-- The same row seen through a view. -/
theorem view_row {n : ℕ} {sp : Space} (m : Memref sig .scVector sp ⟨2, ![n, 8192]⟩ .f32) {off : Fin 2 → ℕ} {p : ℕ}
    (inb : ∀ a, off a + S1x8192.size a ≤ Shape.size ⟨2, ![n, 8192]⟩ a) (h : off = ![p, 0]) :
    (m.slice (Rect.unit (s := ⟨2, ![n, 8192]⟩) off S1x8192.size inb) (fun _ => rfl)).view.set = (Rows n p).map m.view.emb := by
  rw [← rect_row inb h]; exact View.set_slice m.view _

/-- Row `p` of the result, as a set of the result's elements. -/
theorem out_row {off : Fin 2 → ℕ} {p : ℕ} (inb : ∀ a, off a + S1x8192.size a ≤ S16384x8192.size a) (h : off = ![p, 0]) :
    (aO.slice (Rect.unit (s := S16384x8192) off S1x8192.size inb) (fun _ => rfl)).view.set = Rows 16384 p := by
  rw [← rect_row inb h]; exact View.set_slice_whole _ _

/-! ## What a buffer holds -/

/-- The buffer holds the rows of chunk `c` of the tile's part of the table. -/
def Chunk (tb : S8192x8192.Idx → Elt F .f32) (b : Memref sig .scVector .vmem S4x8192 .f32) (c : ℕ) (f : Buf (Elt F) (b.view.loc (thr d L))) : Prop :=
  ∀ (x : S4x8192.Idx) (y : S8192x8192.Idx), (y 0).val = lo L + 4 * c + (x 0).val → (y 1).val = (x 1).val → b.view.read (Elt F) f x = tb y

/-- What the result is to hold: row `p` is the table's row `v p` when there is one, and is left alone otherwise. -/
structure Gathered (tb : S8192x8192.Idx → Elt F .f32) (fo G : S16384x8192.Idx → Elt F .f32) : Prop where
  hit : ∀ (x : S16384x8192.Idx) (y : S8192x8192.Idx), (y 0).val = v (x 0).val → (y 1).val = (x 1).val → G x = tb y
  miss : ∀ x : S16384x8192.Idx, 8192 ≤ v (x 0).val → G x = fo x

variable {v}

/-- A read of four rows of the table leaves a chunk. -/
theorem chunk_read (b : Memref sig .scVector .vmem S4x8192 .f32) (tb : Buf (Elt F) (aT.view.loc (thr d L))) (fd : Buf (Elt F) (b.view.loc (thr d L))) {off : Fin 2 → ℕ} {c : ℕ}
    (inb : ∀ a, off a + S4x8192.size a ≤ S8192x8192.size a) (h : off = ![lo L + 4 * c, 0]) :
    Chunk d L tb b c (b.view.write (Elt F) fd ((aT.slice (Rect.unit (s := S8192x8192) off S4x8192.size inb) (fun _ => rfl)).view.read (Elt F) tb) Finset.univ) := by
  subst h
  intro x y h0 h1
  rw [View.read_write_univ]
  show tb _ = tb y
  refine congrArg tb (funext fun a => Fin.ext ?_)
  match a with
  | 0 => show lo L + 4 * c + 1 * (x 0).val = (y 0).val; omega
  | 1 => show 0 + 1 * (x 1).val = (y 1).val; omega

/-- A copied row is the gathered row. -/
theorem row_copied {tb : S8192x8192.Idx → Elt F .f32} {fo G : S16384x8192.Idx → Elt F .f32} (hG : Gathered v tb fo G)
    (b : Memref sig .scVector .vmem S4x8192 .f32) {c : ℕ} {f : Buf (Elt F) (b.view.loc (thr d L))} (hf : Chunk d L tb b c f)
    (fd : Buf (Elt F) (aO.view.loc (thr d L))) {off off' : Fin 2 → ℕ} {p : ℕ} (inb : ∀ a, off a + S1x8192.size a ≤ S4x8192.size a)
    (inb' : ∀ a, off' a + S1x8192.size a ≤ S16384x8192.size a) (h : off = ![v p - (lo L + 4 * c), 0]) (h' : off' = ![p, 0]) (hp : lo L + 4 * c ≤ v p) (hq : v p < 8192)
    (i : S16384x8192.Idx) (hi : i ∈ Rows 16384 p) :
    (aO.slice (Rect.unit (s := S16384x8192) off' S1x8192.size inb') (fun _ => rfl)).view.write (Elt F) fd
      ((b.slice (Rect.unit (s := S4x8192) off S1x8192.size inb) (fun _ => rfl)).view.read (Elt F) f) Finset.univ i = G i := by
  have hb : v p - (lo L + 4 * c) < 4 := by have h0 := inb 0; rw [h] at h0; change v p - (lo L + 4 * c) + 1 ≤ 4 at h0; omega
  rw [← out_row inb' h'] at hi
  obtain ⟨x, -, rfl⟩ := Finset.mem_map.mp hi
  subst h; subst h'
  rw [View.write_emb_of_mem _ _ (Finset.mem_univ _)]
  have hx0 : (x 0).val < 1 := (x 0).isLt
  have hx1 : (x 1).val < 8192 := (x 1).isLt
  let y : S8192x8192.Idx := fun a => match a with
    | 0 => ⟨v p, hq⟩
    | 1 => ⟨(x 1).val, hx1⟩
  have e1 := hf ((Rect.unit (s := S4x8192) ![v p - (lo L + 4 * c), 0] S1x8192.size inb).emb x) y
    (by show v p = lo L + 4 * c + (v p - (lo L + 4 * c) + 1 * (x 0).val); omega)
    (by show (x 1).val = 0 + 1 * (x 1).val; omega)
  have e2 := hG.hit ((Rect.unit (s := S16384x8192) ![p, 0] S1x8192.size inb').emb x) y
    (by show v p = v (p + 1 * (x 0).val); congr 1; omega)
    (by show (x 1).val = 0 + 1 * (x 1).val; omega)
  exact e1.trans e2.symm

/-! ## The reads -/

/-- What the tile owes, with the waits it has recorded since `W`. -/
def Owes (O : CellTallies nD τ sig (HIx 1)) (W : Waits sig (HIx 1)) : sProp 𝕄 :=
  iprop(levAts (K (F := F)).L (K (F := F)).lev ∗ ∃ W', ⌜∀ p ∈ W', p ∈ W ∨ p.2 = none⌝ ∗ owes (thr d L) O W')

/-- A read of chunk `c` into `b` in flight on `sem`, out of a share `q` of the table. -/
def Reading (b : Memref sig .scVector .vmem S4x8192 .f32) (sem : DmaSem sig) (q : PosShare TreeShare) (tb : Buf (Elt F) (aT.view.loc (thr d L))) (c : ℕ) : sProp 𝕄 :=
  iprop(∃ (off : Fin 2 → ℕ) (inb : ∀ a, off a + S4x8192.size a ≤ S8192x8192.size a) (fd : Buf (Elt F) (b.view.loc (thr d L))), ⌜off = ![lo L + 4 * c, 0]⌝
    ∗ Flight EC (thr d L) (.dma sem) none b.view.dmaCredit
        iprop((b.view.loc (thr d L) ↦{fullShare} b.view.write (Elt F) fd
            ((aT.slice (Rect.unit (s := S8192x8192) off S4x8192.size inb) (fun _ => rfl)).view.read (Elt F) tb) Finset.univ)
          ∗ (aT.view.loc (thr d L) ↦[(aT.slice (Rect.unit (s := S8192x8192) off S4x8192.size inb) (fun _ => rfl)).view.set]{q} tb))
    ∗ (aT.view.loc (thr d L) ↦[Finset.univ \ (aT.slice (Rect.unit (s := S8192x8192) off S4x8192.size inb) (fun _ => rfl)).view.set]{q} tb))

/-- A read starts. -/
theorem start_read {α : Type} {Q : α → sProp 𝕄} (b : Memref sig .scVector .vmem S4x8192 .f32) {sem : DmaSem sig} {q : PosShare TreeShare}
    (tb : Buf (Elt F) (aT.view.loc (thr d L))) (fd : Buf (Elt F) (b.view.loc (thr d L))) {c : ℕ} {off : Fin 2 → ℕ}
    (inb : ∀ a, off a + S4x8192.size a ≤ S8192x8192.size a) (h : off = ![lo L + 4 * c, 0])
    {hs : (aT.slice (Rect.unit (s := S8192x8192) off S4x8192.size inb) (fun _ => rfl)).view.WordExact} {hd : b.view.WordExact}
    {ht : DmaTarget.Typed (nD := nD) (τ := τ) (p := .scVector (cV L) (jV L)) .hbm (.dma sem) (.here b)}
    {k : PUnit → Prog (TpuEff nD τ sig (Elt F) Λ₀ (.scVector (cV L) (jV L))) α} :
    iprop((aT.view.loc (thr d L) ↦{q} tb) ∗ (b.view.loc (thr d L) ↦{fullShare} fd) ∗ semVal (thr d L, SemLoc.dma sem) 0)
      ⊢ iprop((Reading d L b sem q tb c -∗ run d L (k ⟨⟩) Q)
        -∗ run d L (.op (.enqueueDma (aT.slice (Rect.unit (s := S8192x8192) off S4x8192.size inb) (fun _ => rfl)) (.here b) (.dma sem) hs hd ht) k) Q) := by
  iintro ⟨Ht, Hb, Hs⟩ Hk
  ihave Ht' := (pointsTo_split_subset (Finset.subset_univ (aT.slice (Rect.unit (s := S8192x8192) off S4x8192.size inb) (fun _ => rfl)).view.set)).1 $$ Ht
  icases Ht' with ⟨Ht, Hc⟩
  iapply (Transfers.wp_dmaLocal EC 𝒱₀ (thr d L) none none b.view.dmaCredit rfl (View.dmaCredit_pos _ (by decide)) (Finset.subset_univ _)) $$ [Ht Hb Hs]
  · isplitl [Ht]; · iexact Ht
    isplitl [Hb]; · iexact Hb
    iexact Hs
  iintro Hf
  iapply Hk
  unfold Reading
  iexists off, inb, fd
  isplitr; · ipureintro; exact h
  isplitl [Hf]; · iexact Hf
  iexact Hc

/-- A read is awaited. -/
theorem end_read {α : Type} {Q : α → sProp 𝕄} (b : Memref sig .scVector .vmem S4x8192 .f32) {sem : DmaSem sig} {q : PosShare TreeShare}
    (tb : Buf (Elt F) (aT.view.loc (thr d L))) {c : ℕ} {O : CellTallies nD τ sig (HIx 1)} {W : Waits sig (HIx 1)} (hO : ∀ g, O g none = 0)
    {srcw : Memref sig .scVector .hbm S4x8192 .f32} {hs : srcw.view.WordExact} {hd : b.view.WordExact}
    {k : PUnit → Prog (TpuEff nD τ sig (Elt F) Λ₀ (.scVector (cV L) (jV L))) α} :
    iprop(Reading d L b sem q tb c ∗ Owes d L O W)
      ⊢ iprop((iprop((∃ f, ⌜Chunk d L tb b c f⌝ ∗ (b.view.loc (thr d L) ↦{fullShare} f)) ∗ (aT.view.loc (thr d L) ↦{q} tb) ∗ semVal (thr d L, SemLoc.dma sem) 0 ∗ Owes d L O W)
          -∗ run d L (k ⟨⟩) Q)
        -∗ run d L (.op (.waitDma2 sem srcw b hs hd) k) Q) := by
  unfold Reading Owes
  iintro ⟨⟨%off, %inb, %fd, %hoff, Hf, Hc⟩, #Hlv, %W', %hW', HO⟩ Hk
  iapply (Transfers.wp_waitLocalO EC 𝒱₀ (thr d L) none none rfl) $$ [Hf HO]
  · isplitl [Hf]; · iexact Hf
    isplitl [HO]; · iexact HO
    iapply ((K (F := F)).mayWait_none (thr := thr d L) (SemLoc.dma sem) hO) $$ Hlv
  iintro ⟨⟨Hb, Ht⟩, Hs, HO⟩
  iapply Hk
  isplitl [Hb]
  · iexists _; isplitr; swap; · iexact Hb
    ipureintro; exact chunk_read d L b tb fd inb hoff
  isplitl [Ht Hc]
  · iapply (pointsTo_split_subset (Finset.subset_univ (aT.slice (Rect.unit (s := S8192x8192) off S4x8192.size inb) (fun _ => rfl)).view.set)).2
    isplitl [Ht] <;> iassumption
  isplitl [Hs]; · iexact Hs
  isplitr; · iexact Hlv
  iexists _; isplitr; swap; · iexact HO
  ipureintro
  intro p hp
  rcases Finset.mem_insert.mp hp with rfl | hp
  · exact .inr rfl
  · exact hW' p hp

/-! ## The copies out -/

/-- The credit of one row of the result. -/
def rowCredit : ℕ := (aO.slice (Rect.unit (s := S16384x8192) ![0, 0] S1x8192.size (by decide)) (fun _ => rfl)).view.dmaCredit

/-- A row carries some credit. -/
theorem rowCredit_pos : 0 < rowCredit := View.dmaCredit_pos _ (by decide)

/-- Row `p` of the result, holding what `f` says. -/
abbrev outRow (f : Buf (Elt F) (aO.view.loc (thr d L))) (p : ℕ) : sProp 𝕄 := aO.view.loc (thr d L) ↦[Rows 16384 p]{fullShare} f

/-- The elements of the buffer the copy of row `p` reads, chunk `c` being in the buffer. -/
abbrev cut (b : Memref sig .scVector .vmem S4x8192 .f32) (c p : ℕ) : Finset (Idx (b.view.loc (thr d L))) :=
  (Rows 4 (v p - (lo L + 4 * c))).map b.view.emb

variable (v)

/-- What copy `t` of the chunk's copies hands back: its row of the result gathered, its share of the row read. -/
def Landed (b : Memref sig .scVector .vmem S4x8192 .f32) (f : Buf (Elt F) (b.view.loc (thr d L))) (G : Buf (Elt F) (aO.view.loc (thr d L))) (c a n : ℕ) (t : Fin n) : sProp 𝕄 :=
  iprop(outRow d L G (row v (lo L) (a + t.val)) ∗ (b.view.loc (thr d L) ↦[cut d L (v := v) b c (row v (lo L) (a + t.val))]{shareTok fullShare n t} f))

/-- What a copy hands back may be kept in a shared invariant. -/
instance (b : Memref sig .scVector .vmem S4x8192 .f32) (f : Buf (Elt F) (b.view.loc (thr d L))) (G : Buf (Elt F) (aO.view.loc (thr d L))) (c a n : ℕ) (t : Fin n) :
    Storable (upEmb : UEmb _ 𝕄) (Landed d L v b f G c a n t) := by
  unfold Landed; infer_instance

/-- The first `k` of `n` copies. -/
def issued {n : ℕ} (k : ℕ) : Finset (Fin n) := Finset.univ.filter fun t => t.val < k

/-- `k` of the chunk's `n` copies started: the rest still own their row and their share of the buffer, the started ones the
    part of their share they do not read. -/
def Copying (b : Memref sig .scVector .vmem S4x8192 .f32) (sem : DmaSem sig) (f : Buf (Elt F) (b.view.loc (thr d L))) (fo G : Buf (Elt F) (aO.view.loc (thr d L))) (c a n k : ℕ) : sProp 𝕄 :=
  iprop(Batch EC (thr d L) (.dma sem) none rowCredit (Landed d L v b f G c a n) k 0
    ∗ bigSep (pending (n := n) k) (fun t => iprop(outRow d L fo (row v (lo L) (a + t.val)) ∗ (b.view.loc (thr d L) ↦{shareTok fullShare n t} f)))
    ∗ bigSep (issued (n := n) k) (fun t => (b.view.loc (thr d L) ↦[Finset.univ \ cut d L (v := v) b c (row v (lo L) (a + t.val))]{shareTok fullShare n t} f)))

omit [FloatOps F] in
/-- The places of a chunk counted from its first. -/
theorem bigSep_places (a n : ℕ) (Φ : ℕ → sProp 𝕄) : bigSep (Finset.Ico a (a + n)) Φ = bigSep Finset.univ (fun t : Fin n => Φ (a + t.val)) := by
  have : Finset.Ico a (a + n) = Finset.univ.map ⟨fun t : Fin n => a + t.val, fun x y h => Fin.ext (Nat.add_left_cancel h)⟩ := by
    ext x
    simp only [Finset.mem_Ico, Finset.mem_map, Finset.mem_univ, true_and, Function.Embedding.coeFn_mk]
    constructor
    · rintro ⟨h1, h2⟩; exact ⟨⟨x - a, by omega⟩, by show a + (x - a) = x; omega⟩
    · rintro ⟨t, rfl⟩; have := t.isLt; show a ≤ a + t.val ∧ a + t.val < a + n; omega
  rw [this, BI.bigSep_map]; rfl

/-- At the start no copy is issued. -/
theorem issued_zero {n : ℕ} : issued (n := n) 0 = ∅ := Finset.filter_false_of_mem fun _ _ => Nat.not_lt_zero _

/-- After `n` steps all `n` copies are issued. -/
theorem issued_all {n : ℕ} : issued (n := n) n = Finset.univ := Finset.filter_true_of_mem fun t _ => t.isLt

/-- After `n` steps no copy is left to issue. -/
theorem pending_all {n : ℕ} : pending (n := n) n = ∅ := Finset.filter_false_of_mem fun t _ => Nat.not_le.mpr t.isLt

/-- One step issues copy `k`. -/
theorem issued_succ {n k : ℕ} (hk : k < n) : issued (n := n) (k + 1) = insert ⟨k, hk⟩ (issued k) := by
  ext t; simp only [issued, Finset.mem_filter, Finset.mem_univ, true_and, Finset.mem_insert, Fin.ext_iff]; omega

/-- Copy `k` is not issued by step `k`. -/
theorem not_mem_issued {n k : ℕ} (hk : k < n) : (⟨k, hk⟩ : Fin n) ∉ issued (n := n) k := by simp [issued]

/-- The copies of a chunk are set up. -/
theorem start_copies (b : Memref sig .scVector .vmem S4x8192 .f32) (sem : DmaSem sig) (f : Buf (Elt F) (b.view.loc (thr d L))) (fo G : Buf (Elt F) (aO.view.loc (thr d L))) (c a n : ℕ) :
    iprop(semVal (thr d L, SemLoc.dma sem) 0 ∗ (b.view.loc (thr d L) ↦{fullShare} f) ∗ bigSep (Finset.Ico a (a + n)) (fun i => outRow d L fo (row v (lo L) i)))
      ⊢ (|={Set.univ}=> iprop(Copying d L v b sem f fo G c a n 0 ∗ (b.view.loc (thr d L) ↦{shareDrop fullShare n} f)) : sProp 𝕄) := by
  rw [bigSep_places]
  unfold Copying
  iintro ⟨Hs, Hb, Ho⟩
  imod (Transfers.batch_alloc' EC (thr d L) none rowCredit (Landed d L v b f G c a n) (sm := .dma sem) (E := Set.univ)) $$ Hs with HB
  imodintro
  ihave Hb' := (Transfers.pointsTo_toks_split fullShare n) $$ Hb
  icases Hb' with ⟨Hd, Ht⟩
  isplitr [Hd]; swap; · iexact Hd
  isplitl [HB]; · iexact HB
  isplitl [Ho Ht]
  · rw [Transfers.pending_zero, bigSep_sep']
    isplitl [Ho] <;> iassumption
  · rw [issued_zero, BI.bigSep_empty]
    iempintro

variable {v}

/-- One copy starts. -/
theorem issue {α : Type} {Q : α → sProp 𝕄} {tb : S8192x8192.Idx → Elt F .f32} {fo G : Buf (Elt F) (aO.view.loc (thr d L))} (hG : Gathered v tb fo G)
    (b : Memref sig .scVector .vmem S4x8192 .f32) {sem : DmaSem sig} {f : Buf (Elt F) (b.view.loc (thr d L))} {c a n k : ℕ} (hf : Chunk d L tb b c f) (hk : k < n)
    {p : ℕ} (hrow : row v (lo L) (a + k) = p) (hp : lo L + 4 * c ≤ v p) (hq : v p < 8192)
    {off off' : Fin 2 → ℕ} (inb : ∀ a, off a + S1x8192.size a ≤ S4x8192.size a)
    (inb' : ∀ a, off' a + S1x8192.size a ≤ S16384x8192.size a) (h : off = ![v p - (lo L + 4 * c), 0]) (h' : off' = ![p, 0])
    {hs : (b.slice (Rect.unit (s := S4x8192) off S1x8192.size inb) (fun _ => rfl)).view.WordExact}
    {hd : (aO.slice (Rect.unit (s := S16384x8192) off' S1x8192.size inb') (fun _ => rfl)).view.WordExact}
    {ht : DmaTarget.Typed (nD := nD) (τ := τ) (p := .scVector (cV L) (jV L)) .vmem (.dma sem) (.here (aO.slice (Rect.unit (s := S16384x8192) off' S1x8192.size inb') (fun _ => rfl)))}
    {kk : PUnit → Prog (TpuEff nD τ sig (Elt F) Λ₀ (.scVector (cV L) (jV L))) α} :
    Copying d L v b sem f fo G c a n k
      ⊢ iprop((Copying d L v b sem f fo G c a n (k + 1) -∗ run d L (kk ⟨⟩) Q)
        -∗ run d L (.op (.enqueueDma (b.slice (Rect.unit (s := S4x8192) off S1x8192.size inb) (fun _ => rfl))
          (.here (aO.slice (Rect.unit (s := S16384x8192) off' S1x8192.size inb') (fun _ => rfl))) (.dma sem) hs hd ht) kk) Q) := by
  unfold Copying
  rw [Transfers.bigSep_pending_step _ k hk, issued_succ hk, SparseCore.bigSep_insert' (not_mem_issued hk), hrow]
  have e1 := view_row b inb h
  have e2 := out_row inb' h'
  iintro ⟨HB, ⟨⟨Ho, Ht⟩, Hp⟩, Hi⟩ Hk
  ihave Ht' := (pointsTo_split_subset (Finset.subset_univ (cut d L (v := v) b c p))).1 $$ Ht
  icases Ht' with ⟨Ht, Hc⟩
  have key := Transfers.wp_dmaBatch (defs := defs₀ (F := F)) (Q := Q) (k := kk) EC 𝒱₀ (thr d L) none (src := b.slice (Rect.unit (s := S4x8192) off S1x8192.size inb) (fun _ => rfl))
    (dst := aO.slice (Rect.unit (s := S16384x8192) off' S1x8192.size inb') (fun _ => rfl)) (via := ReadAs.same) (sm := .dma sem) (hsrc := hs) (hdst := hd) (hsem := ht)
    (q := shareTok fullShare n ⟨k, hk⟩) (fs := f) (Sd := Rows 16384 p) (fd := fo) (D := Landed d L v b f G c a n) (j := k) (u := 0)
    none rowCredit rfl e2.le hk (Nat.zero_le _) (by
      unfold Landed
      simp only [hrow]
      rw [e1, pointsTo_congr (row_copied d L hG b hf fo inb inb' h h' hp hq)])
  rw [e1] at key
  iapply key $$ [Ht Ho HB]
  · isplitl [Ht]; · iexact Ht
    isplitl [Ho]; · iexact Ho
    iexact HB
  iintro HB
  iapply Hk
  isplitl [HB]; · iexact HB
  isplitl [Hp]; · iexact Hp
  isplitl [Hc]; · iexact Hc
  iexact Hi

/-- One wait for a copy, all of them started. -/
theorem drain {α : Type} {Q : α → sProp 𝕄} (b : Memref sig .scVector .vmem S4x8192 .f32) {sem : DmaSem sig} {f : Buf (Elt F) (b.view.loc (thr d L))}
    {G : Buf (Elt F) (aO.view.loc (thr d L))} {c a n k : ℕ} (hk : k < n) {O : CellTallies nD τ sig (HIx 1)} {W : Waits sig (HIx 1)} (hO : ∀ g, O g none = 0)
    {srcw : Memref sig .scVector .vmem S1x8192 .f32} {hs : srcw.view.WordExact} {inb : ∀ a, ![0, 0] a + S1x8192.size a ≤ S16384x8192.size a}
    {hd : (aO.slice (Rect.unit (s := S16384x8192) ![0, 0] S1x8192.size inb) (fun _ => rfl)).view.WordExact}
    {kk : PUnit → Prog (TpuEff nD τ sig (Elt F) Λ₀ (.scVector (cV L) (jV L))) α} :
    iprop(Batch EC (thr d L) (.dma sem) none rowCredit (Landed d L v b f G c a n) n (rowCredit * k) ∗ Owes d L O W)
      ⊢ iprop((iprop(Batch EC (thr d L) (.dma sem) none rowCredit (Landed d L v b f G c a n) n (rowCredit * (k + 1)) ∗ Owes d L O W) -∗ run d L (kk ⟨⟩) Q)
        -∗ run d L (.op (.waitDma2 sem srcw (aO.slice (Rect.unit (s := S16384x8192) ![0, 0] S1x8192.size inb) (fun _ => rfl)) hs hd) kk) Q) := by
  unfold Owes
  iintro ⟨HB, #Hlv, %W', %hW', HO⟩ Hk
  iapply (Transfers.wp_waitBatchMulO EC 𝒱₀ (thr d L) none none (N := rowCredit) (D := Landed d L v b f G c a n) (j := n) (u := rowCredit * k) 1 (by rw [Nat.one_mul]; rfl)
    (by rw [Nat.one_mul, ← Nat.mul_succ]; exact Nat.mul_le_mul_left _ hk)) $$ [HB HO]
  · isplitl [HB]; · iexact HB
    isplitl [HO]; · iexact HO
    iapply ((K (F := F)).mayWait_none (thr := thr d L) (SemLoc.dma sem) hO) $$ Hlv
  rw [Nat.one_mul, ← Nat.mul_succ]
  iintro ⟨HB, HO⟩
  iapply Hk
  isplitl [HB]; · iexact HB
  isplitr; · iexact Hlv
  iexists _; isplitr; swap; · iexact HO
  ipureintro
  intro p hp
  rcases Finset.mem_insert.mp hp with rfl | hp
  · exact .inr rfl
  · exact hW' p hp

/-- Every copy awaited, the chunk's rows of the result are gathered, the buffer and the semaphore whole again. -/
theorem end_copies (b : Memref sig .scVector .vmem S4x8192 .f32) {sem : DmaSem sig} {f : Buf (Elt F) (b.view.loc (thr d L))}
    {G : Buf (Elt F) (aO.view.loc (thr d L))} {c a n : ℕ} :
    iprop(Batch EC (thr d L) (.dma sem) none rowCredit (Landed d L v b f G c a n) n (rowCredit * n)
        ∗ bigSep (issued (n := n) n) (fun t => (b.view.loc (thr d L) ↦[Finset.univ \ cut d L (v := v) b c (row v (lo L) (a + t.val))]{shareTok fullShare n t} f))
        ∗ (b.view.loc (thr d L) ↦{shareDrop fullShare n} f))
      ⊢ (|={Set.univ}=> iprop(semVal (thr d L, SemLoc.dma sem) 0 ∗ (b.view.loc (thr d L) ↦{fullShare} f) ∗ bigSep (Finset.Ico a (a + n)) (fun i => outRow d L G (row v (lo L) i))) : sProp 𝕄) := by
  rw [bigSep_places, issued_all]
  iintro ⟨HB, Hi, Hd⟩
  imod (Transfers.batch_collect' EC (thr d L) rowCredit_pos) $$ HB with ⟨HD, Hs⟩
  imodintro
  isplitl [Hs]; · iexact Hs
  ihave HD' := (show bigSep Finset.univ (Landed d L v b f G c a n)
      ⊢ iprop(bigSep Finset.univ (fun t : Fin n => outRow d L G (row v (lo L) (a + t.val)))
        ∗ bigSep Finset.univ (fun t : Fin n => (b.view.loc (thr d L) ↦[cut d L (v := v) b c (row v (lo L) (a + t.val))]{shareTok fullShare n t} f)))
    from by rw [← bigSep_sep']; exact .rfl) $$ HD
  icases HD' with ⟨Ho, Hr⟩
  isplitr [Ho]; swap; · iexact Ho
  iapply (Transfers.pointsTo_toks_join fullShare n)
  isplitl [Hd]; · iexact Hd
  iapply (show iprop(bigSep Finset.univ (fun t : Fin n => (b.view.loc (thr d L) ↦[cut d L (v := v) b c (row v (lo L) (a + t.val))]{shareTok fullShare n t} f))
      ∗ bigSep Finset.univ (fun t : Fin n => (b.view.loc (thr d L) ↦[Finset.univ \ cut d L (v := v) b c (row v (lo L) (a + t.val))]{shareTok fullShare n t} f)))
      ⊢ (bigSep Finset.univ (fun t : Fin n => (b.view.loc (thr d L) ↦{shareTok fullShare n t} f)) : sProp 𝕄)
    from by
      rw [← bigSep_sep']
      exact bigSep_mono fun t _ => (pointsTo_split_subset (Finset.subset_univ (cut d L (v := v) b c (row v (lo L) (a + t.val))))).2)
  isplitl [Hr] <;> iassumption

end Cert.Proof

end
-- ==== Proof.Copies.lean ====
/-
  The copy loops of a chunk: what one trip of each does, and the four loops of a chunk one after the other.
-/
module

public import proofs.«01_k».proof.Proof.Chunk

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Batch Flight pending shareTok shareDrop)

variable {F : FTy → Type} [FloatOps F] (d : Dev nD) (L : grid0.Coords) (v : ℕ → ℕ)

local notation "𝕄" => MM F

/-! ## Loops -/

/-- A loop and what follows it. -/
theorem run_loop {σ : Type} {β : Type} {Q : β → sProp 𝕄} (l : Scf.Loop 32) (ok : l.OK) (init : σ)
    (body : Fin l.trips → σ → Prog (TpuEff nD τ sig (Elt F) Λ₀ (.scVector (cV L) (jV L))) σ) (I : ℕ → σ → sProp 𝕄)
    (hbody : ∀ (k : Fin l.trips) (acc : σ), I k.val acc ⊢ run d L (body k acc) (I (k.val + 1)))
    {kk : σ → Prog (TpuEff nD τ sig (Elt F) Λ₀ (.scVector (cV L) (jV L))) β} :
    I 0 init ⊢ iprop((∀ acc, I l.trips acc -∗ run d L (kk acc) Q) -∗ run d L (Scf.Loop.for l ok init body >>= kk) Q) :=
  Scf.wp_for_bind _ _ _ l.lb l.ub l.st ok init body I hbody

/-- A loop of no trips. -/
theorem run_loop0 {σ : Type} {β : Type} {Q : β → sProp 𝕄} (l : Scf.Loop 32) (ok : l.OK) (init : σ)
    (body : Fin l.trips → σ → Prog (TpuEff nD τ sig (Elt F) Λ₀ (.scVector (cV L) (jV L))) σ) (h : l.trips = 0)
    {kk : σ → Prog (TpuEff nD τ sig (Elt F) Λ₀ (.scVector (cV L) (jV L))) β} :
    run d L (kk init) Q ⊢ run d L (Scf.Loop.for l ok init body >>= kk) Q := by
  iintro H
  ihave H0 := (show run d L (kk init) Q ⊢ (fun (_ : ℕ) (acc : σ) => run d L (kk acc) Q) 0 init from .rfl) $$ H
  iapply (run_loop d L l ok init body (fun _ acc => run d L (kk acc) Q) (fun k _ => absurd (k.isLt.trans_eq h) (Nat.not_lt_zero _))) $$ H0
  iintro %acc H
  iexact H

/-- The four loops of a chunk: `n` copies started, none left over, `n` waited for, none left over. -/
theorem copy_loops {β : Type} {Q : β → sProp 𝕄} {tb : S8192x8192.Idx → Elt F .f32} {fo G : Buf (Elt F) (aO.view.loc (thr d L))}
    (b : Memref sig .scVector .vmem S4x8192 .f32) (sem : DmaSem sig) {f : Buf (Elt F) (b.view.loc (thr d L))} {c a n : ℕ}
    (f7 : Buf (Elt F) ((thr d L).loc cc0_scratch2)) {O : CellTallies nD τ sig (HIx 1)} {W : Waits sig (HIx 1)}
    (l1 l2 l3 l4 : Scf.Loop 32) (ok1 : l1.OK) (ok2 : l2.OK) (ok3 : l3.OK) (ok4 : l4.OK) (h1 : l1.trips = n) (h2 : l2.trips = 0) (h3 : l3.trips = n) (h4 : l4.trips = 0)
    (body1 : Fin l1.trips → Unit → Prog (TpuEff nD τ sig (Elt F) Λ₀ (.scVector (cV L) (jV L))) Unit)
    (body2 : Fin l2.trips → Unit → Prog (TpuEff nD τ sig (Elt F) Λ₀ (.scVector (cV L) (jV L))) Unit)
    (body3 : Fin l3.trips → Unit → Prog (TpuEff nD τ sig (Elt F) Λ₀ (.scVector (cV L) (jV L))) Unit)
    (body4 : Fin l4.trips → Unit → Prog (TpuEff nD τ sig (Elt F) Λ₀ (.scVector (cV L) (jV L))) Unit)
    (hb1 : ∀ (k : Fin l1.trips) (acc : Unit), iprop(((thr d L).loc cc0_scratch2 ↦{fullShare} f7) ∗ Copying d L v b sem f fo G c a n k.val)
      ⊢ run d L (body1 k acc) (fun _ => iprop(((thr d L).loc cc0_scratch2 ↦{fullShare} f7) ∗ Copying d L v b sem f fo G c a n (k.val + 1))))
    (hb3 : ∀ (k : Fin l3.trips) (acc : Unit), iprop(Batch EC (thr d L) (.dma sem) none rowCredit (Landed d L v b f G c a n) n (rowCredit * k.val) ∗ Owes d L O W)
      ⊢ run d L (body3 k acc) (fun _ => iprop(Batch EC (thr d L) (.dma sem) none rowCredit (Landed d L v b f G c a n) n (rowCredit * (k.val + 1)) ∗ Owes d L O W)))
    {kk : Prog (TpuEff nD τ sig (Elt F) Λ₀ (.scVector (cV L) (jV L))) β} :
    iprop(semVal (thr d L, SemLoc.dma sem) 0 ∗ (b.view.loc (thr d L) ↦{fullShare} f) ∗ bigSep (Finset.Ico a (a + n)) (fun i => outRow d L fo (row v (lo L) i))
        ∗ ((thr d L).loc cc0_scratch2 ↦{fullShare} f7) ∗ Owes d L O W)
      ⊢ iprop((iprop(semVal (thr d L, SemLoc.dma sem) 0 ∗ (b.view.loc (thr d L) ↦{fullShare} f) ∗ bigSep (Finset.Ico a (a + n)) (fun i => outRow d L G (row v (lo L) i))
            ∗ ((thr d L).loc cc0_scratch2 ↦{fullShare} f7) ∗ Owes d L O W) -∗ run d L kk Q)
        -∗ run d L (Scf.Loop.for l1 ok1 ⟨⟩ body1 >>= fun _ => Scf.Loop.for l2 ok2 ⟨⟩ body2 >>= fun _ => Scf.Loop.for l3 ok3 ⟨⟩ body3 >>= fun _ =>
          Scf.Loop.for l4 ok4 ⟨⟩ body4 >>= fun _ => kk) Q) := by
  iintro ⟨Hs, Hb, Ho, H7, HO⟩ Hk
  imod (start_copies d L v b sem f fo G c a n) $$ [Hs Hb Ho] with ⟨HC, Hd⟩
  · isplitl [Hs]; · iexact Hs
    isplitl [Hb] <;> iassumption
  icombine H7 HC as HI
  iapply (run_loop d L l1 ok1 ⟨⟩ body1 (fun k _ => iprop(((thr d L).loc cc0_scratch2 ↦{fullShare} f7) ∗ Copying d L v b sem f fo G c a n k)) hb1) $$ HI
  iintro %_ ⟨H7, HC⟩
  rw [h1]
  iapply (run_loop0 d L l2 ok2 ⟨⟩ body2 h2)
  unfold Copying
  icases HC with ⟨HB, -, Hi⟩
  ihave HI := (show iprop(Batch EC (thr d L) (.dma sem) none rowCredit (Landed d L v b f G c a n) n 0 ∗ Owes d L O W)
      ⊢ (fun (k : ℕ) (_ : Unit) => iprop(Batch EC (thr d L) (.dma sem) none rowCredit (Landed d L v b f G c a n) n (rowCredit * k) ∗ Owes d L O W)) 0 ⟨⟩ from .rfl) $$ [HB HO]
  · isplitl [HB] <;> iassumption
  iapply (run_loop d L l3 ok3 ⟨⟩ body3 (fun k _ => iprop(Batch EC (thr d L) (.dma sem) none rowCredit (Landed d L v b f G c a n) n (rowCredit * k) ∗ Owes d L O W)) hb3) $$ HI
  iintro %_ ⟨HB, HO⟩
  rw [h3]
  iapply (run_loop0 d L l4 ok4 ⟨⟩ body4 h4)
  imod (end_copies d L b) $$ [HB Hi Hd] with ⟨Hs, Hb, Ho⟩
  · isplitl [HB]; · iexact HB
    isplitl [Hi] <;> iassumption
  iapply Hk
  isplitl [Hs]; · iexact Hs
  isplitl [Hb]; · iexact Hb
  isplitl [Ho]; · iexact Ho
  isplitl [H7] <;> iassumption

/-! ## The trips -/

/-- The sorted list: place `i` holds the match whose place it is. -/
def Sorted (f : Buf (Elt F) ((thr d L).loc cc0_scratch2)) : Prop := ∀ i, i < total v (lo L) → Wd (n := 16416) f i = W (pack v (row v (lo L) i))

variable {v}

/-- What is known of place `k` of a chunk whose places run from `a` to `m`. -/
theorem place {c a m k : ℕ} (ha : a = base v (lo L) c) (hm : m = base v (lo L) (c + 1)) (hk : k < m - a) :
    a + k < total v (lo L) ∧ total v (lo L) ≤ 16384 ∧ row v (lo L) (a + k) < 16384 ∧ pack v (row v (lo L) (a + k)) < 134217728
      ∧ pack v (row v (lo L) (a + k)) / 16384 = v (row v (lo L) (a + k)) ∧ pack v (row v (lo L) (a + k)) % 16384 = row v (lo L) (a + k)
      ∧ lo L + 4 * c ≤ v (row v (lo L) (a + k)) ∧ v (row v (lo L) (a + k)) < lo L + 4 * c + 4 ∧ v (row v (lo L) (a + k)) < 8192 := by
  have hmt : m ≤ total v (lo L) := hm.le.trans base_le
  have hi : a + k < total v (lo L) := by omega
  have hc := row_chunk (v := v) (lo := lo L) (c := c) (i := a + k) (by omega) (by omega)
  have hp := row_lt (v := v) hi
  have hl := lo_lt L
  have hmi := row_mine (v := v) hi
  unfold Mine at hmi
  exact ⟨hi, total_le, hp, pack_lt hp hl (row_mine hi), pack_div hp, pack_mod hp, hc.1, hc.2, by omega⟩

/-- The places of a chunk are as many as its starting loop's trips. -/
theorem place_trips {c a m : ℕ} (ha : a = base v (lo L) c) (hm : m = base v (lo L) (c + 1)) : (k0_t9_loop (W a) (W m)).trips = m - a :=
  t9_trips (by rw [ha, hm]; exact base_mono (by omega)) ((hm.le.trans base_le).trans total_le)

/-- One row of a buffer, one row of the result: in bounds. -/
theorem row_inb {n r : ℕ} {off : Fin 2 → ℕ} (h : off = ![r, 0]) (hr : r < n) : ∀ q, off q + S1x8192.size q ≤ Shape.size ⟨2, ![n, 8192]⟩ q := by
  subst h
  intro q
  match q with
  | 0 => exact hr
  | 1 => exact le_rfl

/-- A trip of the first buffer's starting loop. -/
theorem t9_step {tb : S8192x8192.Idx → Elt F .f32} {fo G : Buf (Elt F) (aO.view.loc (thr d L))} (hG : Gathered v tb fo G)
    {f : Buf (Elt F) (bA.view.loc (thr d L))} (t : Fin k0_t8_loop.trips) (hf : Chunk d L tb bA (2 * t.val) f)
    (f7 : Buf (Elt F) ((thr d L).loc cc0_scratch2)) (h7 : Sorted d L v f7) {a m n : ℕ} (ha : a = base v (lo L) (2 * t.val)) (hm : m = base v (lo L) ((2 * t.val) + 1)) (hn : n = m - a)
    (x2 x57 : BitVec 32) (hw : k0_chk12 (W a) (W m)) (k : Fin (k0_t9_loop (W a) (W m)).trips) (acc : Unit) :
    iprop(((thr d L).loc cc0_scratch2 ↦{fullShare} f7) ∗ Copying d L v bA cc0_scratch8.sem f fo G (2 * t.val) a n k.val)
      ⊢ run d L (k0_t9_body L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0 x2 0#32 1#32 t (W a) x57 (W m) hw k acc)
        (fun _ => iprop(((thr d L).loc cc0_scratch2 ↦{fullShare} f7) ∗ Copying d L v bA cc0_scratch8.sem f fo G (2 * t.val) a n (k.val + 1))) := by
  have hk : k.val < m - a := lt_of_lt_of_eq k.isLt (place_trips L ha hm)
  obtain ⟨hi, hT, hp, hpl, hpd, hpm, hc1, hc2, hv⟩ := place L ha hm hk
  unfold k0_t9_body
  rw [k0_part5_eq_skeleton]; unfold k0_part5_skel
  simp only [Prog.lift, Prog.bind_op, Prog.bind_ret, Prog.pure_eq_ret]
  iintro ⟨H7, HC⟩
  iapply (wp_load 𝒱₀ (thr d L) none Set.univ (m := sP) (S := Finset.univ) (Finset.subset_univ _)) $$ H7; iintro H7
  have hx : ln (sP.view.readAt (Elt F) (Rect.unit (s := S16416) (k0_off14 (W a) (W m) k) S16.size (k0_off14_inb (W a) (W m) hw k)).toLoadRect f7) 0
        = W (pack v (row v (lo L) (a + k.val))) := by
    refine (ln_at (F := F) sP.view f7 (k0_off14_inb (W a) (W m) hw k) (off14_eq a (W m) k) (k := 0) (by omega)).trans ?_
    rw [W_toNat (by omega)]
    exact h7 _ hi
  generalize sP.view.readAt (Elt F) (Rect.unit (s := S16416) (k0_off14 (W a) (W m) k) S16.size (k0_off14_inb (W a) (W m) hw k)).toLoadRect f7 = x at hx
  have he : extractAt ![0] (k0_pay15 (F := F) x) inpos_S1_p0 = W (pack v (row v (lo L) (a + k.val))) := (lane0 (F := F) x).trans hx
  have ho : k0_off15 L t (extractAt ![0] (k0_pay15 (F := F) x) inpos_S1_p0) = ![v (row v (lo L) (a + k.val)) - (lo L + 4 * (2 * t.val)), 0] := by
    rw [he, off15_eq L t (by omega) (by omega), hpd]
    congr 2; omega
  have ho' : k0_off16 (extractAt ![0] (k0_pay15 (F := F) x) inpos_S1_p0) = ![row v (lo L) (a + k.val), 0] := by
    rw [he]; exact (off16_eq (by omega)).trans (by rw [hpm])
  have hck : k0_chk13 L t (extractAt ![0] (k0_pay15 (F := F) x) inpos_S1_p0) := ⟨row_inb ho (by omega), row_inb ho' hp⟩
  iapply (run_assume d L hck)
  iapply (issue d L hG bA hf (hk.trans_eq hn.symm) rfl hc1 hv _ _ ho ho') $$ HC
  iintro HC
  iapply (run_ret d L)
  isplitl [H7] <;> iassumption

/-- A trip of the second buffer's starting loop. -/
theorem t13_step {tb : S8192x8192.Idx → Elt F .f32} {fo G : Buf (Elt F) (aO.view.loc (thr d L))} (hG : Gathered v tb fo G)
    {f : Buf (Elt F) (bB.view.loc (thr d L))} (t : Fin k0_t8_loop.trips) (hf : Chunk d L tb bB (2 * t.val + 1) f)
    (f7 : Buf (Elt F) ((thr d L).loc cc0_scratch2)) (h7 : Sorted d L v f7) {a m n : ℕ} (ha : a = base v (lo L) (2 * t.val + 1)) (hm : m = base v (lo L) ((2 * t.val + 1) + 1)) (hn : n = m - a)
    (x2 x56 x57 x84 x88 : BitVec 32) (hw : k0_chk15 (W a) (W m)) (k : Fin (k0_t13_loop (W a) (W m)).trips) (acc : Unit) :
    iprop(((thr d L).loc cc0_scratch2 ↦{fullShare} f7) ∗ Copying d L v bB cc0_scratch9.sem f fo G (2 * t.val + 1) a n k.val)
      ⊢ run d L (k0_t13_body L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0 x2 t x56 x57 (W a) x84 x88 (W m) hw k acc)
        (fun _ => iprop(((thr d L).loc cc0_scratch2 ↦{fullShare} f7) ∗ Copying d L v bB cc0_scratch9.sem f fo G (2 * t.val + 1) a n (k.val + 1))) := by
  have hk : k.val < m - a := lt_of_lt_of_eq k.isLt (place_trips L ha hm)
  obtain ⟨hi, hT, hp, hpl, hpd, hpm, hc1, hc2, hv⟩ := place L ha hm hk
  unfold k0_t13_body
  rw [k0_part7_eq_skeleton]; unfold k0_part7_skel
  simp only [Prog.lift, Prog.bind_op, Prog.bind_ret, Prog.pure_eq_ret]
  iintro ⟨H7, HC⟩
  iapply (wp_load 𝒱₀ (thr d L) none Set.univ (m := sP) (S := Finset.univ) (Finset.subset_univ _)) $$ H7; iintro H7
  have hx : ln (sP.view.readAt (Elt F) (Rect.unit (s := S16416) (k0_off23 (W a) (W m) k) S16.size (k0_off23_inb (W a) (W m) hw k)).toLoadRect f7) 0
        = W (pack v (row v (lo L) (a + k.val))) := by
    refine (ln_at (F := F) sP.view f7 (k0_off23_inb (W a) (W m) hw k) (off14_eq a (W m) k) (k := 0) (by omega)).trans ?_
    rw [W_toNat (by omega)]
    exact h7 _ hi
  generalize sP.view.readAt (Elt F) (Rect.unit (s := S16416) (k0_off23 (W a) (W m) k) S16.size (k0_off23_inb (W a) (W m) hw k)).toLoadRect f7 = x at hx
  have he : extractAt ![0] (k0_pay17 (F := F) x) inpos_S1_p0 = W (pack v (row v (lo L) (a + k.val))) := (lane0 (F := F) x).trans hx
  have ho : k0_off24 L t (extractAt ![0] (k0_pay17 (F := F) x) inpos_S1_p0) = ![v (row v (lo L) (a + k.val)) - (lo L + 4 * (2 * t.val + 1)), 0] := by
    rw [he, off24_eq L t (by omega) (by omega), hpd]
    congr 2; omega
  have ho' : k0_off25 (extractAt ![0] (k0_pay17 (F := F) x) inpos_S1_p0) = ![row v (lo L) (a + k.val), 0] := by
    rw [he]; exact (off16_eq (by omega)).trans (by rw [hpm])
  have hck : k0_chk16 L t (extractAt ![0] (k0_pay17 (F := F) x) inpos_S1_p0) := ⟨row_inb ho (by omega), row_inb ho' hp⟩
  iapply (run_assume d L hck)
  iapply (issue d L hG bB hf (hk.trans_eq hn.symm) rfl hc1 hv _ _ ho ho') $$ HC
  iintro HC
  iapply (run_ret d L)
  isplitl [H7] <;> iassumption

/-- A trip of the first buffer's waiting loop. -/
theorem t11_step {f : Buf (Elt F) (bA.view.loc (thr d L))} {G : Buf (Elt F) (aO.view.loc (thr d L))} {O : CellTallies nD τ sig (HIx 1)} {W' : Waits sig (HIx 1)} (hO : ∀ g, O g none = 0)
    (t : Fin k0_t8_loop.trips) {c a m n : ℕ} (ha : a = base v (lo L) c) (hm : m = base v (lo L) (c + 1)) (hn : n = m - a)
    (x2 : BitVec 32) (hw : k0_chk12 (W a) (W m)) (k : Fin (k0_t11_loop (W a) (W m)).trips) (acc : Unit) :
    iprop(Batch EC (thr d L) (.dma cc0_scratch8.sem) none rowCredit (Landed d L v bA f G c a n) n (rowCredit * k.val) ∗ Owes d L O W')
      ⊢ run d L (k0_t11_body L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0 x2 0#32 1#32 t (W a) (W m) hw k acc)
        (fun _ => iprop(Batch EC (thr d L) (.dma cc0_scratch8.sem) none rowCredit (Landed d L v bA f G c a n) n (rowCredit * (k.val + 1)) ∗ Owes d L O W')) := by
  have hk : k.val < n := lt_of_lt_of_eq k.isLt ((place_trips L ha hm).trans hn.symm)
  unfold k0_t11_body
  simp only [Prog.lift, Prog.bind_op, Prog.bind_ret, Prog.pure_eq_ret]
  iintro H
  iapply (drain d L bA hk hO) $$ H
  iintro H
  iapply (run_ret d L)
  iexact H

/-- A trip of the second buffer's waiting loop. -/
theorem t15_step {f : Buf (Elt F) (bB.view.loc (thr d L))} {G : Buf (Elt F) (aO.view.loc (thr d L))} {O : CellTallies nD τ sig (HIx 1)} {W' : Waits sig (HIx 1)} (hO : ∀ g, O g none = 0)
    (t : Fin k0_t8_loop.trips) {c a m n : ℕ} (ha : a = base v (lo L) c) (hm : m = base v (lo L) (c + 1)) (hn : n = m - a)
    (x2 x56 x57 x84 : BitVec 32) (hw : k0_chk15 (W a) (W m)) (k : Fin (k0_t15_loop (W a) (W m)).trips) (acc : Unit) :
    iprop(Batch EC (thr d L) (.dma cc0_scratch9.sem) none rowCredit (Landed d L v bB f G c a n) n (rowCredit * k.val) ∗ Owes d L O W')
      ⊢ run d L (k0_t15_body L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0 x2 t x56 x57 (W a) x84 (W m) hw k acc)
        (fun _ => iprop(Batch EC (thr d L) (.dma cc0_scratch9.sem) none rowCredit (Landed d L v bB f G c a n) n (rowCredit * (k.val + 1)) ∗ Owes d L O W')) := by
  have hk : k.val < n := lt_of_lt_of_eq k.isLt ((place_trips L ha hm).trans hn.symm)
  unfold k0_t15_body
  simp only [Prog.lift, Prog.bind_op, Prog.bind_ret, Prog.pure_eq_ret]
  iintro H
  iapply (drain d L bB hk hO) $$ H
  iintro H
  iapply (run_ret d L)
  iexact H

end Cert.Proof

end
-- ==== Proof.Chunks.lean ====
/-
  The loop over the chunks, two to a trip: while one buffer's rows go out, the other's come in.
-/
module

public import proofs.«01_k».proof.Proof.Copies

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Batch Flight pending shareTok shareDrop)

variable {F : FTy → Type} [FloatOps F] (d : Dev nD) (L : grid0.Coords) (v : ℕ → ℕ)

local notation "𝕄" => MM F

omit [FloatOps F] in
/-- A run of places is its first part and its second. -/
theorem places_split {a m e : ℕ} (h1 : a ≤ m) (h2 : m ≤ e) (Φ : ℕ → sProp 𝕄) :
    bigSep (Finset.Ico a e) Φ = iprop(bigSep (Finset.Ico a m) Φ ∗ bigSep (Finset.Ico m e) Φ) := by
  have hu : Finset.Ico a e = Finset.Ico a m ∪ Finset.Ico m e := by
    ext x; simp only [Finset.mem_union, Finset.mem_Ico]; omega
  have hd : Disjoint (Finset.Ico a m) (Finset.Ico m e) := by
    rw [Finset.disjoint_left]; intro x; simp only [Finset.mem_Ico]; omega
  rw [hu, BI.bigSep_union hd]; rfl

/-- The rows of the result that are the tile's: those of the first `m` places gathered, the others untouched. -/
def Out (fo G : Buf (Elt F) (aO.view.loc (thr d L))) (m : ℕ) : sProp 𝕄 :=
  iprop(bigSep (Finset.Ico 0 m) (fun i => outRow d L G (row v (lo L) i)) ∗ bigSep (Finset.Ico m (total v (lo L))) (fun i => outRow d L fo (row v (lo L) i)))

/-- The cursors after the sort: the end of each chunk's places. -/
def Ends (f : Buf (Elt F) ((thr d L).loc cc0_scratch3)) : Prop := ∀ c, c < 64 → Wd (n := 80) f c = W (base v (lo L) (c + 1))

/-- A buffer, its semaphore and its share of the table before chunk `c` is awaited: the read under way, or nothing left to
    read. -/
def Slot (b : Memref sig .scVector .vmem S4x8192 .f32) (sem : DmaSem sig) (q : PosShare TreeShare) (tb : Buf (Elt F) (aT.view.loc (thr d L))) (c : ℕ) : sProp 𝕄 :=
  if c < 64 then Reading d L b sem q tb c
  else iprop((∃ f, b.view.loc (thr d L) ↦{fullShare} f) ∗ (aT.view.loc (thr d L) ↦{q} tb) ∗ semVal (thr d L, SemLoc.dma sem) 0)

variable {v}

/-- The first half of a trip once the cursor is read: the loops over the rows of chunk `2 t`. -/
theorem part9_tail {α : Type} {Q : α → sProp 𝕄} {tb : Buf (Elt F) (aT.view.loc (thr d L))} {fo G : Buf (Elt F) (aO.view.loc (thr d L))} (hG : Gathered v tb fo G)
    (t : Fin k0_t8_loop.trips) (f7 : Buf (Elt F) ((thr d L).loc cc0_scratch2)) (h7 : Sorted d L v f7)
    {fA : Buf (Elt F) (bA.view.loc (thr d L))} (hA : Chunk d L tb bA (2 * t.val) fA)
    {O : CellTallies nD τ sig (HIx 1)} {W' : Waits sig (HIx 1)} (hO : ∀ g, O g none = 0) (x2 x57 x74 z : BitVec 32) (hz : z = W (base v (lo L) (2 * t.val + 1)))
    (f : Prog (TpuEff nD τ sig (Elt F) Λ₀ (.scVector (cV L) (jV L))) α) :
    iprop((bA.view.loc (thr d L) ↦{fullShare} fA) ∗ semVal (thr d L, SemLoc.dma cc0_scratch8.sem) 0 ∗ Out d L v fo G (base v (lo L) (2 * t.val))
        ∗ ((thr d L).loc cc0_scratch2 ↦{fullShare} f7) ∗ Owes d L O W')
      ⊢ iprop((iprop((bA.view.loc (thr d L) ↦{fullShare} fA) ∗ semVal (thr d L, SemLoc.dma cc0_scratch8.sem) 0 ∗ Out d L v fo G (base v (lo L) (2 * t.val + 1))
            ∗ ((thr d L).loc cc0_scratch2 ↦{fullShare} f7) ∗ Owes d L O W')
          -∗ run d L f Q)
        -∗ run d L (.op (.assume (k0_chk12 (W (base v (lo L) (2 * t.val))) z) (k0_chk12.dec (W (base v (lo L) (2 * t.val))) z)) fun h =>
          (Scf.Loop.for (k0_t9_loop (W (base v (lo L) (2 * t.val))) z) (k0_t9_ok (W (base v (lo L) (2 * t.val))) z h.down) ⟨⟩ (k0_t9_body L aI (Memref.isWhole_whole _) aT (Memref.isWhole_whole _) aO (Memref.isWhole_whole _) sI (Memref.isWhole_whole _)
        sU (Memref.isWhole_whole _) sP (Memref.isWhole_whole _) sC (Memref.isWhole_whole _) bA (Memref.isWhole_whole _) bB (Memref.isWhole_whole _)
        cc0_scratch6 cc0_scratch7 cc0_scratch8 cc0_scratch9 cc0_scoped0 x2 0#32 1#32 t (W (base v (lo L) (2 * t.val))) x57 z h.down)) >>= fun _ =>
          (Scf.Loop.for (k0_t10_loop (W (base v (lo L) (2 * t.val))) z) (k0_t10_ok (W (base v (lo L) (2 * t.val))) z h.down) ⟨⟩ (k0_t10_body L aI (Memref.isWhole_whole _) aT (Memref.isWhole_whole _) aO (Memref.isWhole_whole _) sI (Memref.isWhole_whole _)
        sU (Memref.isWhole_whole _) sP (Memref.isWhole_whole _) sC (Memref.isWhole_whole _) bA (Memref.isWhole_whole _) bB (Memref.isWhole_whole _)
        cc0_scratch6 cc0_scratch7 cc0_scratch8 cc0_scratch9 cc0_scoped0 x2 0#32 1#32 t (W (base v (lo L) (2 * t.val))) x57 z h.down x74)) >>= fun _ =>
          (Scf.Loop.for (k0_t11_loop (W (base v (lo L) (2 * t.val))) z) (k0_t11_ok (W (base v (lo L) (2 * t.val))) z h.down) ⟨⟩ (k0_t11_body L aI (Memref.isWhole_whole _) aT (Memref.isWhole_whole _) aO (Memref.isWhole_whole _) sI (Memref.isWhole_whole _)
        sU (Memref.isWhole_whole _) sP (Memref.isWhole_whole _) sC (Memref.isWhole_whole _) bA (Memref.isWhole_whole _) bB (Memref.isWhole_whole _)
        cc0_scratch6 cc0_scratch7 cc0_scratch8 cc0_scratch9 cc0_scoped0 x2 0#32 1#32 t (W (base v (lo L) (2 * t.val))) z h.down)) >>= fun _ =>
          (Scf.Loop.for (k0_t12_loop (W (base v (lo L) (2 * t.val))) z) (k0_t12_ok (W (base v (lo L) (2 * t.val))) z h.down) ⟨⟩ (k0_t12_body L aI (Memref.isWhole_whole _) aT (Memref.isWhole_whole _) aO (Memref.isWhole_whole _) sI (Memref.isWhole_whole _)
        sU (Memref.isWhole_whole _) sP (Memref.isWhole_whole _) sC (Memref.isWhole_whole _) bA (Memref.isWhole_whole _) bB (Memref.isWhole_whole _)
        cc0_scratch6 cc0_scratch7 cc0_scratch8 cc0_scratch9 cc0_scoped0 x2 0#32 1#32 t (W (base v (lo L) (2 * t.val))) z h.down)) >>= fun _ => f) Q) := by
  have ht : t.val < 32 := t.isLt
  have hab : base v (lo L) (2 * t.val) ≤ base v (lo L) (2 * t.val + 1) := base_mono (by omega)
  have hbt : base v (lo L) (2 * t.val + 1) ≤ total v (lo L) := base_le
  have hT : total v (lo L) ≤ 16384 := total_le
  have htr := place_trips L (v := v) (c := 2 * t.val) rfl rfl
  subst hz
  have e1 : Out d L v fo G (base v (lo L) (2 * t.val)) = iprop(bigSep (Finset.Ico 0 (base v (lo L) (2 * t.val))) (fun i => outRow d L G (row v (lo L) i))
      ∗ bigSep (Finset.Ico (base v (lo L) (2 * t.val)) (base v (lo L) (2 * t.val) + (base v (lo L) (2 * t.val + 1) - base v (lo L) (2 * t.val)))) (fun i => outRow d L fo (row v (lo L) i))
      ∗ bigSep (Finset.Ico (base v (lo L) (2 * t.val + 1)) (total v (lo L))) (fun i => outRow d L fo (row v (lo L) i))) := by
    rw [Nat.add_sub_cancel' hab]; unfold Out; rw [places_split hab hbt]
  have e2 : Out d L v fo G (base v (lo L) (2 * t.val + 1)) = iprop((bigSep (Finset.Ico 0 (base v (lo L) (2 * t.val))) (fun i => outRow d L G (row v (lo L) i))
      ∗ bigSep (Finset.Ico (base v (lo L) (2 * t.val)) (base v (lo L) (2 * t.val) + (base v (lo L) (2 * t.val + 1) - base v (lo L) (2 * t.val)))) (fun i => outRow d L G (row v (lo L) i)))
      ∗ bigSep (Finset.Ico (base v (lo L) (2 * t.val + 1)) (total v (lo L))) (fun i => outRow d L fo (row v (lo L) i))) := by
    rw [Nat.add_sub_cancel' hab]; unfold Out; rw [places_split (Nat.zero_le _) hab]
  have hw := chk12 hab (hbt.trans hT)
  have h9 := t9_step d L hG t hA f7 h7 rfl rfl rfl x2 x57 hw
  have h11 := t11_step d L (v := v) (f := fA) (G := G) (W' := W') hO t rfl rfl rfl x2 hw
  rw [e1, e2]
  iintro ⟨HA, H8s, ⟨HG, HM, HR⟩, H7, HO⟩ Hk
  iapply (run_assume d L hw)
  iapply (copy_loops (tb := tb) d L v bA cc0_scratch8.sem f7 (k0_t9_loop (W (base v (lo L) (2 * t.val))) (W (base v (lo L) (2 * t.val + 1)))) (k0_t10_loop (W (base v (lo L) (2 * t.val))) (W (base v (lo L) (2 * t.val + 1)))) (k0_t11_loop (W (base v (lo L) (2 * t.val))) (W (base v (lo L) (2 * t.val + 1)))) (k0_t12_loop (W (base v (lo L) (2 * t.val))) (W (base v (lo L) (2 * t.val + 1))))
      (k0_t9_ok (W (base v (lo L) (2 * t.val))) (W (base v (lo L) (2 * t.val + 1))) hw) (k0_t10_ok (W (base v (lo L) (2 * t.val))) (W (base v (lo L) (2 * t.val + 1))) hw) (k0_t11_ok (W (base v (lo L) (2 * t.val))) (W (base v (lo L) (2 * t.val + 1))) hw) (k0_t12_ok (W (base v (lo L) (2 * t.val))) (W (base v (lo L) (2 * t.val + 1))) hw) htr (t10_trips _ _) htr (t10_trips _ _)
      (k0_t9_body L aI (Memref.isWhole_whole _) aT (Memref.isWhole_whole _) aO (Memref.isWhole_whole _) sI (Memref.isWhole_whole _)
        sU (Memref.isWhole_whole _) sP (Memref.isWhole_whole _) sC (Memref.isWhole_whole _) bA (Memref.isWhole_whole _) bB (Memref.isWhole_whole _)
        cc0_scratch6 cc0_scratch7 cc0_scratch8 cc0_scratch9 cc0_scoped0 x2 0#32 1#32 t (W (base v (lo L) (2 * t.val))) x57 (W (base v (lo L) (2 * t.val + 1))) hw)
      (k0_t10_body L aI (Memref.isWhole_whole _) aT (Memref.isWhole_whole _) aO (Memref.isWhole_whole _) sI (Memref.isWhole_whole _)
        sU (Memref.isWhole_whole _) sP (Memref.isWhole_whole _) sC (Memref.isWhole_whole _) bA (Memref.isWhole_whole _) bB (Memref.isWhole_whole _)
        cc0_scratch6 cc0_scratch7 cc0_scratch8 cc0_scratch9 cc0_scoped0 x2 0#32 1#32 t (W (base v (lo L) (2 * t.val))) x57 (W (base v (lo L) (2 * t.val + 1))) hw x74)
      (k0_t11_body L aI (Memref.isWhole_whole _) aT (Memref.isWhole_whole _) aO (Memref.isWhole_whole _) sI (Memref.isWhole_whole _)
        sU (Memref.isWhole_whole _) sP (Memref.isWhole_whole _) sC (Memref.isWhole_whole _) bA (Memref.isWhole_whole _) bB (Memref.isWhole_whole _)
        cc0_scratch6 cc0_scratch7 cc0_scratch8 cc0_scratch9 cc0_scoped0 x2 0#32 1#32 t (W (base v (lo L) (2 * t.val))) (W (base v (lo L) (2 * t.val + 1))) hw)
      (k0_t12_body L aI (Memref.isWhole_whole _) aT (Memref.isWhole_whole _) aO (Memref.isWhole_whole _) sI (Memref.isWhole_whole _)
        sU (Memref.isWhole_whole _) sP (Memref.isWhole_whole _) sC (Memref.isWhole_whole _) bA (Memref.isWhole_whole _) bB (Memref.isWhole_whole _)
        cc0_scratch6 cc0_scratch7 cc0_scratch8 cc0_scratch9 cc0_scoped0 x2 0#32 1#32 t (W (base v (lo L) (2 * t.val))) (W (base v (lo L) (2 * t.val + 1))) hw) h9 h11) $$ [HA H8s HM H7 HO]
  · isplitl [H8s]
    · iassumption
    · isplitl [HA]
      · iassumption
      · isplitl [HM]
        · iassumption
        · isplitl [H7] <;> iassumption
  iintro ⟨H8s, HA, HM, H7, HO⟩
  iapply Hk
  isplitl [HA]
  · iassumption
  · isplitl [H8s]
    · iassumption
    · isplitl [HG HM HR]
      · isplitl [HG HM]
        · isplitl [HG] <;> iassumption
        · iassumption
      · isplitl [H7] <;> iassumption

/-- The first half of a trip: chunk `2 t` is awaited and copied out. -/
theorem part9_step {α : Type} {Q : α → sProp 𝕄} {tb : Buf (Elt F) (aT.view.loc (thr d L))} {fo G : Buf (Elt F) (aO.view.loc (thr d L))} (hG : Gathered v tb fo G)
    (t : Fin k0_t8_loop.trips) {q : PosShare TreeShare} (f7 : Buf (Elt F) ((thr d L).loc cc0_scratch2)) (h7 : Sorted d L v f7)
    (f8 : Buf (Elt F) ((thr d L).loc cc0_scratch3)) (h8 : Ends d L v f8) {O : CellTallies nD τ sig (HIx 1)} {W' : Waits sig (HIx 1)} (hO : ∀ g, O g none = 0) (x2 : BitVec 32)
    (f : (Σ' (_ : BitVec 32) (_ : BitVec 32) (_ : BitVec 32), BitVec 32) → Prog (TpuEff nD τ sig (Elt F) Λ₀ (.scVector (cV L) (jV L))) α) :
    iprop(Reading d L bA cc0_scratch6.sem q tb (2 * t.val) ∗ semVal (thr d L, SemLoc.dma cc0_scratch8.sem) 0 ∗ Out d L v fo G (base v (lo L) (2 * t.val))
        ∗ ((thr d L).loc cc0_scratch2 ↦{fullShare} f7) ∗ ((thr d L).loc cc0_scratch3 ↦{fullShare} f8) ∗ Owes d L O W')
      ⊢ iprop((∀ y56 y57 y65 y84, iprop(⌜y65 = W (base v (lo L) (2 * t.val + 1))⌝ ∗ ((∃ g, bA.view.loc (thr d L) ↦{fullShare} g) ∗ (aT.view.loc (thr d L) ↦{q} tb) ∗ semVal (thr d L, SemLoc.dma cc0_scratch6.sem) 0)
            ∗ semVal (thr d L, SemLoc.dma cc0_scratch8.sem) 0 ∗ Out d L v fo G (base v (lo L) (2 * t.val + 1))
            ∗ ((thr d L).loc cc0_scratch2 ↦{fullShare} f7) ∗ ((thr d L).loc cc0_scratch3 ↦{fullShare} f8) ∗ Owes d L O W')
          -∗ run d L (f ⟨y56, y57, y65, y84⟩) Q)
        -∗ run d L (k0_part9 L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0 x2 0#32 1#32 t (W (base v (lo L) (2 * t.val))) >>= f) Q) := by
  have ht : t.val < 32 := t.isLt
  have hab : base v (lo L) (2 * t.val) ≤ base v (lo L) (2 * t.val + 1) := base_mono (by omega)
  have hbt : base v (lo L) (2 * t.val + 1) ≤ total v (lo L) := base_le
  have hT : total v (lo L) ≤ 16384 := total_le
  have htr := place_trips L (v := v) (c := 2 * t.val) rfl rfl
  rw [k0_part9_eq_skeleton]; unfold k0_part9_skel
  simp only [Prog.lift, Prog.bind_op, Prog.bind_ret, Prog.pure_eq_ret, Prog.bind_assoc]
  iintro ⟨HR, H8s, HOut, H7, H8, HO⟩ Hk
  iapply (end_read d L bA tb hO) $$ [HR HO]
  · isplitl [HR] <;> iassumption
  iintro ⟨⟨%fA, %hfA, HA⟩, Ht, H6s, HO⟩
  iapply (wp_load 𝒱₀ (thr d L) none Set.univ (m := sC) (S := Finset.univ) (Finset.subset_univ _)) $$ H8; iintro H8
  have hx : ln (sC.view.readAt (Elt F) (Rect.unit (s := S80) (k0_off13 t) S16.size (k0_off13_inb t)).toLoadRect f8) 0 = W (base v (lo L) (2 * t.val + 1)) :=
    (ln_at (F := F) sC.view f8 (k0_off13_inb t) (k0_off13_eq t) (k := 0) (by omega)).trans (h8 _ (by omega))
  generalize sC.view.readAt (Elt F) (Rect.unit (s := S80) (k0_off13 t) S16.size (k0_off13_inb t)).toLoadRect f8 = x at hx
  have he : extractAt ![0] (k0_pay19 (F := F) x) inpos_S1_p0 = W (base v (lo L) (2 * t.val + 1)) := (lane0 (F := F) x).trans hx
  iapply (part9_tail d L hG t f7 h7 hfA hO x2 _ _ _ he _) $$ [HA H8s HOut H7 HO]
  · isplitl [HA]
    · iassumption
    · isplitl [H8s]
      · iassumption
      · isplitl [HOut]
        · iassumption
        · isplitl [H7] <;> iassumption
  iintro ⟨HA, H8s, HOut, H7, HO⟩
  iapply Hk
  isplitl []
  · ipureintro; exact he
  isplitl [HA Ht H6s]
  · isplitl [HA]
    · iexists fA; iassumption
    · isplitl [Ht] <;> iassumption
  · isplitl [H8s]
    · iassumption
    · isplitl [HOut]
      · iassumption
      · isplitl [H7]
        · iassumption
        · isplitl [H8] <;> iassumption

/-- The second half of a trip once the cursor is read: the loops over the rows of chunk `2 t`. -/
theorem part10_tail {α : Type} {Q : α → sProp 𝕄} {tb : Buf (Elt F) (aT.view.loc (thr d L))} {fo G : Buf (Elt F) (aO.view.loc (thr d L))} (hG : Gathered v tb fo G)
    (t : Fin k0_t8_loop.trips) (f7 : Buf (Elt F) ((thr d L).loc cc0_scratch2)) (h7 : Sorted d L v f7)
    {fB : Buf (Elt F) (bB.view.loc (thr d L))} (hB : Chunk d L tb bB (2 * t.val + 1) fB)
    {O : CellTallies nD τ sig (HIx 1)} {W' : Waits sig (HIx 1)} (hO : ∀ g, O g none = 0) (x2 x56 x57 x84 x88 x105 z : BitVec 32) (hz : z = W (base v (lo L) (2 * t.val + 1 + 1)))
    (f : Prog (TpuEff nD τ sig (Elt F) Λ₀ (.scVector (cV L) (jV L))) α) :
    iprop((bB.view.loc (thr d L) ↦{fullShare} fB) ∗ semVal (thr d L, SemLoc.dma cc0_scratch9.sem) 0 ∗ Out d L v fo G (base v (lo L) (2 * t.val + 1))
        ∗ ((thr d L).loc cc0_scratch2 ↦{fullShare} f7) ∗ Owes d L O W')
      ⊢ iprop((iprop((bB.view.loc (thr d L) ↦{fullShare} fB) ∗ semVal (thr d L, SemLoc.dma cc0_scratch9.sem) 0 ∗ Out d L v fo G (base v (lo L) (2 * t.val + 1 + 1))
            ∗ ((thr d L).loc cc0_scratch2 ↦{fullShare} f7) ∗ Owes d L O W')
          -∗ run d L f Q)
        -∗ run d L (.op (.assume (k0_chk15 (W (base v (lo L) (2 * t.val + 1))) z) (k0_chk15.dec (W (base v (lo L) (2 * t.val + 1))) z)) fun h =>
          (Scf.Loop.for (k0_t13_loop (W (base v (lo L) (2 * t.val + 1))) z) (k0_t13_ok (W (base v (lo L) (2 * t.val + 1))) z h.down) ⟨⟩ (k0_t13_body L aI (Memref.isWhole_whole _) aT (Memref.isWhole_whole _) aO (Memref.isWhole_whole _) sI (Memref.isWhole_whole _)
        sU (Memref.isWhole_whole _) sP (Memref.isWhole_whole _) sC (Memref.isWhole_whole _) bA (Memref.isWhole_whole _) bB (Memref.isWhole_whole _)
        cc0_scratch6 cc0_scratch7 cc0_scratch8 cc0_scratch9 cc0_scoped0 x2 t x56 x57 (W (base v (lo L) (2 * t.val + 1))) x84 x88 z h.down)) >>= fun _ =>
          (Scf.Loop.for (k0_t14_loop (W (base v (lo L) (2 * t.val + 1))) z) (k0_t14_ok (W (base v (lo L) (2 * t.val + 1))) z h.down) ⟨⟩ (k0_t14_body L aI (Memref.isWhole_whole _) aT (Memref.isWhole_whole _) aO (Memref.isWhole_whole _) sI (Memref.isWhole_whole _)
        sU (Memref.isWhole_whole _) sP (Memref.isWhole_whole _) sC (Memref.isWhole_whole _) bA (Memref.isWhole_whole _) bB (Memref.isWhole_whole _)
        cc0_scratch6 cc0_scratch7 cc0_scratch8 cc0_scratch9 cc0_scoped0 x2 t x56 x57 (W (base v (lo L) (2 * t.val + 1))) x84 x88 z h.down x105)) >>= fun _ =>
          (Scf.Loop.for (k0_t15_loop (W (base v (lo L) (2 * t.val + 1))) z) (k0_t15_ok (W (base v (lo L) (2 * t.val + 1))) z h.down) ⟨⟩ (k0_t15_body L aI (Memref.isWhole_whole _) aT (Memref.isWhole_whole _) aO (Memref.isWhole_whole _) sI (Memref.isWhole_whole _)
        sU (Memref.isWhole_whole _) sP (Memref.isWhole_whole _) sC (Memref.isWhole_whole _) bA (Memref.isWhole_whole _) bB (Memref.isWhole_whole _)
        cc0_scratch6 cc0_scratch7 cc0_scratch8 cc0_scratch9 cc0_scoped0 x2 t x56 x57 (W (base v (lo L) (2 * t.val + 1))) x84 z h.down)) >>= fun _ =>
          (Scf.Loop.for (k0_t16_loop (W (base v (lo L) (2 * t.val + 1))) z) (k0_t16_ok (W (base v (lo L) (2 * t.val + 1))) z h.down) ⟨⟩ (k0_t16_body L aI (Memref.isWhole_whole _) aT (Memref.isWhole_whole _) aO (Memref.isWhole_whole _) sI (Memref.isWhole_whole _)
        sU (Memref.isWhole_whole _) sP (Memref.isWhole_whole _) sC (Memref.isWhole_whole _) bA (Memref.isWhole_whole _) bB (Memref.isWhole_whole _)
        cc0_scratch6 cc0_scratch7 cc0_scratch8 cc0_scratch9 cc0_scoped0 x2 t x56 x57 (W (base v (lo L) (2 * t.val + 1))) x84 z h.down)) >>= fun _ => f) Q) := by
  have ht : t.val < 32 := t.isLt
  have hab : base v (lo L) (2 * t.val + 1) ≤ base v (lo L) (2 * t.val + 1 + 1) := base_mono (by omega)
  have hbt : base v (lo L) (2 * t.val + 1 + 1) ≤ total v (lo L) := base_le
  have hT : total v (lo L) ≤ 16384 := total_le
  have htr := place_trips L (v := v) (c := 2 * t.val + 1) rfl rfl
  subst hz
  have e1 : Out d L v fo G (base v (lo L) (2 * t.val + 1)) = iprop(bigSep (Finset.Ico 0 (base v (lo L) (2 * t.val + 1))) (fun i => outRow d L G (row v (lo L) i))
      ∗ bigSep (Finset.Ico (base v (lo L) (2 * t.val + 1)) (base v (lo L) (2 * t.val + 1) + (base v (lo L) (2 * t.val + 1 + 1) - base v (lo L) (2 * t.val + 1)))) (fun i => outRow d L fo (row v (lo L) i))
      ∗ bigSep (Finset.Ico (base v (lo L) (2 * t.val + 1 + 1)) (total v (lo L))) (fun i => outRow d L fo (row v (lo L) i))) := by
    rw [Nat.add_sub_cancel' hab]; unfold Out; rw [places_split hab hbt]
  have e2 : Out d L v fo G (base v (lo L) (2 * t.val + 1 + 1)) = iprop((bigSep (Finset.Ico 0 (base v (lo L) (2 * t.val + 1))) (fun i => outRow d L G (row v (lo L) i))
      ∗ bigSep (Finset.Ico (base v (lo L) (2 * t.val + 1)) (base v (lo L) (2 * t.val + 1) + (base v (lo L) (2 * t.val + 1 + 1) - base v (lo L) (2 * t.val + 1)))) (fun i => outRow d L G (row v (lo L) i)))
      ∗ bigSep (Finset.Ico (base v (lo L) (2 * t.val + 1 + 1)) (total v (lo L))) (fun i => outRow d L fo (row v (lo L) i))) := by
    rw [Nat.add_sub_cancel' hab]; unfold Out; rw [places_split (Nat.zero_le _) hab]
  have hw := chk15 hab (hbt.trans hT)
  have h13 := t13_step d L hG t hB f7 h7 rfl rfl rfl x2 x56 x57 x84 x88 hw
  have h15 := t15_step d L (v := v) (f := fB) (G := G) (W' := W') hO t rfl rfl rfl x2 x56 x57 x84 hw
  rw [e1, e2]
  iintro ⟨HB, H8s, ⟨HG, HM, HR⟩, H7, HO⟩ Hk
  iapply (run_assume d L hw)
  iapply (copy_loops (tb := tb) d L v bB cc0_scratch9.sem f7 (k0_t13_loop (W (base v (lo L) (2 * t.val + 1))) (W (base v (lo L) (2 * t.val + 1 + 1)))) (k0_t14_loop (W (base v (lo L) (2 * t.val + 1))) (W (base v (lo L) (2 * t.val + 1 + 1)))) (k0_t15_loop (W (base v (lo L) (2 * t.val + 1))) (W (base v (lo L) (2 * t.val + 1 + 1)))) (k0_t16_loop (W (base v (lo L) (2 * t.val + 1))) (W (base v (lo L) (2 * t.val + 1 + 1))))
      (k0_t13_ok (W (base v (lo L) (2 * t.val + 1))) (W (base v (lo L) (2 * t.val + 1 + 1))) hw) (k0_t14_ok (W (base v (lo L) (2 * t.val + 1))) (W (base v (lo L) (2 * t.val + 1 + 1))) hw) (k0_t15_ok (W (base v (lo L) (2 * t.val + 1))) (W (base v (lo L) (2 * t.val + 1 + 1))) hw) (k0_t16_ok (W (base v (lo L) (2 * t.val + 1))) (W (base v (lo L) (2 * t.val + 1 + 1))) hw) htr (t10_trips _ _) htr (t10_trips _ _)
      (k0_t13_body L aI (Memref.isWhole_whole _) aT (Memref.isWhole_whole _) aO (Memref.isWhole_whole _) sI (Memref.isWhole_whole _)
        sU (Memref.isWhole_whole _) sP (Memref.isWhole_whole _) sC (Memref.isWhole_whole _) bA (Memref.isWhole_whole _) bB (Memref.isWhole_whole _)
        cc0_scratch6 cc0_scratch7 cc0_scratch8 cc0_scratch9 cc0_scoped0 x2 t x56 x57 (W (base v (lo L) (2 * t.val + 1))) x84 x88 (W (base v (lo L) (2 * t.val + 1 + 1))) hw)
      (k0_t14_body L aI (Memref.isWhole_whole _) aT (Memref.isWhole_whole _) aO (Memref.isWhole_whole _) sI (Memref.isWhole_whole _)
        sU (Memref.isWhole_whole _) sP (Memref.isWhole_whole _) sC (Memref.isWhole_whole _) bA (Memref.isWhole_whole _) bB (Memref.isWhole_whole _)
        cc0_scratch6 cc0_scratch7 cc0_scratch8 cc0_scratch9 cc0_scoped0 x2 t x56 x57 (W (base v (lo L) (2 * t.val + 1))) x84 x88 (W (base v (lo L) (2 * t.val + 1 + 1))) hw x105)
      (k0_t15_body L aI (Memref.isWhole_whole _) aT (Memref.isWhole_whole _) aO (Memref.isWhole_whole _) sI (Memref.isWhole_whole _)
        sU (Memref.isWhole_whole _) sP (Memref.isWhole_whole _) sC (Memref.isWhole_whole _) bA (Memref.isWhole_whole _) bB (Memref.isWhole_whole _)
        cc0_scratch6 cc0_scratch7 cc0_scratch8 cc0_scratch9 cc0_scoped0 x2 t x56 x57 (W (base v (lo L) (2 * t.val + 1))) x84 (W (base v (lo L) (2 * t.val + 1 + 1))) hw)
      (k0_t16_body L aI (Memref.isWhole_whole _) aT (Memref.isWhole_whole _) aO (Memref.isWhole_whole _) sI (Memref.isWhole_whole _)
        sU (Memref.isWhole_whole _) sP (Memref.isWhole_whole _) sC (Memref.isWhole_whole _) bA (Memref.isWhole_whole _) bB (Memref.isWhole_whole _)
        cc0_scratch6 cc0_scratch7 cc0_scratch8 cc0_scratch9 cc0_scoped0 x2 t x56 x57 (W (base v (lo L) (2 * t.val + 1))) x84 (W (base v (lo L) (2 * t.val + 1 + 1))) hw) h13 h15) $$ [HB H8s HM H7 HO]
  · isplitl [H8s]
    · iassumption
    · isplitl [HB]
      · iassumption
      · isplitl [HM]
        · iassumption
        · isplitl [H7] <;> iassumption
  iintro ⟨H8s, HB, HM, H7, HO⟩
  iapply Hk
  isplitl [HB]
  · iassumption
  · isplitl [H8s]
    · iassumption
    · isplitl [HG HM HR]
      · isplitl [HG HM]
        · isplitl [HG] <;> iassumption
        · iassumption
      · isplitl [H7] <;> iassumption

/-- The second half of a trip: the first buffer is filled again, chunk `2 t + 1` is awaited and copied out. -/
theorem part10_step {α : Type} {Q : α → sProp 𝕄} {tb : Buf (Elt F) (aT.view.loc (thr d L))} {fo G : Buf (Elt F) (aO.view.loc (thr d L))} (hG : Gathered v tb fo G)
    (t : Fin k0_t8_loop.trips) {q q' : PosShare TreeShare} (f7 : Buf (Elt F) ((thr d L).loc cc0_scratch2)) (h7 : Sorted d L v f7)
    (f8 : Buf (Elt F) ((thr d L).loc cc0_scratch3)) (h8 : Ends d L v f8) {O : CellTallies nD τ sig (HIx 1)} {W' : Waits sig (HIx 1)} (hO : ∀ g, O g none = 0) (x2 x56 x57 x84 : BitVec 32)
    (f : (Σ' (_ : BitVec 32) (_ : BitVec 32), BitVec 32) → Prog (TpuEff nD τ sig (Elt F) Λ₀ (.scVector (cV L) (jV L))) α) :
    iprop(((∃ g, bA.view.loc (thr d L) ↦{fullShare} g) ∗ (aT.view.loc (thr d L) ↦{q'} tb) ∗ semVal (thr d L, SemLoc.dma cc0_scratch6.sem) 0)
        ∗ Reading d L bB cc0_scratch7.sem q tb (2 * t.val + 1) ∗ semVal (thr d L, SemLoc.dma cc0_scratch9.sem) 0 ∗ Out d L v fo G (base v (lo L) (2 * t.val + 1))
        ∗ ((thr d L).loc cc0_scratch2 ↦{fullShare} f7) ∗ ((thr d L).loc cc0_scratch3 ↦{fullShare} f8) ∗ Owes d L O W')
      ⊢ iprop((∀ y88 y96 y2, iprop(⌜y96 = W (base v (lo L) (2 * t.val + 1 + 1))⌝ ∗ Slot d L bA cc0_scratch6.sem q' tb (2 * (t.val + 1)) ∗ ((∃ g, bB.view.loc (thr d L) ↦{fullShare} g) ∗ (aT.view.loc (thr d L) ↦{q} tb) ∗ semVal (thr d L, SemLoc.dma cc0_scratch7.sem) 0)
            ∗ semVal (thr d L, SemLoc.dma cc0_scratch9.sem) 0 ∗ Out d L v fo G (base v (lo L) (2 * t.val + 1 + 1))
            ∗ ((thr d L).loc cc0_scratch2 ↦{fullShare} f7) ∗ ((thr d L).loc cc0_scratch3 ↦{fullShare} f8) ∗ Owes d L O W')
          -∗ run d L (f ⟨y88, y96, y2⟩) Q)
        -∗ run d L (k0_part10 L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0 x2 t x56 x57 (W (base v (lo L) (2 * t.val + 1))) x84 >>= f) Q) := by
  have ht : t.val < 32 := t.isLt
  have hab : base v (lo L) (2 * t.val + 1) ≤ base v (lo L) (2 * t.val + 1 + 1) := base_mono (by omega)
  have hbt : base v (lo L) (2 * t.val + 1 + 1) ≤ total v (lo L) := base_le
  have hT : total v (lo L) ≤ 16384 := total_le
  have htr := place_trips L (v := v) (c := 2 * t.val + 1) rfl rfl
  rw [k0_part10_eq_skeleton]; unfold k0_part10_skel
  simp only [Prog.lift, Prog.bind_op, Prog.bind_ret, Prog.pure_eq_ret, Prog.bind_assoc]
  iintro ⟨⟨⟨%fA, HA⟩, HtA, HsA⟩, HR, H8s, HOut, H7, H8, HO⟩ Hk
  by_cases h1 : k0_cond1 t = 1#1
  case' pos =>
    simp only [h1, ↓reduceDIte, Prog.bind_op, Prog.bind_ret, Prog.bind_assoc]
    have h31 := (cond1_eq t).mp h1
    iapply (start_read (c := 2 * (t.val + 1)) d L bA tb fA (k0_off20_inb L t h1) ((k0_off20_eq L t).trans (congrArg (fun n => ![n, 0]) (by unfold lo; omega)))) $$ [HtA HA HsA]
    · isplitl [HtA]
      · iassumption
      · isplitl [HA] <;> iassumption
    iintro HSl
    ihave HSl := (show Reading d L bA cc0_scratch6.sem q' tb (2 * (t.val + 1)) ⊢ Slot d L bA cc0_scratch6.sem q' tb (2 * (t.val + 1)) from by
      unfold Slot; rw [if_pos (by omega)]) $$ HSl
  case' neg =>
    simp only [h1, ↓reduceDIte, Prog.bind_op, Prog.bind_ret, Prog.bind_assoc]
    have h31 : ¬ t.val < 31 := fun h => h1 ((cond1_eq t).mpr h)
    icombine HtA HsA as HSl
    icombine HA HSl as HSl
    ihave HSl := (show iprop((bA.view.loc (thr d L) ↦{fullShare} fA) ∗ (aT.view.loc (thr d L) ↦{q'} tb) ∗ semVal (thr d L, SemLoc.dma cc0_scratch6.sem) 0)
        ⊢ Slot d L bA cc0_scratch6.sem q' tb (2 * (t.val + 1)) from by
      unfold Slot; rw [if_neg (by omega)]
      exact sep_mono_left (exists_intro (Φ := fun f => iprop(bA.view.loc (thr d L) ↦{fullShare} f)) fA)) $$ HSl
  all_goals (
    iapply (end_read d L bB tb hO) $$ [HR HO]
    · isplitl [HR] <;> iassumption
    iintro ⟨⟨%fB, %hfB, HB⟩, Ht, H6s, HO⟩
    iapply (wp_load 𝒱₀ (thr d L) none Set.univ (m := sC) (S := Finset.univ) (Finset.subset_univ _)) $$ H8; iintro H8
    have hx : ln (sC.view.readAt (Elt F) (Rect.unit (s := S80) (k0_off22 t) S16.size (k0_off22_inb t)).toLoadRect f8) 0 = W (base v (lo L) (2 * t.val + 1 + 1)) :=
      (ln_at (F := F) sC.view f8 (k0_off22_inb t) (k0_off22_eq t) (k := 0) (by omega)).trans (h8 _ (by omega))
    generalize sC.view.readAt (Elt F) (Rect.unit (s := S80) (k0_off22 t) S16.size (k0_off22_inb t)).toLoadRect f8 = x at hx
    have he : extractAt ![0] (k0_pay20 (F := F) x) inpos_S1_p0 = W (base v (lo L) (2 * t.val + 1 + 1)) := (lane0 (F := F) x).trans hx
    iapply (part10_tail d L hG t f7 h7 hfB hO x2 _ _ _ _ _ _ he _) $$ [HB H8s HOut H7 HO]
    · isplitl [HB]
      · iassumption
      · isplitl [H8s]
        · iassumption
        · isplitl [HOut]
          · iassumption
          · isplitl [H7] <;> iassumption
    iintro ⟨HB, H8s, HOut, H7, HO⟩
    iapply Hk
    isplitl []
    · ipureintro; exact he
    isplitl [HSl]
    · iassumption
    isplitl [HB Ht H6s]
    · isplitl [HB]
      · iexists fB; iassumption
      · isplitl [Ht] <;> iassumption
    · isplitl [H8s]
      · iassumption
      · isplitl [HOut]
        · iassumption
        · isplitl [H7]
          · iassumption
          · isplitl [H8] <;> iassumption)

variable (v)

/-- Before trip `k` of the loop over the chunks: the rows of the places before chunk `2 k` are gathered, and the reads of
    chunks `2 k` and `2 k + 1` are under way. -/
def I8 (tb : Buf (Elt F) (aT.view.loc (thr d L))) (fo G : Buf (Elt F) (aO.view.loc (thr d L))) (q' q : PosShare TreeShare)
    (f7 : Buf (Elt F) ((thr d L).loc cc0_scratch2)) (f8 : Buf (Elt F) ((thr d L).loc cc0_scratch3)) (O : CellTallies nD τ sig (HIx 1)) (W' : Waits sig (HIx 1))
    (k : ℕ) (acc : BitVec 32) : sProp 𝕄 :=
  iprop(⌜acc = W (base v (lo L) (2 * k))⌝ ∗ Slot d L bA cc0_scratch6.sem q' tb (2 * k) ∗ Slot d L bB cc0_scratch7.sem q tb (2 * k + 1)
    ∗ semVal (thr d L, SemLoc.dma cc0_scratch8.sem) 0 ∗ semVal (thr d L, SemLoc.dma cc0_scratch9.sem) 0 ∗ Out d L v fo G (base v (lo L) (2 * k))
    ∗ ((thr d L).loc cc0_scratch2 ↦{fullShare} f7) ∗ ((thr d L).loc cc0_scratch3 ↦{fullShare} f8) ∗ Owes d L O W')

variable {v}

set_option maxHeartbeats 4000000 in
/-- A trip of the loop over the chunks. -/
theorem t8_step {tb : Buf (Elt F) (aT.view.loc (thr d L))} {fo G : Buf (Elt F) (aO.view.loc (thr d L))} (hG : Gathered v tb fo G)
    (t : Fin k0_t8_loop.trips) (q' q : PosShare TreeShare) (f7 : Buf (Elt F) ((thr d L).loc cc0_scratch2)) (h7 : Sorted d L v f7)
    (f8 : Buf (Elt F) ((thr d L).loc cc0_scratch3)) (h8 : Ends d L v f8) {O : CellTallies nD τ sig (HIx 1)} (W' : Waits sig (HIx 1)) (hO : ∀ g, O g none = 0) (x2 : BitVec 32) (acc : BitVec 32) :
    I8 d L v tb fo G q' q f7 f8 O W' t.val acc ⊢ run d L (k0_t8_body L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0 x2 t acc) (I8 d L v tb fo G q' q f7 f8 O W' (t.val + 1)) := by
  have ht : t.val < 32 := t.isLt
  have eA : Slot d L bA cc0_scratch6.sem q' tb (2 * t.val) = Reading d L bA cc0_scratch6.sem q' tb (2 * t.val) := if_pos (by omega)
  have eB : Slot d L bB cc0_scratch7.sem q tb (2 * t.val + 1) = Reading d L bB cc0_scratch7.sem q tb (2 * t.val + 1) := if_pos (by omega)
  unfold I8 k0_t8_body
  rw [eA, eB]
  iintro ⟨%ha, HA, HB, H8s, H9s, HOut, H7, H8, HO⟩
  subst ha
  iapply (part9_step d L hG t f7 h7 f8 h8 hO x2 _) $$ [HA H8s HOut H7 H8 HO]
  · isplitl [HA]
    · iassumption
    · isplitl [H8s]
      · iassumption
      · isplitl [HOut]
        · iassumption
        · isplitl [H7]
          · iassumption
          · isplitl [H8] <;> iassumption
  iintro %y56 %y57 %y65 %y84 ⟨%hz, HA, H8s, HOut, H7, H8, HO⟩
  subst hz
  iapply (part10_step d L hG t f7 h7 f8 h8 hO x2 _ _ _ _) $$ [HA HB H9s HOut H7 H8 HO]
  · isplitl [HA]
    · iassumption
    · isplitl [HB]
      · iassumption
      · isplitl [H9s]
        · iassumption
        · isplitl [HOut]
          · iassumption
          · isplitl [H7]
            · iassumption
            · isplitl [H8] <;> iassumption
  iintro %y88 %y96 %y2 ⟨%hz, HA, ⟨⟨%fB, HB⟩, Ht, HsB⟩, H9s, HOut, H7, H8, HO⟩
  subst hz
  by_cases h1 : k0_cond2 t = 1#1
  case' pos =>
    simp only [h1, ↓reduceDIte, Prog.lift, Prog.pure_eq_ret, Prog.bind_op, Prog.bind_ret, Prog.bind_assoc]
    have h31 := (cond2_eq t).mp h1
    iapply (start_read (c := 2 * (t.val + 1) + 1) d L bB tb fB (k0_off29_inb L t h1) ((k0_off29_eq L t).trans (congrArg (fun n => ![n, 0]) (by unfold lo; omega)))) $$ [Ht HB HsB]
    · isplitl [Ht]
      · iassumption
      · isplitl [HB] <;> iassumption
    iintro HSl
    ihave HSl := (show Reading d L bB cc0_scratch7.sem q tb (2 * (t.val + 1) + 1) ⊢ Slot d L bB cc0_scratch7.sem q tb (2 * (t.val + 1) + 1) from by
      unfold Slot; rw [if_pos (by omega)]) $$ HSl
  case' neg =>
    simp only [h1, ↓reduceDIte, Prog.lift, Prog.pure_eq_ret, Prog.bind_op, Prog.bind_ret, Prog.bind_assoc]
    have h31 : ¬ t.val < 31 := fun h => h1 ((cond2_eq t).mpr h)
    icombine Ht HsB as HSl
    icombine HB HSl as HSl
    ihave HSl := (show iprop((bB.view.loc (thr d L) ↦{fullShare} fB) ∗ (aT.view.loc (thr d L) ↦{q} tb) ∗ semVal (thr d L, SemLoc.dma cc0_scratch7.sem) 0)
        ⊢ Slot d L bB cc0_scratch7.sem q tb (2 * (t.val + 1) + 1) from by
      unfold Slot; rw [if_neg (by omega)]
      exact sep_mono_left (exists_intro (Φ := fun f => iprop(bB.view.loc (thr d L) ↦{fullShare} f)) fB)) $$ HSl
  all_goals (
    iapply (run_ret d L)
    isplitl []
    · ipureintro; rfl
    isplitl [HA]
    · iassumption
    isplitl [HSl]
    · iassumption
    isplitl [H8s]
    · iassumption
    isplitl [H9s]
    · iassumption
    isplitl [HOut]
    · iassumption
    isplitl [H7]
    · iassumption
    isplitl [H8] <;> iassumption)

end Cert.Proof

end
-- ==== Proof.Tile.lean ====
/-
  A tile's whole run: the list fetched, its matches listed and sorted by chunk, the chunks read and their rows copied out.
-/
module

public import proofs.«01_k».proof.Proof.Chunks

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Batch Flight pending shareTok shareDrop)

variable {F : FTy → Type} [FloatOps F] (d : Dev nD) (L : grid0.Coords) {v : ℕ → ℕ}

local notation "𝕄" => MM F

/-- A list fetched whole into the front of a buffer. -/
theorem fetch {α : Type} {Q : α → sProp 𝕄} {n m : ℕ} (a : Memref sig .scVector .hbm ⟨1, ![n]⟩ .i32) (b : Memref sig .scVector .vmem ⟨1, ![m]⟩ .i32) {sem : DmaSem sig} {qi : PosShare TreeShare}
    (inb : ∀ x, (![0] : Fin 1 → ℕ) x + Shape.size ⟨1, ![n]⟩ x ≤ Shape.size ⟨1, ![m]⟩ x)
    (hc : 0 < (b.slice (Rect.unit (s := ⟨1, ![m]⟩) ![0] (Shape.size ⟨1, ![n]⟩) inb) (fun _ => rfl)).view.dmaCredit)
    (fI : Buf (Elt F) (a.view.loc (thr d L))) (f0 : Buf (Elt F) (b.view.loc (thr d L))) {O : CellTallies nD τ sig (HIx 1)} {W' : Waits sig (HIx 1)} (hO : ∀ g, O g none = 0)
    {hs hs' : a.view.WordExact} {hd hd' : (b.slice (Rect.unit (s := ⟨1, ![m]⟩) ![0] (Shape.size ⟨1, ![n]⟩) inb) (fun _ => rfl)).view.WordExact}
    {ht : DmaTarget.Typed (nD := nD) (τ := τ) (p := .scVector (cV L) (jV L)) .hbm (.dma sem) (.here (b.slice (Rect.unit (s := ⟨1, ![m]⟩) ![0] (Shape.size ⟨1, ![n]⟩) inb) (fun _ => rfl)))}
    {k : PUnit → Prog (TpuEff nD τ sig (Elt F) Λ₀ (.scVector (cV L) (jV L))) α} :
    iprop((a.view.loc (thr d L) ↦{qi} fI) ∗ (b.view.loc (thr d L) ↦{fullShare} f0) ∗ semVal (thr d L, SemLoc.dma sem) 0 ∗ Owes d L O W')
      ⊢ iprop((iprop((a.view.loc (thr d L) ↦{qi} fI)
            ∗ (b.view.loc (thr d L) ↦{fullShare} ((b.slice (Rect.unit (s := ⟨1, ![m]⟩) ![0] (Shape.size ⟨1, ![n]⟩) inb) (fun _ => rfl)).view.write (Elt F) f0 (a.view.read (Elt F) fI) Finset.univ))
            ∗ semVal (thr d L, SemLoc.dma sem) 0 ∗ Owes d L O W') -∗ run d L (k ⟨⟩) Q)
        -∗ run d L (.op (.enqueueDma a (.here (b.slice (Rect.unit (s := ⟨1, ![m]⟩) ![0] (Shape.size ⟨1, ![n]⟩) inb) (fun _ => rfl))) (.dma sem) hs hd ht) fun _ =>
            .op (.waitDma2 sem a (b.slice (Rect.unit (s := ⟨1, ![m]⟩) ![0] (Shape.size ⟨1, ![n]⟩) inb) (fun _ => rfl)) hs' hd') k) Q) := by
  unfold Owes
  iintro ⟨HI, H0, Hs, #Hlv, %W'', %hW', HO⟩ Hk
  ihave HI' := (pointsTo_split_subset (Finset.subset_univ a.view.set)).1 $$ HI
  icases HI' with ⟨HI, Hc⟩
  iapply (Transfers.wp_dmaLocal EC 𝒱₀ (thr d L) none none (b.slice (Rect.unit (s := ⟨1, ![m]⟩) ![0] (Shape.size ⟨1, ![n]⟩) inb) (fun _ => rfl)).view.dmaCredit rfl hc (Finset.subset_univ _)) $$ [HI H0 Hs]
  · isplitl [HI]; · iexact HI
    isplitl [H0]; · iexact H0
    iexact Hs
  iintro Hf
  iapply (Transfers.wp_waitLocalO EC 𝒱₀ (thr d L) none none rfl) $$ [Hf HO]
  · isplitl [Hf]; · iexact Hf
    isplitl [HO]; · iexact HO
    iapply ((K (F := F)).mayWait_none (thr := thr d L) (SemLoc.dma sem) hO) $$ Hlv
  iintro ⟨⟨H0, HI⟩, Hs, HO⟩
  iapply Hk
  isplitl [HI Hc]
  · iapply (pointsTo_split_subset (Finset.subset_univ a.view.set)).2
    isplitl [HI] <;> iassumption
  isplitl [H0]; · iexact H0
  isplitl [Hs]; · iexact Hs
  isplitr; · iexact Hlv
  iexists _; isplitr; swap; · iexact HO
  ipureintro
  intro p hp
  rcases Finset.mem_insert.mp hp with rfl | hp
  · exact .inr rfl
  · exact hW' p hp

omit [FloatOps F] in
/-- The front of the buffer once the list is in it. -/
theorem fetched {n m : ℕ} {sp sp' : Space} (hnm : n ≤ m) (a : View sig .scVector sp ⟨1, ![n]⟩ .i32) (b : View sig .scVector sp' ⟨1, ![m]⟩ .i32)
    (inb : ∀ x, (![0] : Fin 1 → ℕ) x + Shape.size ⟨1, ![n]⟩ x ≤ Shape.size ⟨1, ![m]⟩ x) (fI : a.ty.Contents (Elt F)) (f0 : b.ty.Contents (Elt F)) {p : ℕ} (hp : p < n) :
    Wd (b.read (Elt F) ((b.slice (Rect.unit (s := ⟨1, ![m]⟩) ![0] (Shape.size ⟨1, ![n]⟩) inb)).write (Elt F) f0 (a.read (Elt F) fI) Finset.univ)) p
      = Wd (a.read (Elt F) fI) p := by
  have hx : (fun x => ⟨p, by obtain rfl : x = 0 := Subsingleton.elim _ _; exact hp.trans_le hnm⟩ : Shape.Idx ⟨1, ![m]⟩)
      = (Rect.unit (s := ⟨1, ![m]⟩) ![0] (Shape.size ⟨1, ![n]⟩) inb).emb (fun x => ⟨p, by obtain rfl : x = 0 := Subsingleton.elim _ _; exact hp⟩) := by
    funext x
    obtain rfl : x = 0 := Subsingleton.elim _ _
    refine Fin.ext ?_
    show p = 0 + 1 * p
    omega
  unfold Wd
  rw [dif_pos hp, dif_pos (hp.trans_le hnm), hx, View.read_slice_write_emb _ _ _ (Finset.mem_univ _)]

variable (v) in
/-- The tile fetches the list, starts the first two reads, lists its matches and clears the cursors. -/
theorem part11_step {α : Type} {Q : α → sProp 𝕄} {qi q' q : PosShare TreeShare} (tb : Buf (Elt F) (aT.view.loc (thr d L)))
    (fI : Buf (Elt F) (aI.view.loc (thr d L))) (hI : ∀ p, p < 16384 → Wd (n := 16384) (aI.view.read (Elt F) fI) p = W (v p)) (hv : ∀ p, v p < 4294967296)
    {O : CellTallies nD τ sig (HIx 1)} {W' : Waits sig (HIx 1)} (hO : ∀ g, O g none = 0)
    (f : (Σ' (_ : BitVec 32) (_ : IVec S16 32) (_ : IVec S16 1) (_ : IVec S16 32) (v14 : BitVec 32) (_ : k0_chk2 v14) (_ : BitVec 32) (_ : BitVec 32) (_ : BitVec 32) (_ : BitVec 32), BitVec 1)
      → Prog (TpuEff nD τ sig (Elt F) Λ₀ (.scVector (cV L) (jV L))) α) :
    iprop((aI.view.loc (thr d L) ↦{qi} fI) ∗ (aT.view.loc (thr d L) ↦{q'} tb) ∗ (aT.view.loc (thr d L) ↦{q} tb) ∗ semVal (thr d L, SemLoc.dma cc0_scoped0.sem) 0
        ∗ semVal (thr d L, SemLoc.dma cc0_scratch6.sem) 0 ∗ semVal (thr d L, SemLoc.dma cc0_scratch7.sem) 0
        ∗ (∃ g, (thr d L).loc cc0_scratch0 ↦{fullShare} g) ∗ (∃ g, (thr d L).loc cc0_scratch1 ↦{fullShare} g) ∗ (∃ g, (thr d L).loc cc0_scratch3 ↦{fullShare} g)
        ∗ (∃ g, bA.view.loc (thr d L) ↦{fullShare} g) ∗ (∃ g, bB.view.loc (thr d L) ↦{fullShare} g) ∗ Owes d L O W')
      ⊢ iprop((∀ x2 hw x16 c16 x17 x19 x20, iprop(⌜x2 = W (lo L)⌝ ∗ (aI.view.loc (thr d L) ↦{qi} fI) ∗ semVal (thr d L, SemLoc.dma cc0_scoped0.sem) 0
            ∗ Reading d L bA cc0_scratch6.sem q' tb 0 ∗ Reading d L bB cc0_scratch7.sem q tb 1 ∗ (∃ g, (thr d L).loc cc0_scratch0 ↦{fullShare} g)
            ∗ (∃ f6 : Buf (Elt F) ((thr d L).loc cc0_scratch1), ⌜Matched d L v (total v (lo L)) f6⌝ ∗ ((thr d L).loc cc0_scratch1 ↦{fullShare} f6))
            ∗ I2 d L 4 () ∗ Owes d L O W')
          -∗ run d L (f ⟨x2, iota .scVector S16 32 [0] iota_S16_d0_w32_scVector, k0_pay21, k0_pay22, W (total v (lo L)), hw, x16, c16, x17, x19, x20⟩) Q)
        -∗ run d L (k0_part11 L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0 >>= f) Q) := by
  rw [k0_part11_eq_skeleton]; unfold k0_part11_skel
  simp only [Prog.lift, Prog.bind_op, Prog.bind_ret, Prog.pure_eq_ret, Prog.bind_assoc]
  iintro ⟨HI, HtA, HtB, Hs, HsA, HsB, ⟨%f0, H0⟩, ⟨%f1, H1⟩, ⟨%f3, H3⟩, ⟨%fA, HA⟩, ⟨%fB, HB⟩, HO⟩ Hk
  iapply (fetch d L (n := 16384) (m := 16400) aI sI (sem := cc0_scoped0.sem) inb_S16400_S16384_0 (View.dmaCredit_pos _ (by decide)) fI f0 hO) $$ [HI H0 Hs HO]
  · isplitl [HI]; · iassumption
    isplitl [H0]; · iassumption
    isplitl [Hs] <;> iassumption
  iintro ⟨HI, H0, Hs, HO⟩
  have h5 := fun p hp => (fetched (F := F) (by decide) aI.view sI.view inb_S16400_S16384_0 fI f0 (p := p) hp).trans (hI p hp)
  generalize (sI.slice (Rect.unit (s := ⟨1, ![16400]⟩) ![0] (Shape.size ⟨1, ![16384]⟩) inb_S16400_S16384_0) (fun _ => rfl)).view.write (Elt F) f0 (aI.view.read (Elt F) fI) Finset.univ = f5 at h5
  iapply (start_read (c := 0) d L bA tb fA (k0_off1_inb L 0) ((k0_off1_eq L 0).trans (congrArg (fun n => ![n, 0]) (by unfold lo; show _ + 4 * 0 = _; omega)))) $$ [HtA HA HsA]
  · isplitl [HtA]; · iassumption
    isplitl [HA] <;> iassumption
  iintro HrA
  iapply (start_read (c := 1) d L bB tb fB (k0_off1_inb L 1) ((k0_off1_eq L 1).trans (congrArg (fun n => ![n, 0]) (by unfold lo; show _ + 4 * 1 = _; omega)))) $$ [HtB HB HsB]
  · isplitl [HtB]; · iassumption
    isplitl [HB] <;> iassumption
  iintro HrB
  have ht1 : k0_t1_loop.trips = 1024 := by decide
  have hn : rank v (lo L) (16 * k0_t1_loop.trips) = total v (lo L) := by rw [ht1]; rfl
  ihave HL := (show iprop(((thr d L).loc cc0_scratch0 ↦{fullShare} f5) ∗ ((thr d L).loc cc0_scratch1 ↦{fullShare} f1)) ⊢ I1 d L v f5 0 (0#32) from by
    unfold I1
    iintro ⟨H0, H1⟩
    isplitr
    · ipureintro; show _ = W (rank v (lo L) 0); unfold rank; rw [Nat.count_zero]
    isplitl [H0]; · iassumption
    iexists f1
    isplitr; swap; · iassumption
    ipureintro
    intro j hj
    exact absurd hj (by show ¬ j < rank v (lo L) 0; unfold rank; rw [Nat.count_zero]; omega)) $$ [H0 H1]
  · isplitl [H0] <;> iassumption
  iapply (run_loop d L k0_t1_loop k0_t1_ok (0#32) _ (I1 d L v f5) (t1_step d L v hv f5 h5)) $$ HL
  iintro %acc HL
  unfold I1
  icases HL with ⟨%ha, H0, %f6, %h6, H1⟩
  rw [hn] at ha h6
  subst ha
  have hw := chk2 (n := total v (lo L)) total_le
  iapply (run_assume d L hw)
  ihave HL := (show ((thr d L).loc cc0_scratch3 ↦{fullShare} f3) ⊢ I2 d L 0 () from by
    unfold I2
    iintro H
    iexists f3
    isplitr; swap; · iassumption
    ipureintro
    intro p hp
    omega) $$ H3
  iapply (run_loop d L k0_t2_loop k0_t2_ok () _ (I2 d L) (t2_step d L)) $$ HL
  iintro %acc HL
  ihave HL := (show I2 (F := F) d L k0_t2_loop.trips acc ⊢ I2 d L 4 () from .rfl) $$ HL
  iapply Hk
  isplitr
  · ipureintro; exact loW L
  isplitl [HI]; · iassumption
  isplitl [Hs]; · iassumption
  isplitl [HrA]; · iassumption
  isplitl [HrB]; · iassumption
  isplitl [H0]; · iexists f5; iassumption
  isplitl [H1]
  · iexists f6
    isplitr; · ipureintro; exact h6
    iassumption
  isplitl [HL] <;> iassumption

/-- The tile counts its matches by chunk and sums the counts to the first place of each chunk. -/
theorem part12_step {α : Type} {Q : α → sProp 𝕄} (f6 : Buf (Elt F) ((thr d L).loc cc0_scratch1)) (h6 : Matched d L v (total v (lo L)) f6)
    (hw : k0_chk2 (W (total v (lo L)))) (x16 c16 x17 x19 : BitVec 32) (x20 : BitVec 1)
    (f : (Σ' (_ : BitVec 32) (_ : BitVec 32) (_ : BitVec 32), BitVec 32) → Prog (TpuEff nD τ sig (Elt F) Λ₀ (.scVector (cV L) (jV L))) α) :
    iprop(((thr d L).loc cc0_scratch1 ↦{fullShare} f6) ∗ I2 d L 4 ())
      ⊢ iprop((∀ x51, iprop(((thr d L).loc cc0_scratch1 ↦{fullShare} f6)
            ∗ ∃ f8 : Buf (Elt F) ((thr d L).loc cc0_scratch3), ⌜∀ b, b < 64 → Wd (n := 80) f8 b = W (base v (lo L) b)⌝ ∗ ((thr d L).loc cc0_scratch3 ↦{fullShare} f8))
          -∗ run d L (f ⟨1#32, 0#32, 0#32, x51⟩) Q)
        -∗ run d L (k0_part12 L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0
      (W (lo L)) (iota .scVector S16 32 [0] iota_S16_d0_w32_scVector) k0_pay21 k0_pay22 (W (total v (lo L))) hw x16 c16 x17 x19 x20 >>= f) Q) := by
  have hn : total v (lo L) ≤ 16384 := total_le
  rw [k0_part12_eq_skeleton]; unfold k0_part12_skel
  simp only [Prog.lift, Prog.bind_op, Prog.bind_ret, Prog.pure_eq_ret, Prog.bind_assoc]
  iintro ⟨H1, H3⟩ Hk
  ihave HL := (show iprop(((thr d L).loc cc0_scratch1 ↦{fullShare} f6) ∗ I2 d L 4 ()) ⊢ I3 d L v f6 (total v (lo L)) 0 () from by
    unfold I2 I3
    iintro ⟨H1, %f8, %h8, H3⟩
    isplitl [H1]; · iassumption
    iexists f8
    isplitr; swap; · iassumption
    ipureintro
    refine ⟨h8 0 (by omega), fun b hb => (h8 (b + 1) (by omega)).trans ?_⟩
    rw [Nat.zero_mul, Nat.zero_min]; unfold within; rw [Nat.count_zero]) $$ [H1 H3]
  · isplitl [H1] <;> iassumption
  iapply (run_loop d L (k0_t3_loop (W (total v (lo L)))) (k0_t3_ok _ hw) () _ (I3 d L v f6 (total v (lo L))) (t3_step d L v rfl f6 h6 hw k0_pay21 x16 c16 x17 x19 x20)) $$ HL
  iintro %acc HL
  iapply (run_loop0 d L (k0_t4_loop (W (total v (lo L)))) (k0_t4_ok _ hw) () _ (t4_trips _))
  unfold I3
  icases HL with ⟨H1, %f8, %h8, H3⟩
  rw [t3_trips hn, show min ((total v (lo L) + 15) / 16 * 16) (total v (lo L)) = total v (lo L) from Nat.min_eq_right (by omega)] at h8
  ihave HL := (show ((thr d L).loc cc0_scratch3 ↦{fullShare} f8) ⊢ I5 d L v 0 () from by
    unfold I5
    iintro H3
    iexists f8
    isplitr; swap; · iassumption
    ipureintro
    refine ⟨fun b hb _ => ?_, fun b _ hb => h8.2 b hb⟩
    rw [Nat.le_zero.mp hb, base_zero]; exact h8.1) $$ H3
  iapply (run_loop d L k0_t5_loop k0_t5_ok () _ (I5 d L v) (t5_step d L v (W (lo L)) (iota .scVector S16 32 [0] iota_S16_d0_w32_scVector) k0_pay22 (W (total v (lo L))) hw x16 c16 x17 x19 x20)) $$ HL
  iintro %acc HL
  unfold I5
  icases HL with ⟨%g8, %h8', H3⟩
  iapply Hk
  isplitl [H1]; · iassumption
  iexists g8
  isplitr; swap; · iassumption
  ipureintro
  exact fun b hb => h8'.1 b (by show b ≤ 64; omega) hb

/-- After the placing loop the matches lie in the order of their chunks. -/
theorem placed {f6 : Buf (Elt F) ((thr d L).loc cc0_scratch1)} :
    I6 d L v f6 (total v (lo L)) () ⊢ iprop(((thr d L).loc cc0_scratch1 ↦{fullShare} f6)
      ∗ (∃ f7 : Buf (Elt F) ((thr d L).loc cc0_scratch2), ⌜Sorted d L v f7⌝ ∗ ((thr d L).loc cc0_scratch2 ↦{fullShare} f7))
      ∗ ∃ f8 : Buf (Elt F) ((thr d L).loc cc0_scratch3), ⌜Ends d L v f8⌝ ∗ ((thr d L).loc cc0_scratch3 ↦{fullShare} f8)) := by
  unfold I6
  iintro ⟨H1, ⟨%f7, %h7, H2⟩, %f8, %h8, H3⟩
  isplitl [H1]; · iassumption
  isplitl [H2]
  · iexists f7
    isplitr; swap; · iassumption
    ipureintro
    intro i hi
    have hu := unslot_spec (v := v) hi
    have h := h7 _ hu.1
    rw [hu.2] at h
    exact h
  · iexists f8
    isplitr; swap; · iassumption
    ipureintro
    intro c hc
    rw [base_succ]
    exact h8 c hc

/-- A tile's whole run: each of its rows of the result holds its row of the table. -/
theorem tile_run {qi q' q : PosShare TreeShare} {tb : Buf (Elt F) (aT.view.loc (thr d L))} {fo G : Buf (Elt F) (aO.view.loc (thr d L))} (hG : Gathered v tb fo G)
    (fI : Buf (Elt F) (aI.view.loc (thr d L))) (hI : ∀ p, p < 16384 → Wd (n := 16384) (aI.view.read (Elt F) fI) p = W (v p)) (hv : ∀ p, v p < 4294967296)
    {O : CellTallies nD τ sig (HIx 1)} {W' : Waits sig (HIx 1)} (hO : ∀ g, O g none = 0) :
    iprop((aI.view.loc (thr d L) ↦{qi} fI) ∗ (aT.view.loc (thr d L) ↦{q'} tb) ∗ (aT.view.loc (thr d L) ↦{q} tb)
        ∗ bigSep (Finset.Ico 0 (total v (lo L))) (fun i => outRow d L fo (row v (lo L) i))
        ∗ semVal (thr d L, SemLoc.dma cc0_scoped0.sem) 0
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
        ∗ (∃ g, (thr d L).loc cc0_scratch0 ↦{fullShare} g) ∗ (∃ g, (thr d L).loc cc0_scratch1 ↦{fullShare} g)
        ∗ (∃ g, (thr d L).loc cc0_scratch2 ↦{fullShare} g) ∗ (∃ g, (thr d L).loc cc0_scratch3 ↦{fullShare} g)
        ∗ (∃ g, (thr d L).loc cc0_scratch4 ↦{fullShare} g) ∗ (∃ g, (thr d L).loc cc0_scratch5 ↦{fullShare} g) ∗ Owes d L O W')
      ⊢ run d L (cc0__inv_kernel L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0) fun _ =>
        iprop((aI.view.loc (thr d L) ↦{qi} fI) ∗ (aT.view.loc (thr d L) ↦{q'} tb) ∗ (aT.view.loc (thr d L) ↦{q} tb)
        ∗ bigSep (Finset.Ico 0 (total v (lo L))) (fun i => outRow d L G (row v (lo L) i))
        ∗ semVal (thr d L, SemLoc.dma cc0_scoped0.sem) 0
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
        ∗ (∃ g, (thr d L).loc cc0_scratch0 ↦{fullShare} g) ∗ (∃ g, (thr d L).loc cc0_scratch1 ↦{fullShare} g)
        ∗ (∃ g, (thr d L).loc cc0_scratch2 ↦{fullShare} g) ∗ (∃ g, (thr d L).loc cc0_scratch3 ↦{fullShare} g)
        ∗ (∃ g, (thr d L).loc cc0_scratch4 ↦{fullShare} g) ∗ (∃ g, (thr d L).loc cc0_scratch5 ↦{fullShare} g) ∗ Owes d L O W') := by
  have hn : total v (lo L) ≤ 16384 := total_le
  rw [cc0__inv_kernel_eq_skeleton]; unfold cc0__inv_kernel_skel
  simp only [Prog.pure_eq_ret]
  iintro ⟨HI, HtA, HtB, HR, Hs, HsA, HsB, HwA, HwB, H0, H1, ⟨%f2, H2⟩, H3, HA, HB, HO⟩
  iapply (part11_step d L v (q' := q') (q := q) (W' := W') tb fI hI hv hO) $$ [HI HtA HtB Hs HsA HsB H0 H1 H3 HA HB HO]
  · isplitl [HI]; · iassumption
    isplitl [HtA]; · iassumption
    isplitl [HtB]; · iassumption
    isplitl [Hs]; · iassumption
    isplitl [HsA]; · iassumption
    isplitl [HsB]; · iassumption
    isplitl [H0]; · iassumption
    isplitl [H1]; · iassumption
    isplitl [H3]; · iassumption
    isplitl [HA]; · iassumption
    isplitl [HB] <;> iassumption
  iintro %x2 %hw %x16 %c16 %x17 %x19 %x20 ⟨%hx2, HI, Hs, HrA, HrB, H0, ⟨%f6, %h6, H1⟩, H3, HO⟩
  subst hx2
  dsimp only
  iapply (part12_step d L f6 h6 hw x16 c16 x17 x19 x20) $$ [H1 H3]
  · isplitl [H1] <;> iassumption
  iintro %x51 ⟨H1, %f8, %h8, H3⟩
  dsimp only
  ihave HL := (show iprop(((thr d L).loc cc0_scratch1 ↦{fullShare} f6) ∗ ((thr d L).loc cc0_scratch2 ↦{fullShare} f2) ∗ ((thr d L).loc cc0_scratch3 ↦{fullShare} f8))
      ⊢ I6 d L v f6 0 () from by
    unfold I6
    iintro ⟨H1, H2, H3⟩
    isplitl [H1]; · iassumption
    isplitl [H2]
    · iexists f2
      isplitr; swap; · iassumption
      ipureintro
      intro j hj
      exact absurd hj (Nat.not_lt_zero _)
    · iexists f8
      isplitr; swap; · iassumption
      ipureintro
      intro b hb
      rw [h8 b hb]; unfold within; rw [Nat.count_zero, Nat.add_zero]) $$ [H1 H2 H3]
  · isplitl [H1]; · iassumption
    isplitl [H2] <;> iassumption
  iapply (run_loop d L (k0_t6_loop (W (total v (lo L)))) (k0_t6_ok _ hw) () _ (I6 d L v f6) (t6_step d L v rfl f6 h6 hw)) $$ HL
  iintro %acc HL
  iapply (run_loop0 d L (k0_t7_loop (W (total v (lo L)))) (k0_t7_ok _ hw) () _ (t7_trips _))
  ihave HL := (show I6 d L v f6 (k0_t6_loop (W (total v (lo L)))).trips acc ⊢ I6 d L v f6 (total v (lo L)) () from by rw [t6_trips hn]) $$ HL
  ihave HL := (placed d L) $$ HL
  icases HL with ⟨H1, ⟨%f7, %h7, H2⟩, %g8, %h8', H3⟩
  ihave HL := (show iprop(Reading d L bA cc0_scratch6.sem q' tb 0 ∗ Reading d L bB cc0_scratch7.sem q tb 1
      ∗ semVal (thr d L, SemLoc.dma cc0_scratch8.sem) 0 ∗ semVal (thr d L, SemLoc.dma cc0_scratch9.sem) 0
      ∗ bigSep (Finset.Ico 0 (total v (lo L))) (fun i => outRow d L fo (row v (lo L) i))
      ∗ ((thr d L).loc cc0_scratch2 ↦{fullShare} f7) ∗ ((thr d L).loc cc0_scratch3 ↦{fullShare} g8) ∗ Owes d L O W')
      ⊢ I8 d L v tb fo G q' q f7 g8 O W' 0 (0#32) from by
    unfold I8 Slot Out
    rw [if_pos (show 2 * 0 < 64 by omega), if_pos (show 2 * 0 + 1 < 64 by omega), show base v (lo L) (2 * 0) = 0 from base_zero, Finset.Ico_self, BI.bigSep_empty]
    iintro ⟨HrA, HrB, HwA, HwB, HR, H2, H3, HO⟩
    isplitr; · ipureintro; rfl
    isplitl [HrA]; · iassumption
    isplitl [HrB]; · iassumption
    isplitl [HwA]; · iassumption
    isplitl [HwB]; · iassumption
    isplitl [HR]
    · isplitr; · iempintro
      iassumption
    isplitl [H2]; · iassumption
    isplitl [H3] <;> iassumption) $$ [HrA HrB HwA HwB HR H2 H3 HO]
  · isplitl [HrA]; · iassumption
    isplitl [HrB]; · iassumption
    isplitl [HwA]; · iassumption
    isplitl [HwB]; · iassumption
    isplitl [HR]; · iassumption
    isplitl [H2]; · iassumption
    isplitl [H3] <;> iassumption
  iapply (run_loop d L k0_t8_loop k0_t8_ok (0#32) _ (I8 d L v tb fo G q' q f7 g8 O W') (fun t acc => t8_step d L hG t q' q f7 h7 g8 h8' W' hO (W (lo L)) acc)) $$ HL
  iintro %acc2 HL
  iapply (run_ret d L)
  ihave HL := (show I8 d L v tb fo G q' q f7 g8 O W' k0_t8_loop.trips acc2 ⊢ iprop(((∃ f, bA.view.loc (thr d L) ↦{fullShare} f) ∗ (aT.view.loc (thr d L) ↦{q'} tb) ∗ semVal (thr d L, SemLoc.dma cc0_scratch6.sem) 0)
      ∗ ((∃ f, bB.view.loc (thr d L) ↦{fullShare} f) ∗ (aT.view.loc (thr d L) ↦{q} tb) ∗ semVal (thr d L, SemLoc.dma cc0_scratch7.sem) 0)
      ∗ semVal (thr d L, SemLoc.dma cc0_scratch8.sem) 0 ∗ semVal (thr d L, SemLoc.dma cc0_scratch9.sem) 0
      ∗ bigSep (Finset.Ico 0 (total v (lo L))) (fun i => outRow d L G (row v (lo L) i))
      ∗ ((thr d L).loc cc0_scratch2 ↦{fullShare} f7) ∗ ((thr d L).loc cc0_scratch3 ↦{fullShare} g8) ∗ Owes d L O W') from by
    rw [show k0_t8_loop.trips = 32 by decide]
    unfold I8 Slot Out
    rw [if_neg (show ¬ 2 * 32 < 64 by omega), if_neg (show ¬ 2 * 32 + 1 < 64 by omega), show base v (lo L) (2 * 32) = total v (lo L) from base_64, Finset.Ico_self, BI.bigSep_empty]
    iintro ⟨-, HrA, HrB, HwA, HwB, ⟨HR, -⟩, H2, H3, HO⟩
    isplitl [HrA]; · iassumption
    isplitl [HrB]; · iassumption
    isplitl [HwA]; · iassumption
    isplitl [HwB]; · iassumption
    isplitl [HR]; · iassumption
    isplitl [H2]; · iassumption
    isplitl [H3] <;> iassumption) $$ HL
  icases HL with ⟨⟨HA, HtA, HsA⟩, ⟨HB, HtB, HsB⟩, HwA, HwB, HR, H2, H3, HO⟩
  isplitl [HI]; · iassumption
  isplitl [HtA]; · iassumption
  isplitl [HtB]; · iassumption
  isplitl [HR]; · iassumption
  isplitl [Hs]; · iassumption
  isplitl [HsA]; · iassumption
  isplitl [HsB]; · iassumption
  isplitl [HwA]; · iassumption
  isplitl [HwB]; · iassumption
  isplitl [H0]; · iassumption
  isplitl [H1]; · iexists f6; iassumption
  isplitl [H2]; · iexists f7; iassumption
  isplitl [H3]; · iexists g8; iassumption
  isplitl [HA]; · iassumption
  isplitl [HB] <;> iassumption

end Cert.Proof

end
-- ==== Proof.Launch.lean ====
/-
  The launch: what each tile of the call is handed and hands back, the arrays dealt to the tiles and joined again, and the
  whole program's run, for any float values.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.Transfers (shareTokN shareDrop pointsTo_toks_range)

variable {F : FTy → Type} [FloatOps F]

local notation "𝕄" => MM F

/-! ## The arrays -/

/-- The list as given, the table, the list in one row, the kernel's result, and the program's. -/
abbrev gLoc (d : Dev nD) : Loc nD τ sig := (SparseCore.T d).loc main_arg0
/-- Where the table is. -/
abbrev tLoc (d : Dev nD) : Loc nD τ sig := (SparseCore.T d).loc main_arg1
/-- Where the list in one row is. -/
abbrev iLoc (d : Dev nD) : Loc nD τ sig := (SparseCore.T d).loc main_v0
/-- Where the kernel's array is. -/
abbrev oLoc (d : Dev nD) : Loc nD τ sig := (SparseCore.T d).loc main_v1
/-- Where the result is. -/
abbrev rLoc (d : Dev nD) : Loc nD τ sig := (SparseCore.T d).loc main_v2

/-- The list, named on its device. -/
abbrev g' : DevRef τ sig := Proc.devRef .tc (main_arg0 : Ref sig .tc)
/-- The table, named on its device. -/
abbrev t' : DevRef τ sig := Proc.devRef .tc (main_arg1 : Ref sig .tc)
/-- The list in one row, named on its device. -/
abbrev i' : DevRef τ sig := Proc.devRef .tc (main_v0 : Ref sig .tc)
/-- The kernel's array, named on its device. -/
abbrev o' : DevRef τ sig := Proc.devRef .tc (main_v1 : Ref sig .tc)
/-- The result, named on its device. -/
abbrev r' : DevRef τ sig := Proc.devRef .tc (main_v2 : Ref sig .tc)

/-- The reshape of the list into one row. -/
abbrev opI : HloOp τ sig (Elt F) := StableHlo.reshape main_arg0 main_v0 (rfl : (.i32 : EltTy) = .i32) shapeCasts_S8x2048_S16384
/-- The reshape of the kernel's array into the result. -/
abbrev opR : HloOp τ sig (Elt F) := StableHlo.reshape main_v1 main_v2 (rfl : (.f32 : EltTy) = .f32) shapeCasts_S16384x8192_S8x2048x8192

variable (m : (ℓ : Loc nD τ sig) → Buf (Elt F) ℓ) (ρ : Dev nD → PrngReg)

/-- The memory at the launch, and once the list lies in one row. -/
def V0 (d : Dev nD) : Valuation τ sig (Elt F) := fun b => m (d, b)
/-- The memory once the list lies in one row. -/
def V1 (d : Dev nD) : Valuation τ sig (Elt F) := (opI (F := F)).result (V0 m d)

/-- The list in one row. -/
def idx (d : Dev nD) : Buf (Elt F) (iLoc d) := V1 m d i'

/-- The list's word at `p`, as a number. -/
def vOf (d : Dev nD) (p : ℕ) : ℕ := BitVec.toNat (Wd (n := 16384) (idx m d) p)

/-- The kernel's result: each row the table's row its word names; a row whose word names none keeps what it held. -/
def gathered (d : Dev nD) : Buf (Elt F) (oLoc d) := fun x : S16384x8192.Idx =>
  if h : vOf m d (x 0).val < 8192 then
    (m (tLoc d) : S8192x8192.Idx → Elt F .f32) (fun | 0 => ⟨vOf m d (x 0).val, h⟩ | 1 => ⟨(x 1).val, (x 1).isLt⟩ | ⟨_ + 2, h⟩ => absurd h (Nat.not_lt.2 (Nat.le_add_left _ _)))
  else (m (oLoc d) : S16384x8192.Idx → Elt F .f32) x

/-- A word of the list is below 2³². -/
theorem vOf_lt (d : Dev nD) (p : ℕ) : vOf m d p < 4294967296 := BitVec.isLt _

/-- The words of the list are those numbers. -/
theorem list_words (d : Dev nD) (p : ℕ) (_ : p < 16384) : Wd (n := 16384) (aI.view.read (Elt F) (idx m d)) p = W (vOf m d p) := by
  show Wd (n := 16384) (idx m d) p = BitVec.ofNat 32 (BitVec.toNat (Wd (n := 16384) (idx m d) p))
  exact (BitVec.ofNat_toNat 32 _).symm ▸ (BitVec.setWidth_eq _).symm

/-- The array so defined is the table gathered by the list. -/
theorem gathered_spec (d : Dev nD) :
    Gathered (vOf m d) (m (tLoc d)) (m (oLoc d)) (gathered m d) where
  hit x y h0 h1 := by
    have h : vOf m d (x 0).val < 8192 := by rw [← h0]; exact (y 0).isLt
    refine (dif_pos h).trans (congrArg (m (tLoc d) : S8192x8192.Idx → Elt F .f32) (funext fun a => ?_))
    match a with
    | 0 => exact Fin.ext h0.symm
    | 1 => exact Fin.ext h1.symm
  miss x h := dif_neg (Nat.not_lt.mpr h)

/-! ## What a tile is handed -/

/-- Tile number `w`'s part: a share of the list, two of the table, and its rows of the result, which hold `f`. -/
def part (d : Dev nD) (f : Buf (Elt F) (oLoc d)) (w : ℕ) : sProp 𝕄 :=
  iprop((iLoc d ↦{shareTokN fullShare w} idx m d) ∗ (tLoc d ↦{(shareTokN fullShare w).left} m (tLoc d)) ∗ (tLoc d ↦{(shareTokN fullShare w).right} m (tLoc d))
    ∗ bigSep (Finset.Ico 0 (total (vOf m d) (w * 256))) fun i => oLoc d ↦[Rows 16384 (row (vOf m d) (w * 256) i)]{fullShare} f)

/-- The parts of SparseCore `c`'s tiles. -/
def parts (d : Dev nD) (f : Buf (Elt F) (oLoc d)) (c : ℕ) : sProp 𝕄 := bigSep Finset.univ fun i : Fin 16 => part m d f (i.val * 2 + c)

/-- The call takes each tile its part and brings it back with its rows gathered. -/
def P : (K (F := F)).Pay (nD := nD) (Val := Elt F) (Name := ℕ) (U := UU) where
  st := fun q d c => match q with | 0 => parts m d (m (oLoc d)) c.val
  dn := fun q d c => match q with | 0 => parts m d (gathered m d) c.val
  go := fun q d c i => match q with | 0 => part m d (m (oLoc d)) (i.val * 2 + c.val)
  td := fun q d c i => match q with | 0 => part m d (gathered m d) (i.val * 2 + c.val)
  x := fun _ _ => iprop(emp)

/-- A tile's part may be kept in a shared invariant. -/
instance part_storable (d : Dev nD) (f : Buf (Elt F) (oLoc d)) (w : ℕ) : BI.Storable (upEmb : UEmb _ 𝕄) (part m d f w) := by
  unfold part; infer_instance

/-- The parts of a SparseCore's tiles may be kept in a shared invariant. -/
theorem parts_storable (d : Dev nD) (f : Buf (Elt F) (oLoc d)) (c : ℕ) : BI.Storable (upEmb : UEmb _ 𝕄) (parts m d f c) := by
  unfold parts; infer_instance

/-- So may everything that the call takes and brings back. -/
instance P_storable : (P (F := F) m).IsStorable where
  st q d c := match q with | 0 => parts_storable m d _ _
  dn q d c := match q with | 0 => parts_storable m d _ _
  go q d c i := match q with | 0 => part_storable m d _ _
  td q d c i := match q with | 0 => part_storable m d _ _

/-! ## A tile -/

section Tile

variable (d : Dev nD) (L : grid0.Coords)

omit [FloatOps F] in
/-- A scoped transfer semaphore is the tile's own. -/
theorem own_cell {s : DmaSem sig} (h : (SemLoc.dma s : SemLoc sig).isScoped .scVector = true) : ((thr d L, SemLoc.dma s) : GSem nD τ sig) ∈ ownCells (thr d L) :=
  mem_ownCells.mpr ⟨rfl, h⟩
omit [FloatOps F] in
/-- Different semaphores are different cells. -/
theorem cell_ne {a b : DmaSem sig} (h : a ≠ b) : ((thr d L, SemLoc.dma a) : GSem nD τ sig) ≠ (thr d L, SemLoc.dma b) :=
  fun e => h (SemLoc.dma.inj (Prod.mk.inj e).2)
omit [FloatOps F] in
/-- A buffer that the tile owns is one of its own. -/
theorem own_ref (b : Ref sig .scVector) (h : ((Proc.scVector (cV L) (jV L) : Proc τ).devRef b).owner = .proc (.scVector (cV L) (jV L))) :
    (Proc.scVector (cV L) (jV L) : Proc τ).devRef b ∈ ownRefs (τ := τ) (sig := sig) (.scVector (cV L) (jV L)) :=
  SparseCore.Cfg.mem_ownRefs_of_owner (p := Proc.scVector (cV L) (jV L)) h
omit [FloatOps F] in
/-- Different buffers are different. -/
theorem ref_ne {a b : Ref sig .scVector} (h : a ≠ b) : (Proc.scVector (cV L) (jV L) : Proc τ).devRef a ≠ (Proc.scVector (cV L) (jV L)).devRef b :=
  fun e => h (Proc.devRef_injective _ e)

/-- The tile's own semaphores are the five the kernel names, together with the rest. -/
theorem ownSems0_V :
    (ownSems0 (thr d L) : sProp 𝕄)
      = iprop(semVal (thr d L, SemLoc.dma cc0_scoped0.sem) 0 ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0
          ∗ bigSep ((((((ownCells (thr d L)).erase (thr d L, SemLoc.dma cc0_scoped0.sem)).erase (thr d L, SemLoc.dma cc0_scratch6.sem)).erase (thr d L, SemLoc.dma cc0_scratch7.sem)).erase (thr d L, SemLoc.dma cc0_scratch8.sem)).erase (thr d L, SemLoc.dma cc0_scratch9.sem)) fun g => semVal g 0) := by
  unfold SparseCore.Cfg.ownSems0
  rw [SparseCore.bigSep_erase' (own_cell d L (s := cc0_scoped0.sem) (by decide)),
    SparseCore.bigSep_erase' (Finset.mem_erase.mpr ⟨cell_ne d L (by decide), (own_cell d L (s := cc0_scratch6.sem) (by decide))⟩),
    SparseCore.bigSep_erase' (Finset.mem_erase.mpr ⟨cell_ne d L (by decide), (Finset.mem_erase.mpr ⟨cell_ne d L (by decide), (own_cell d L (s := cc0_scratch7.sem) (by decide))⟩)⟩),
    SparseCore.bigSep_erase' (Finset.mem_erase.mpr ⟨cell_ne d L (by decide), (Finset.mem_erase.mpr ⟨cell_ne d L (by decide), (Finset.mem_erase.mpr ⟨cell_ne d L (by decide), (own_cell d L (s := cc0_scratch8.sem) (by decide))⟩)⟩)⟩),
    SparseCore.bigSep_erase' (Finset.mem_erase.mpr ⟨cell_ne d L (by decide), (Finset.mem_erase.mpr ⟨cell_ne d L (by decide), (Finset.mem_erase.mpr ⟨cell_ne d L (by decide), (Finset.mem_erase.mpr ⟨cell_ne d L (by decide), (own_cell d L (s := cc0_scratch9.sem) (by decide))⟩)⟩)⟩)⟩)]

/-- The tile's own buffers are the six scratches, each at some contents, together with the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ref_ne L (by decide), (own_ref L cc0_scratch1 rfl)⟩),
    SparseCore.bigSep_erase' (Finset.mem_erase.mpr ⟨ref_ne L (by decide), (Finset.mem_erase.mpr ⟨ref_ne L (by decide), (own_ref L cc0_scratch2 rfl)⟩)⟩),
    SparseCore.bigSep_erase' (Finset.mem_erase.mpr ⟨ref_ne L (by decide), (Finset.mem_erase.mpr ⟨ref_ne L (by decide), (Finset.mem_erase.mpr ⟨ref_ne L (by decide), (own_ref L cc0_scratch3 rfl)⟩)⟩)⟩),
    SparseCore.bigSep_erase' (Finset.mem_erase.mpr ⟨ref_ne L (by decide), (Finset.mem_erase.mpr ⟨ref_ne L (by decide), (Finset.mem_erase.mpr ⟨ref_ne L (by decide), (Finset.mem_erase.mpr ⟨ref_ne L (by decide), (own_ref L cc0_scratch4 rfl)⟩)⟩)⟩)⟩),
    SparseCore.bigSep_erase' (Finset.mem_erase.mpr ⟨ref_ne L (by decide), (Finset.mem_erase.mpr ⟨ref_ne L (by decide), (Finset.mem_erase.mpr ⟨ref_ne L (by decide), (Finset.mem_erase.mpr ⟨ref_ne L (by decide), (Finset.mem_erase.mpr ⟨ref_ne L (by decide), (own_ref L cc0_scratch5 rfl)⟩)⟩)⟩)⟩)⟩)]

/-- The task of the tile at `L`: its part in, its part with its rows gathered out. -/
theorem tile_body (hF : (K (F := F)).Facts) (O : CellTallies nD τ sig (HIx 1)) (W : Waits sig (HIx 1)) (hO : ∀ g, O g none = 0) :
    iprop(levAts (K (F := F)).L (K (F := F)).lev ∗ emp ∗ part m d (m (oLoc d)) ((L 1).val * 2 + (L 0).val)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__inv_kernel L aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0)
          fun _ => iprop(part m d (gathered m d) ((L 1).val * 2 + (L 0).val)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold part
  iintro ⟨#Hlv, -, ⟨HI, HtA, HtB, HR⟩, ⟨H0, H1, H2, H3, H4, H5, Hbufs⟩, ⟨Hs, HsA, HsB, HwA, HwB, Hsems⟩, HO⟩
  ihave Hown := (show iprop(levAts (K (F := F)).L (K (F := F)).lev ∗ owes (V d (cV L) (jV L)) O W) ⊢ Owes d L O W from by
    unfold Owes
    iintro ⟨H, HO⟩
    isplitl [H]; · iassumption
    iexists W
    isplitr; swap; · iassumption
    ipureintro; exact fun p hp => .inl hp) $$ [HO]
  · isplitr; · iassumption
    iassumption
  ihave Hrun := (tile_run d L (W' := W) (gathered_spec m d) (idx m d) (qi := shareTokN fullShare ((L 1).val * 2 + (L 0).val)) (q' := (shareTokN fullShare ((L 1).val * 2 + (L 0).val)).left)
    (q := (shareTokN fullShare ((L 1).val * 2 + (L 0).val)).right) (list_words m d) (vOf_lt m d) hO) $$ [HI HtA HtB HR H0 H1 H2 H3 H4 H5 Hs HsA HsB HwA HwB Hown]
  · isplitl [HI]; · iassumption
    isplitl [HtA]; · iassumption
    isplitl [HtB]; · iassumption
    isplitl [HR]; · iassumption
    isplitl [Hs]; · iassumption
    isplitl [HsA]; · iassumption
    isplitl [HsB]; · iassumption
    isplitl [HwA]; · iassumption
    isplitl [HwB]; · iassumption
    isplitl [H0]; · iassumption
    isplitl [H1]; · iassumption
    isplitl [H2]; · iassumption
    isplitl [H3]; · iassumption
    isplitl [H4]; · iassumption
    isplitl [H5] <;> iassumption
  unfold run
  iapply (wp_wand _ _ _) $$ Hrun
  iintro %a ⟨HI, HtA, HtB, HR, Hs, HsA, HsB, HwA, HwB, H0, H1, H2, H3, H4, H5, HO⟩
  isplitl [HI HtA HtB HR]
  · isplitl [HI]; · iassumption
    isplitl [HtA]; · iassumption
    isplitl [HtB] <;> iassumption
  isplitl [H0 H1 H2 H3 H4 H5 Hbufs]
  · isplitl [H0]; · iassumption
    isplitl [H1]; · iassumption
    isplitl [H2]; · iassumption
    isplitl [H3]; · iassumption
    isplitl [H4]; · iassumption
    isplitl [H5] <;> iassumption
  isplitl [Hs HsA HsB HwA HwB Hsems]
  · isplitl [Hs]; · iassumption
    isplitl [HsA]; · iassumption
    isplitl [HsB]; · iassumption
    isplitl [HwA]; · iassumption
    isplitl [HwB] <;> iassumption
  unfold Owes
  icases HO with ⟨-, %W', %hW, HO⟩
  iexists W'
  isplitr; swap; · iassumption
  ipureintro
  exact fun p hp => (hW p hp).imp_right .inl

/-- The grid's coordinates of SparseCore `c`'s tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- The body of the call is the kernel at the tile. -/
theorem defs₀_vector (c : Fin τ.nSC) (s : Fin τ.nSub) :
    defs₀ (F := F) (.scVector c s) 0 ()
      = SparseCore.onTile hcore0 hsub0 (fun c s => cc0__inv_kernel (coordsV c s) aI (Memref.isWhole_whole _) aT (Memref.isWhole_whole _) aO (Memref.isWhole_whole _) sI (Memref.isWhole_whole _)
      sU (Memref.isWhole_whole _) sP (Memref.isWhole_whole _) sC (Memref.isWhole_whole _) bA (Memref.isWhole_whole _) bB (Memref.isWhole_whole _)
      cc0_scratch6 cc0_scratch7 cc0_scratch8 cc0_scratch9 cc0_scoped0) ⟨⟩ c s := rfl

/-- Every tile of the call keeps its side. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Tile

set_option maxRecDepth 65536 in
/-- A SparseCore's parts are its tiles' parts. -/
theorem vecSplit : (K (F := F)).VecSplit' (P m) 0 := by
  intro d c
  show parts m d (m (oLoc d)) c.val ⊢ |={Set.univ}=> iprop(parts m d (m (oLoc d)) c.val ∗ (parts m d (gathered m d) c.val -∗ parts m d (gathered m d) c.val))
  iintro H; imodintro
  isplitl [H]; · iexact H
  iintro H; iexact H

/-! ## The arrays dealt to the tiles -/

section Deal

variable (d : Dev nD)

/-- The elements of the rows whose words are in tile `w`'s range; in any tile's. -/
def tileRows (w : ℕ) : Finset S16384x8192.Idx := Finset.univ.filter fun x => w * 256 ≤ vOf m d (x 0).val ∧ vOf m d (x 0).val < w * 256 + 256
/-- The elements of the rows whose words are in any tile's range. -/
def allRows : Finset S16384x8192.Idx := Finset.univ.filter fun x => vOf m d (x 0).val < 8192

set_option maxRecDepth 65536 in
/-- A tile's rows, one by one. -/
theorem tile_rows (f : Buf (Elt F) (oLoc d)) (w : ℕ) :
    (oLoc d ↦[tileRows m d w]{fullShare} f : sProp 𝕄)
      = bigSep (Finset.Ico 0 (total (vOf m d) (w * 256))) fun i => oLoc d ↦[Rows 16384 (row (vOf m d) (w * 256) i)]{fullShare} f := by
  rw [← pointsTo_biUnion (ℓ := oLoc d) (Finset.Ico 0 (total (vOf m d) (w * 256))) (fun i => Rows 16384 (row (vOf m d) (w * 256) i))]
  · congr 1
    ext x
    rw [Finset.mem_biUnion, tileRows, Finset.mem_filter]
    constructor
    · rintro ⟨-, hx⟩
      obtain ⟨i, hi, hr⟩ := row_surj (v := vOf m d) (lo := w * 256) (p := ((x : S16384x8192.Idx) 0).val) ((x : S16384x8192.Idx) 0).isLt hx
      exact ⟨i, Finset.mem_Ico.mpr ⟨Nat.zero_le _, hi⟩, Finset.mem_filter.mpr ⟨Finset.mem_univ _, hr.symm⟩⟩
    · rintro ⟨i, hi, hx⟩
      refine ⟨Finset.mem_univ _, ?_⟩
      have hp := (Finset.mem_filter.mp hx).2
      rw [hp]
      exact row_mine (Finset.mem_Ico.mp hi).2
  · intro i hi k hk hne
    rw [Finset.disjoint_left]
    intro x hx hx'
    have hp := (Finset.mem_filter.mp hx).2
    have hp' := (Finset.mem_filter.mp hx').2
    exact hne (row_inj (Finset.mem_Ico.mp hi).2 (Finset.mem_Ico.mp hk).2 (hp.symm.trans hp'))

set_option maxRecDepth 65536 in
/-- The tiles' rows together. -/
theorem all_rows (f : Buf (Elt F) (oLoc d)) :
    (oLoc d ↦[allRows m d]{fullShare} f : sProp 𝕄) = bigSep (Finset.range 32) fun w => oLoc d ↦[tileRows m d w]{fullShare} f := by
  rw [← pointsTo_biUnion (ℓ := oLoc d) (Finset.range 32) (tileRows m d)]
  · congr 1
    ext x
    rw [Finset.mem_biUnion, allRows, Finset.mem_filter]
    constructor
    · rintro ⟨-, hx⟩
      refine ⟨vOf m d ((x : S16384x8192.Idx) 0).val / 256, Finset.mem_range.mpr (by omega), Finset.mem_filter.mpr ⟨Finset.mem_univ _, ?_⟩⟩
      omega
    · rintro ⟨w, hw, hx⟩
      have hw' := Finset.mem_range.mp hw
      have hp := (Finset.mem_filter.mp hx).2
      exact ⟨Finset.mem_univ _, by omega⟩
  · intro w hw k hk hne
    rw [Finset.disjoint_left]
    intro x hx hx'
    have hp := (Finset.mem_filter.mp hx).2
    have hp' := (Finset.mem_filter.mp hx').2
    omega

/-- What no tile takes: the rest of the shares, and the rows whose words name no row of the table. -/
def rest (f : Buf (Elt F) (oLoc d)) : sProp 𝕄 :=
  iprop((iLoc d ↦{shareDrop fullShare 32} idx m d) ∗ (tLoc d ↦{shareDrop fullShare 32} m (tLoc d)) ∗ oLoc d ↦[Finset.univ \ allRows m d]{fullShare} f)

/-- The tiles' parts, gathered by array. -/
theorem parts_eq (f : Buf (Elt F) (oLoc d)) :
    bigSep (Finset.range 32) (part m d f) = (iprop((bigSep (Finset.range 32) fun w => iLoc d ↦{shareTokN fullShare w} idx m d)
      ∗ (bigSep (Finset.range 32) fun w => tLoc d ↦{(shareTokN fullShare w).left} m (tLoc d)) ∗ (bigSep (Finset.range 32) fun w => tLoc d ↦{(shareTokN fullShare w).right} m (tLoc d))
      ∗ oLoc d ↦[allRows m d]{fullShare} f) : sProp 𝕄) := by
  rw [all_rows, ← bigSep_sep', ← bigSep_sep', ← bigSep_sep']
  refine bigSep_congr fun w _ => ?_
  unfold part
  rw [tile_rows]

/-- The arrays are dealt to the tiles. -/
theorem deal (f : Buf (Elt F) (oLoc d)) :
    (iprop((iLoc d ↦{fullShare} idx m d) ∗ (tLoc d ↦{fullShare} m (tLoc d)) ∗ oLoc d ↦{fullShare} f) : sProp 𝕄)
      ⊢ iprop(bigSep (Finset.range 32) (part m d f) ∗ rest m d f) := by
  rw [parts_eq]; unfold rest
  iintro ⟨HI, HT, HO⟩
  ihave HI := (pointsTo_toks_range fullShare 32).1 $$ HI
  ihave HT := (pointsTo_toks_range fullShare 32).1 $$ HT
  ihave HO := (pointsTo_split_subset (Finset.subset_univ (allRows m d))).1 $$ HO
  icases HI with ⟨HId, HI⟩
  icases HT with ⟨HTd, HT⟩
  icases HO with ⟨HO, HOd⟩
  ihave HT := (show (bigSep (Finset.range 32) fun w => tLoc d ↦{shareTokN fullShare w} m (tLoc d) : sProp 𝕄)
      ⊢ iprop((bigSep (Finset.range 32) fun w => tLoc d ↦{(shareTokN fullShare w).left} m (tLoc d)) ∗ (bigSep (Finset.range 32) fun w => tLoc d ↦{(shareTokN fullShare w).right} m (tLoc d))) from by
    rw [← bigSep_sep']
    exact bigSep_mono fun w _ => (pointsTo_share (PosShare.mem_left_op_right _)).1) $$ HT
  icases HT with ⟨HTl, HTr⟩
  isplitl [HI HTl HTr HO]
  · isplitl [HI]; · iassumption
    isplitl [HTl]; · iassumption
    isplitl [HTr] <;> iassumption
  isplitl [HId]; · iassumption
  isplitl [HTd] <;> iassumption

/-- The tiles' parts joined. -/
theorem undeal (f : Buf (Elt F) (oLoc d)) :
    iprop(bigSep (Finset.range 32) (part m d f) ∗ rest m d f)
      ⊢ (iprop((iLoc d ↦{fullShare} idx m d) ∗ (tLoc d ↦{fullShare} m (tLoc d)) ∗ oLoc d ↦{fullShare} f) : sProp 𝕄) := by
  rw [parts_eq]; unfold rest
  iintro ⟨⟨HI, HTl, HTr, HO⟩, HId, HTd, HOd⟩
  ihave HT := (show iprop((bigSep (Finset.range 32) fun w => tLoc d ↦{(shareTokN fullShare w).left} m (tLoc d)) ∗ (bigSep (Finset.range 32) fun w => tLoc d ↦{(shareTokN fullShare w).right} m (tLoc d)))
      ⊢ (bigSep (Finset.range 32) fun w => tLoc d ↦{shareTokN fullShare w} m (tLoc d) : sProp 𝕄) from by
    rw [← bigSep_sep']
    exact bigSep_mono fun w _ => (pointsTo_share (PosShare.mem_left_op_right _)).2) $$ [HTl HTr]
  · isplitl [HTl] <;> iassumption
  isplitl [HI HId]
  · iapply (pointsTo_toks_range fullShare 32).2
    isplitl [HId] <;> iassumption
  isplitl [HT HTd]
  · iapply (pointsTo_toks_range fullShare 32).2
    isplitl [HTd] <;> iassumption
  iapply (pointsTo_split_subset (Finset.subset_univ (allRows m d))).2
  isplitl [HO] <;> iassumption

/-- The rows no tile takes hold what they are to hold from the start. -/
theorem rest_gathered : rest m d (m (oLoc d)) = rest m d (gathered m d) := by
  unfold rest
  rw [pointsTo_congr (ℓ := oLoc d) (I := Finset.univ \ allRows m d) (f := m (oLoc d)) (g := gathered m d)]
  intro x hx
  refine ((gathered_spec m d).miss x (Nat.not_lt.mp fun h => ?_)).symm
  exact (Finset.mem_sdiff.mp hx).2 (Finset.mem_filter.mpr ⟨Finset.mem_univ _, h⟩)

/-- The two SparseCores' parts are the thirty-two tiles'. -/
theorem cores_eq (f : Buf (Elt F) (oLoc d)) : (bigSep Finset.univ fun c : Fin 2 => parts m d f c.val) = bigSep (Finset.range 32) (part m d f) := by
  rw [show Finset.range 32 = (Finset.univ : Finset (Fin 2)).biUnion (fun c => (Finset.univ : Finset (Fin 16)).image fun i => i.val * 2 + c.val) by decide,
    BI.bigSep_biUnion_eq _ _ _ (by decide)]
  refine bigSep_congr fun c _ => ?_
  unfold parts
  exact (SparseCore.bigSep_image_of_injOn (fun i _ k _ h => Fin.ext (by have : i.val * 2 + c.val = k.val * 2 + c.val := h; omega)) (part m d f)).symm

set_option maxRecDepth 65536 in
/-- The call takes the thirty-two tiles' parts, the result as it was. -/
theorem st0_eq : (bigSep Finset.univ fun c : Fin ((K (F := F)).nCore 0) => (P m).st 0 d c) = bigSep (Finset.range 32) (part m d (m (oLoc d))) := cores_eq m d _
set_option maxRecDepth 65536 in
/-- The call brings back the thirty-two tiles' parts, the result gathered. -/
theorem dn0_eq : (bigSep Finset.univ fun c : Fin ((K (F := F)).nCore 0) => (P m).dn 0 d c) = bigSep (Finset.range 32) (part m d (gathered m d)) := cores_eq m d _

end Deal

/-! ## The launch element -/

/-- The resources at the launch: the handshakes' first rounds and no transfer. -/
def u₀ : UU := (initOf (K (F := F)).hsCells (K (F := F)).hsToks, 1)

/-- Any number of empty resources is empty. -/
theorem bigSep_emp' {I : Type} (s : Finset I) : (bigSep s fun _ => iprop(emp)) = (iprop(emp) : sProp 𝕄) := bigSep_emp_const s

/-- The launch's resources hold the handshakes' first rounds. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

/-- The arrays the program holds, all unscoped. -/
abbrev S5 : Finset (DevRef τ sig) := {g', t', i', o', r'}

omit [FloatOps F] in
/-- The five arrays held are the five arrays, one by one. -/
theorem held_S5 (d : Dev nD) (W : Valuation τ sig (Elt F)) :
    (held (SparseCore.T d) S5 W : sProp 𝕄) = iprop((gLoc d ↦{fullShare} W g') ∗ (tLoc d ↦{fullShare} W t') ∗ (iLoc d ↦{fullShare} W i')
      ∗ (oLoc d ↦{fullShare} W o') ∗ rLoc d ↦{fullShare} W r') := by
  unfold held S5
  rw [SparseCore.bigSep_insert' (by decide), SparseCore.bigSep_insert' (by decide), SparseCore.bigSep_insert' (by decide), SparseCore.bigSep_insert' (by decide), bigSep_singleton]

/-- The arrays at the launch are the five arrays held. -/
theorem unscoped_held (d : Dev nD) : (unscopedBufs d (fun b => m ((SparseCore.T d).loc b)) : sProp 𝕄) = held (SparseCore.T d) S5 (V0 m d) := by
  rw [held_S5]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide), SparseCore.bigSep_insert' (by decide), bigSep_singleton]
  rfl

/-- The first reshape touches only these arrays. -/
theorem hI : (opI (F := F)).bufs ⊆ S5 := show ({g', i'} : Finset (DevRef τ sig)) ⊆ S5 by decide
/-- The last reshape touches only these arrays. -/
theorem hR : (opR (F := F)).bufs ⊆ S5 := show ({o', r'} : Finset (DevRef τ sig)) ⊆ S5 by decide

/-- An array other than the list in one row is untouched by the first reshape; one other than the result, by the last. -/
theorem V1_of_ne (d : Dev nD) {b : DevRef τ sig} (h : b ∉ ({i'} : Finset (DevRef τ sig))) : V1 m d b = m (d, b) := (opI (F := F)).result_of_not_mem (V0 m d) h

/-- The memory after the call, and after the last reshape. -/
def V2 (d : Dev nD) : Valuation τ sig (Elt F) := Function.update (V1 m d) o' (gathered m d)
/-- The memory after the last reshape. -/
def V3 (d : Dev nD) : Valuation τ sig (Elt F) := (opR (F := F)).result (V2 m d)

/-- What the program leaves in the result. -/
def result (d : Dev nD) : Buf (Elt F) (rLoc d) := V3 m d r'

/-- After the call the kernel's array is gathered. -/
theorem V2_o (d : Dev nD) : V2 m d o' = gathered m d := Function.update_self _ _ _
/-- The call changes no other array. -/
theorem V2_of_ne (d : Dev nD) {b : DevRef τ sig} (h : b ≠ o') : V2 m d b = V1 m d b := Function.update_of_ne h _ _
/-- The last reshape changes the result only. -/
theorem V3_of_ne (d : Dev nD) {b : DevRef τ sig} (h : b ∉ ({r'} : Finset (DevRef τ sig))) : V3 m d b = V2 m d b := (opR (F := F)).result_of_not_mem (V2 m d) h

/-- What the program leaves: its arguments as they were, and its result. -/
abbrev FIN (d : Dev nD) : sProp 𝕄 := iprop((gLoc d ↦{fullShare} m (gLoc d)) ∗ (tLoc d ↦{fullShare} m (tLoc d)) ∗ rLoc d ↦{fullShare} result m d)

/-- The arrays after the first reshape. -/
theorem held_V1 (d : Dev nD) :
    (held (SparseCore.T d) S5 ((opI (F := F)).result (V0 m d)) : sProp 𝕄) = iprop((gLoc d ↦{fullShare} m (gLoc d)) ∗ (tLoc d ↦{fullShare} m (tLoc d)) ∗ (iLoc d ↦{fullShare} idx m d)
      ∗ (oLoc d ↦{fullShare} m (oLoc d)) ∗ rLoc d ↦{fullShare} m (rLoc d)) := by
  rw [held_S5]
  show iprop((gLoc d ↦{fullShare} V1 m d g') ∗ (tLoc d ↦{fullShare} V1 m d t') ∗ (iLoc d ↦{fullShare} idx m d)
      ∗ (oLoc d ↦{fullShare} V1 m d o') ∗ rLoc d ↦{fullShare} V1 m d r') = _
  rw [V1_of_ne m d (b := g') (by decide), V1_of_ne m d (b := t') (by decide), V1_of_ne m d (b := o') (by decide), V1_of_ne m d (b := r') (by decide)]

/-- The arrays after the call. -/
theorem held_V2 (d : Dev nD) :
    (held (SparseCore.T d) S5 (V2 m d) : sProp 𝕄) = iprop((gLoc d ↦{fullShare} m (gLoc d)) ∗ (tLoc d ↦{fullShare} m (tLoc d)) ∗ (iLoc d ↦{fullShare} idx m d)
      ∗ (oLoc d ↦{fullShare} gathered m d) ∗ rLoc d ↦{fullShare} m (rLoc d)) := by
  rw [held_S5, V2_o, V2_of_ne m d (b := g') (by decide), V2_of_ne m d (b := t') (by decide), V2_of_ne m d (b := i') (by decide), V2_of_ne m d (b := r') (by decide),
    V1_of_ne m d (b := g') (by decide), V1_of_ne m d (b := t') (by decide), V1_of_ne m d (b := r') (by decide)]
  rfl

/-- The arrays after the last reshape. -/
theorem held_V3 (d : Dev nD) :
    (held (SparseCore.T d) S5 ((opR (F := F)).result (V2 m d)) : sProp 𝕄) = iprop((gLoc d ↦{fullShare} m (gLoc d)) ∗ (tLoc d ↦{fullShare} m (tLoc d)) ∗ (iLoc d ↦{fullShare} V3 m d i')
      ∗ (oLoc d ↦{fullShare} V3 m d o') ∗ rLoc d ↦{fullShare} result m d) := by
  rw [held_S5]
  show iprop((gLoc d ↦{fullShare} V3 m d g') ∗ (tLoc d ↦{fullShare} V3 m d t') ∗ (iLoc d ↦{fullShare} V3 m d i')
      ∗ (oLoc d ↦{fullShare} V3 m d o') ∗ rLoc d ↦{fullShare} result m d) = _
  rw [V3_of_ne m d (b := g') (by decide), V3_of_ne m d (b := t') (by decide), V2_of_ne m d (b := g') (by decide), V2_of_ne m d (b := t') (by decide),
    V1_of_ne m d (b := g') (by decide), V1_of_ne m d (b := t') (by decide)]

/-- The program on device `d`'s TensorCore: the list put in one row, the call, the result put in shape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opI) (S := S5) hI (V := V0 m d)) $$ [Hb Hheld]
  · isplitl [Hb] <;> iassumption
  iintro ⟨Hb, Hheld⟩
  ihave Hh := (Entails.of_eq (held_V1 (F := F) m d)) $$ Hheld
  icases Hh with ⟨Hg, Ht, Hi, Ho, Hr⟩
  ihave Hd := (deal m d (m (oLoc d))) $$ [Ht Hi Ho]
  · isplitl [Hi]; · iassumption
    isplitl [Ht] <;> iassumption
  icases Hd with ⟨Hp, Hrest⟩
  rw [wp_ret]; imodintro
  iapply ((K (F := F)).wp_run (D (F := F)) 𝒱 (EH := EH) (P := P m) κ d 0) $$ [Hst Hp Hrest Hg Hr Hb Hts]
  isplitr; · iexact Hctx
  isplitl [Hst]; · iexact Hst
  isplitl [Hp]
  · rw [st0_eq]; iexact Hp
  iintro ⟨Hst, Hdn⟩
  ihave Hdn' := (Entails.of_eq (dn0_eq m d)) $$ Hdn
  ihave Hrest := (Entails.of_eq (rest_gathered m d)) $$ Hrest
  ihave Hd := (undeal m d (gathered m d)) $$ [Hdn' Hrest]
  · isplitl [Hdn'] <;> iassumption
  icases Hd with ⟨Hi, Ht, Ho⟩
  iapply (wp_hlo_within 𝒱 (SparseCore.T d) none Set.univ (op := opR) (S := S5) hR (V := V2 m d)) $$ [Hb Hg Ht Hi Ho Hr]
  · isplitl [Hb]; · iexact Hb
    iapply (Entails.of_eq (held_V2 (F := F) m d).symm)
    isplitl [Hg]; · iexact Hg
    isplitl [Ht]; · iexact Ht
    isplitl [Hi]; · iexact Hi
    isplitl [Ho]; · iexact Ho
    iexact Hr
  iintro ⟨Hb, Hheld⟩
  ihave Hh := (Entails.of_eq (held_V3 (F := F) m d)) $$ Hheld
  icases Hh with ⟨Hg, Ht, -, -, Hr⟩
  rw [wp_ret]; imodintro; imodintro
  isplitl [Hst]; · iexact Hst
  isplitr [Hb Hts]
  · isplitl [Hg]; · iexact Hg
    isplitl [Ht]; · iexact Ht
    iexact Hr
  isplitl [Hb] <;> iassumption

/-- What a final state of device `d` holds. -/
def fq (d : Dev nD) (s' : Phys nD τ sig (Elt F)) : Prop :=
  s'.mem.mem (gLoc d) = m (gLoc d) ∧ s'.mem.mem (tLoc d) = m (tLoc d) ∧ s'.mem.mem (rLoc d) = result m d

/-- What the program leaves is so in the final state. -/
theorem hfin (d : Dev nD) (s' : Phys nD τ sig (Elt F)) : iprop(FIN m d ∗ SI s') ⊢ (⌜fq m d s'⌝ : sProp 𝕄) := by
  iintro ⟨⟨Hg, Ht, Hr⟩, HSI⟩
  ihave H := (persistent_entails_right (SI_pointsTo_agree (st := s') (ℓ := gLoc d) (I := Finset.univ) (q := fullShare) (f := m (gLoc d)))) $$ [HSI Hg]
  · isplitl [HSI] <;> iassumption
  icases H with ⟨%hg, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := rLoc d) (I := Finset.univ) (q := fullShare) (f := result m d)) $$ [HSI Hr]
  · isplitl [HSI] <;> iassumption
  icases H with %hr
  ipureintro
  exact ⟨funext fun i => hg i (Finset.mem_univ i), funext fun i => ht i (Finset.mem_univ i), funext fun i => hr i (Finset.mem_univ i)⟩

/-! ## The program's run -/

/-- What the program's runs end in: the arguments as they were, the result at `result`, every semaphore at zero. -/
def QC : PUnit × MemSt nD τ sig (Elt F) → Prop := fun r =>
  (∀ c : Dev nD, r.2.mem (gLoc c) = m (gLoc c) ∧ r.2.mem (tLoc c) = m (tLoc c) ∧ r.2.mem (rLoc c) = result m c) ∧ r.2.sem = fun _ => 0

/-- Every run of the program ends, without fault, in such a state; over any float values. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Taken.lean ====
/-
  The reference: what its program computes of a list whose words all name rows of the table, and what the condition on the
  list says of its words.
-/
module

public import proofs.«01_k».proof.Proof.Gen.ReferenceIdeal
public import proofs.«01_k».proof.Proof.Gen.Pre_in_range
public import Idealize.ShloMosaic.Lib.StableHlo.Predicate

@[expose] public section

noncomputable section

namespace Cert.Proof.Ref

open Cert.ReferenceIdeal Cert.ReferenceIdeal.Gen Idealize.ShloMosaic

variable {F : FTy → Type} [FloatOps F]

/-! ## The conjunction of a list of bits -/

/-- Two bits' conjunction is one only when both are. -/
theorem and_one {a b : BitVec 1} (h : IntOp.andi a b = 1#1) : a = 1#1 ∧ b = 1#1 := by
  rcases BitVec.eq_zero_or_eq_one a with rfl | rfl <;> rcases BitVec.eq_zero_or_eq_one b with rfl | rfl <;> revert h <;> decide

/-- The conjunction of bits that are all one is one. -/
theorem fold_one {ι : Type} (f : ι → BitVec 1) (l : List ι) (h : ∀ i ∈ l, f i = 1#1) :
    l.foldl (fun r i => IntOp.andi r (f i)) 1#1 = 1#1 := by
  induction l with
  | nil => rfl
  | cons a l ih =>
    rw [List.foldl_cons, h a List.mem_cons_self]
    exact ih fun i hi => h i (List.mem_cons_of_mem _ hi)

/-- A conjunction that is one is of bits that are all one. -/
theorem of_fold_one {ι : Type} (f : ι → BitVec 1) (l : List ι) (b : BitVec 1)
    (h : l.foldl (fun r i => IntOp.andi r (f i)) b = 1#1) : b = 1#1 ∧ ∀ i ∈ l, f i = 1#1 := by
  induction l generalizing b with
  | nil => exact ⟨h, fun i hi => absurd hi List.not_mem_nil⟩
  | cons a l ih =>
    rw [List.foldl_cons] at h
    obtain ⟨h1, h2⟩ := ih _ h
    refine ⟨(and_one h1).1, fun i hi => ?_⟩
    rcases List.mem_cons.mp hi with rfl | hi
    · exact (and_one h1).2
    · exact h2 i hi

/-! ## The condition on the list -/

/-- A word at least zero and below 8192, read signed, is below 8192 read unsigned. -/
theorem word_lt {w : BitVec 32} (h0 : IntOp.cmpi .sge w 0#32 = 1#1) (h1 : IntOp.cmpi .slt w 8192#32 = 1#1) : w.toNat < 8192 := by
  have h0' : (0#32 : BitVec 32).sle w = true := (StableHlo.Predicate.ofBool_eq_one_iff _).mp h0
  have h1' : w.slt 8192#32 = true := (StableHlo.Predicate.ofBool_eq_one_iff _).mp h1
  rw [BitVec.sle_iff_toInt_le] at h0'
  rw [BitVec.slt_iff_toInt_lt] at h1'
  have e0 : (0#32 : BitVec 32).toInt = 0 := by decide
  have e1 : (8192#32 : BitVec 32).toInt = 8192 := by decide
  rw [e0] at h0'; rw [e1] at h1'
  have := BitVec.toInt_eq_toNat_cond w
  have hw := w.isLt
  split at this <;> omega

/-- The condition on the list: every word of it is below 8192. -/
theorem words_lt {A : IVec S8x2048 32} {B : FVec F S8192x8192 .f32} (h : Cert.Pre_in_range.fn (F := F) A B = fun _ => 1#1) (i : S8x2048.Idx) :
    (A i).toNat < 8192 := by
  have h1 := congrFun h (fun a => a.elim0)
  unfold Cert.Pre_in_range.fn at h1
  simp only [Host.reduce_eq_foldl] at h1
  have h2 := (of_fold_one _ _ _ h1).2 i (List.mem_filter.mpr ⟨List.mem_map.mpr ⟨S8x2048.rowMajor i, List.mem_finRange _, Equiv.symm_apply_apply _ _⟩, ?_⟩)
  · obtain ⟨ha, hb⟩ := and_one h2
    exact word_lt ha hb
  · exact decide_eq_true (funext fun a => a.elim0)

/-! ## The reference's value -/

/-- The list with a negative word counted from the table's end. -/
def wrapped (A : IVec S8x2048 32) : IVec S8x2048 32 :=
  select (cmpi .slt A (broadcastInDim S8x2048 ![] bcast_S_S8x2048 (constantI S_ 32 0#32))) (addi A (broadcastInDim S8x2048 ![] bcast_S_S8x2048 (constantI S_ 32 8192#32))) A

/-- That list, one word to a start index. -/
def starts (A : IVec S8x2048 32) : IVec S8x2048x1 32 := broadcastInDim S8x2048x1 ![0, 1] bcast_S8x2048_S8x2048x1_0_1 (wrapped A)

/-- Which start indices name a row of the table. -/
def inside (A : IVec S8x2048 32) : IVec S8x2048x1 1 :=
  andi (cmpi .sge (starts A) (broadcastInDim S8x2048x1 ![] bcast_S_S8x2048x1 (constantI S_ 32 0#32)))
    (cmpi .sle (starts A) (broadcastInDim S8x2048x1 ![0, 1, 2] bcast_S1x1x1_S8x2048x1_0_1_2 (broadcastInDim S1x1x1 ![2] bcast_S1_S1x1x1_2 (constantI S1 32 8191#32))))

/-- The reference's result: the rows named, and a fixed value where a word names none. -/
def taken (A : IVec S8x2048 32) (B : FVec F S8192x8192 .f32) : FVec F S8x2048x8192 .f32 :=
  select (broadcastInDim S8x2048x8192 ![0, 1] bcast_S8x2048_S8x2048x8192_0_1 (Host.reduce IntOp.andi (inside A) (constantI S_ 1 1#1) reducesTo_S8x2048x1_S8x2048_d2 h_S_))
    (Host.gather gather_S8192x8192_S8x2048x1_S8x2048x8192_2_0_n_n_0_2_18192 B (starts A))
    (broadcastInDim S8x2048x8192 ![] bcast_S_S8x2048x8192 (constant S_ .f32 0x7FC00000#32))

/-- No word of a list in range is counted from the end. -/
theorem wrapped_eq {A : IVec S8x2048 32} (hA : ∀ i, (A i).toNat < 8192) : wrapped A = A := by
  funext i
  refine if_neg fun h => ?_
  have h' := (StableHlo.Predicate.slt_iff_toNat (a := A i) (b := 0#32) (by have := hA i; omega) (by decide)).mp h
  exact absurd h' (Nat.not_lt_zero _)

/-- Every start index of a list in range is below 8192. -/
theorem starts_lt {A : IVec S8x2048 32} (hA : ∀ i, (A i).toNat < 8192) (i : S8x2048x1.Idx) : (starts A i).toNat < 8192 := by
  unfold starts
  rw [wrapped_eq hA]
  exact hA _

/-- Every start index of a list in range names a row. -/
theorem inside_eq {A : IVec S8x2048 32} (hA : ∀ i, (A i).toNat < 8192) (i : S8x2048x1.Idx) : inside A i = 1#1 := by
  have hs := starts_lt hA i
  have h1 : IntOp.cmpi .sge (starts A i) 0#32 = 1#1 := (StableHlo.Predicate.sge_iff_toNat (by omega) (by decide)).mpr (Nat.zero_le _)
  have h2 : IntOp.cmpi .sle (starts A i) 8191#32 = 1#1 := (StableHlo.Predicate.sle_iff_toNat (by omega) (by decide)).mpr (by
    show (starts A i).toNat ≤ 8191; omega)
  show IntOp.andi (IntOp.cmpi .sge (starts A i) 0#32) (IntOp.cmpi .sle (starts A i) 8191#32) = 1#1
  rw [h1, h2]; rfl

/-- The word at which result row `(x 0, x 1)` starts. -/
theorem starts_at {A : IVec S8x2048 32} (hA : ∀ i, (A i).toNat < 8192) (i : S8x2048x1.Idx) (j : S8x2048.Idx) (h0 : (i 0).val = (j 0).val) (h1 : (i 1).val = (j 1).val) :
    starts A i = A j := by
  unfold starts
  rw [wrapped_eq hA]
  refine congrArg A (funext fun a => Fin.ext ?_)
  match a with
  | ⟨0, _⟩ => exact h0
  | ⟨1, _⟩ => exact h1

/-- The reference's gather at `x`: the table's row the word names, at column `x 2`. -/
theorem gather_at {A : IVec S8x2048 32} (hA : ∀ i, (A i).toNat < 8192) (B : FVec F S8192x8192 .f32) (x : S8x2048x8192.Idx)
    (j : S8x2048.Idx) (h0 : (j 0).val = (x 0).val) (h1 : (j 1).val = (x 1).val)
    (y : S8192x8192.Idx) (hy0 : (y 0).val = (A j).toNat) (hy1 : (y 1).val = (x 2).val) :
    Host.gather gather_S8192x8192_S8x2048x1_S8x2048x8192_2_0_n_n_0_2_18192 B (starts A) x = B y := by
  set D := gather_S8192x8192_S8x2048x1_S8x2048x8192_2_0_n_n_0_2_18192 with hD
  unfold Host.gather
  refine congrArg B (funext fun a => Fin.ext ?_)
  show D.start x (starts A) a + D.batchCoord x a + D.offCoord x a = (y a).val
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ D.startIndexMap from List.mem_singleton.mpr rfl)]
    rw [starts_at hA _ j h0.symm h1.symm, hy0, StableHlo.Predicate.toInt_eq_toNat_of_lt (by have := hA j; omega), Int.toNat_natCast]
    have := hA j
    exact Nat.min_eq_left (by show (A j).toNat ≤ 8192 - 1; omega)
  · unfold GatherDims.start
    rw [dif_neg (show ¬ (1 : Fin 2) ∈ D.startIndexMap from fun h => absurd (List.mem_singleton.mp h) (by decide)), Nat.zero_add]
    unfold GatherDims.offCoord
    rw [dif_pos ((GatherDims.mem_sKept _ _).mpr ⟨fun h => absurd (List.mem_singleton.mp h) (by decide), List.not_mem_nil⟩)]
    exact hy1.symm

/-- The reference's result at `x`, of a list in range: the table's row the word names, at column `x 2`. -/
theorem taken_at {A : IVec S8x2048 32} (hA : ∀ i, (A i).toNat < 8192) (B : FVec F S8192x8192 .f32) (x : S8x2048x8192.Idx)
    (j : S8x2048.Idx) (h0 : (j 0).val = (x 0).val) (h1 : (j 1).val = (x 1).val)
    (y : S8192x8192.Idx) (hy0 : (y 0).val = (A j).toNat) (hy1 : (y 1).val = (x 2).val) : taken A B x = B y := by
  have hr : ∀ k : S8x2048.Idx, Host.reduce IntOp.andi (inside A) (constantI S_ 1 1#1) reducesTo_S8x2048x1_S8x2048_d2 h_S_ k = 1#1 := fun k => by
    rw [Host.reduce_eq_foldl]
    generalize List.filter _ _ = l
    exact fold_one (inside A) l fun i _ => inside_eq hA i
  refine Eq.trans ?_ (gather_at hA B x j h0 h1 y hy0 hy1)
  unfold taken select Scalar.select
  generalize Host.gather _ B (starts A) x = z
  refine if_pos ?_
  unfold broadcastInDim
  exact hr _

end Cert.Proof.Ref

end
-- ==== Proof.Value.lean ====
/-
  The value: what the program leaves in its result is the reference's value, of a list whose words all name rows.
-/
module

public import proofs.«01_k».proof.Proof.Launch
public import proofs.«01_k».proof.Proof.Taken

@[expose] public section

noncomputable section

namespace Cert.Proof

open Cert.KernelIdeal Cert.KernelIdeal.Gen
open Idealize.ShloMosaic

variable {F : FTy → Type} [FloatOps F]
variable (m : (ℓ : Loc nD τ sig) → Buf (Elt F) ℓ)

/-- The list in one row is the list, reshaped. -/
theorem idx_eq (d : Dev nD) : (idx m d : S16384.Idx → BitVec 32) = shapeCast S16384 (m (gLoc d) : S8x2048.Idx → BitVec 32) shapeCasts_S8x2048_S16384 := by
  refine (StableHlo.reshape_result (τ := τ) main_arg0 main_v0 (rfl : (.i32 : EltTy) = .i32) shapeCasts_S8x2048_S16384 ⟨by decide, rfl⟩ ⟨by decide, rfl⟩ (V0 m d)).trans ?_
  rfl

/-- The result is the kernel's array, reshaped. -/
theorem result_eq (d : Dev nD) : (result m d : S8x2048x8192.Idx → Elt F .f32)
    = shapeCast S8x2048x8192 (gathered m d : S16384x8192.Idx → Elt F .f32) shapeCasts_S16384x8192_S8x2048x8192 := by
  refine (StableHlo.reshape_result (τ := τ) main_v1 main_v2 (rfl : (.f32 : EltTy) = .f32) shapeCasts_S16384x8192_S8x2048x8192 ⟨by decide, rfl⟩ ⟨by decide, rfl⟩ (V2 m d)).trans ?_
  exact congrArg (fun f : S16384x8192.Idx → Elt F .f32 => shapeCast S8x2048x8192 f shapeCasts_S16384x8192_S8x2048x8192) (V2_o m d)

/-- Word `j` of the list in its rows is word `2048 (j 0) + j 1` of the list in one row. -/
theorem vOf_at (d : Dev nD) (j : S8x2048.Idx) : vOf m d ((j 0).val * 2048 + (j 1).val) = ((m (gLoc d) : S8x2048.Idx → BitVec 32) j).toNat := by
  have h0 : (j 0).val < 8 := (j 0).isLt
  have h1 : (j 1).val < 2048 := (j 1).isLt
  unfold vOf Wd
  rw [dif_pos (show (j 0).val * 2048 + (j 1).val < 16384 by omega), idx_eq]
  refine congrArg BitVec.toNat (congrArg (m (gLoc d) : S8x2048.Idx → BitVec 32) (Shape.reshapeEquiv_eq_of_rowMajor _ ?_))
  show (S8x2048.rowMajor j).val = (S16384.rowMajor _).val
  rw [Shape.rowMajor_val_two, Shape.rowMajor_val_one]
  rfl

/-- The result at `x`, where the list's word names a row: that row of the table, at column `x 2`. -/
theorem result_at (d : Dev nD) (x : S8x2048x8192.Idx) (j : S8x2048.Idx) (h0 : (j 0).val = (x 0).val) (h1 : (j 1).val = (x 1).val)
    (y : S8192x8192.Idx) (hy0 : (y 0).val = ((m (gLoc d) : S8x2048.Idx → BitVec 32) j).toNat) (hy1 : (y 1).val = (x 2).val) :
    (result m d : S8x2048x8192.Idx → Elt F .f32) x = (m (tLoc d) : S8192x8192.Idx → Elt F .f32) y := by
  have b0 : (j 0).val < 8 := (j 0).isLt
  have b1 : (j 1).val < 2048 := (j 1).isLt
  rw [result_eq]
  let z : S16384x8192.Idx := fun
    | 0 => ⟨(j 0).val * 2048 + (j 1).val, show (j 0).val * 2048 + (j 1).val < 16384 by omega⟩
    | 1 => ⟨(x 2).val, (x 2).isLt⟩
  have hz : Shape.reshapeEquiv shapeCasts_S16384x8192_S8x2048x8192 x = z := Shape.reshapeEquiv_eq_of_rowMajor _ (by
    rw [Shape.rowMajor_val_two, Shape.rowMajor_val_three, ← h0, ← h1]
    rfl)
  unfold shapeCast
  rw [hz]
  exact (gathered_spec m d).hit z y (hy0.trans (vOf_at m d j).symm) hy1

/-- The result is the reference's value of the program's arguments, when every word of the list names a row. -/
theorem result_taken (d : Dev nD) (hA : ∀ i, ((m (gLoc d) : S8x2048.Idx → BitVec 32) i).toNat < 8192) :
    (result m d : S8x2048x8192.Idx → Elt F .f32) = Ref.taken (m (gLoc d) : S8x2048.Idx → BitVec 32) (m (tLoc d) : S8192x8192.Idx → Elt F .f32) := by
  funext x
  let j : S8x2048.Idx := fun
    | 0 => ⟨(x 0).val, (x 0).isLt⟩
    | 1 => ⟨(x 1).val, (x 1).isLt⟩
  let y : S8192x8192.Idx := fun
    | 0 => ⟨((m (gLoc d) : S8x2048.Idx → BitVec 32) j).toNat, hA j⟩
    | 1 => ⟨(x 2).val, (x 2).isLt⟩
  exact (result_at m d x j rfl rfl y rfl rfl).trans (Ref.taken_at hA _ x j rfl rfl y rfl rfl).symm

end Cert.Proof

end
-- ==== Proof.lean ====
/-
  The claim: the kernel's run, the reference's run, and their common value.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Value
public import proofs.«01_k».proof.Proof.Gen.Pre_in_range
public import Idealize.ShloMosaic.Adequacy
public import Idealize.ShloMosaic.Init

@[expose] public section

noncomputable section

namespace Cert.Proof

open Idealize.ShloMosaic Idealize.SL.Sem

/-- The kernel over the extended reals ends with its arguments unchanged and every semaphore at zero. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The kernel over the machine's own floats ends with its arguments unchanged and every semaphore at zero. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- The reference over the extended reals ends with its arguments unchanged; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The reference over the machine's own floats ends with its arguments unchanged; it has no semaphore. -/
theorem frame_reference : Cert.quiescent_Reference := fun m ρ _ =>
  (θ_run Cert.Reference.defs _ _).mono (fun r h => ⟨fun c => (h c).2, sem_eq_zero_of_no_sems (by decide) r.2⟩) (Cert.Reference.Value.run (F := Bits) m ρ)

/-- Over the extended reals, of a list whose words all name rows, the kernel's result is the reference's. -/
theorem algebraic : Cert.algebraic_KernelIdeal_ReferenceIdeal_pre_in_range := by
  intro m ρ m' ρ' hpre hagree
  refine ⟨fun c => result (F := Ideal) m c, (θ_run Cert.KernelIdeal.defs _ _).mono (fun _ h c => ⟨(h.1 c).2.2, (h.1 c).1, (h.1 c).2.1⟩) (run_main (F := Ideal) m ρ), ?_⟩
  refine (θ_run Cert.ReferenceIdeal.defs _ _).mono (fun _ h c => ⟨(h c).1.trans ?_, (h c).2⟩) (Cert.ReferenceIdeal.Value.run (F := Ideal) m' ρ')
  obtain ⟨h0, h1⟩ := hagree c
  rw [h0, h1]
  exact (result_taken (F := Ideal) m c (Ref.words_lt (hpre c))).symm

/-- Bit for bit, of a list whose words all name rows, the kernel's result is the reference's. -/
theorem bitexact : Cert.bitexact_Kernel_Reference_pre_in_range := by
  intro m ρ m' ρ' hpre hagree
  refine ⟨fun c => result (F := Bits) m c, (θ_run Cert.KernelIdeal.defs _ _).mono (fun _ h c => ⟨(h.1 c).2.2, (h.1 c).1, (h.1 c).2.1⟩) (run_main (F := Bits) m ρ), ?_⟩
  refine (θ_run Cert.Reference.defs _ _).mono (fun _ h c => ⟨(h c).1.trans ?_, (h c).2⟩) (Cert.Reference.Value.run (F := Bits) m' ρ')
  obtain ⟨h0, h1⟩ := hagree c
  rw [h0, h1]
  exact (result_taken (F := Bits) m c (Ref.words_lt (hpre c))).symm

/-- The claim. -/
theorem claim : Cert.Claim := ⟨Cert.Kernel.Gen.facts, Cert.KernelIdeal.Gen.facts, Cert.Reference.Gen.facts, Cert.ReferenceIdeal.Gen.facts, Cert.Pre_in_range.Gen.facts,
  frame_kernel, fun m ρ _ => frame_kernel m ρ trivial, frame_kernelIdeal, fun m ρ _ => frame_kernelIdeal m ρ trivial,
  frame_reference, fun m ρ _ => frame_reference m ρ trivial, frame_referenceIdeal, fun m ρ _ => frame_referenceIdeal m ρ trivial,
  trivial, algebraic, bitexact⟩

end Cert.Proof

end
